-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_cross_scores [hPre_finite_cross_scores : Cert.Pre_finite_cross_scores.Facts] (m : (ℓ : Loc Cert.MergeIdeal.nD Cert.MergeIdeal.τ Cert.MergeIdeal.sig) → Buf (Elt Ideal) ℓ) : Prop :=
  ∀ c : Dev Cert.MergeIdeal.nD,
    (Cert.Pre_finite_cross_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_cross_scores [hPre_finite_cross_scores : Cert.Pre_finite_cross_scores.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_cross_scores.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_LruProj (m : (ℓ : Loc Cert.LruProj.nD Cert.LruProj.τ Cert.LruProj.sig) → Buf (Elt Bits) ℓ) : Prop :=
  True

def Pre_LruProjIdeal (m : (ℓ : Loc Cert.LruProjIdeal.nD Cert.LruProjIdeal.τ Cert.LruProjIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_LastAdd (m : (ℓ : Loc Cert.LastAdd.nD Cert.LastAdd.τ Cert.LastAdd.sig) → Buf (Elt Bits) ℓ) : Prop :=
  True

def Pre_LastAddIdeal (m : (ℓ : Loc Cert.LastAddIdeal.nD Cert.LastAddIdeal.τ Cert.LastAddIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteReferenceIdeal (m : (ℓ : Loc Cert.RouteReferenceIdeal.nD Cert.RouteReferenceIdeal.τ Cert.RouteReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeIdeal_pre_finite_cross_scores [hMergeIdeal : Cert.MergeIdeal.Facts] [hPre_finite_cross_scores : Cert.Pre_finite_cross_scores.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_cross_scores m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_MergeReferenceIdeal_pre_finite_cross_scores [hMergeReferenceIdeal : Cert.MergeReferenceIdeal.Facts] [hPre_finite_cross_scores : Cert.Pre_finite_cross_scores.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_cross_scores m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1)
      ∧ r.2.mem ((c.tc : Thread Cert.QkvProj.nD Cert.QkvProj.τ).loc Cert.QkvProj.main_arg2) = m ((c.tc : Thread Cert.QkvProj.nD Cert.QkvProj.τ).loc Cert.QkvProj.main_arg2)
      ∧ r.2.mem ((c.tc : Thread Cert.QkvProj.nD Cert.QkvProj.τ).loc Cert.QkvProj.main_arg3) = m ((c.tc : Thread Cert.QkvProj.nD Cert.QkvProj.τ).loc Cert.QkvProj.main_arg3)
      ∧ r.2.mem ((c.tc : Thread Cert.QkvProj.nD Cert.QkvProj.τ).loc Cert.QkvProj.main_arg4) = m ((c.tc : Thread Cert.QkvProj.nD Cert.QkvProj.τ).loc Cert.QkvProj.main_arg4))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
      ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2)
      ∧ r.2.mem ((c.tc : Thread Cert.QkvProjIdeal.nD Cert.QkvProjIdeal.τ).loc Cert.QkvProjIdeal.main_arg3) = m ((c.tc : Thread Cert.QkvProjIdeal.nD Cert.QkvProjIdeal.τ).loc Cert.QkvProjIdeal.main_arg3)
      ∧ r.2.mem ((c.tc : Thread Cert.QkvProjIdeal.nD Cert.QkvProjIdeal.τ).loc Cert.QkvProjIdeal.main_arg4) = m ((c.tc : Thread Cert.QkvProjIdeal.nD Cert.QkvProjIdeal.τ).loc Cert.QkvProjIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_LruProj [hLruProj : Cert.LruProj.Facts] : Prop :=
  ∀ (m : (ℓ : Loc Cert.LruProj.nD Cert.LruProj.τ Cert.LruProj.sig) → Buf (Elt Bits) ℓ) (g : Dev Cert.LruProj.nD → PrngReg), Pre_LruProj m →
    θ_run (Cert.LruProj.defs (F := Bits)) (onTc (τ := Cert.LruProj.τ) (Cert.LruProj.main (F := Bits))) ⟨m, fun _ => 0, g⟩ (fun r => (∀ c : Dev Cert.LruProj.nD,
      r.2.mem ((c.tc : Thread Cert.LruProj.nD Cert.LruProj.τ).loc Cert.LruProj.main_arg0) = m ((c.tc : Thread Cert.LruProj.nD Cert.LruProj.τ).loc Cert.LruProj.main_arg0)
      ∧ r.2.mem ((c.tc : Thread Cert.LruProj.nD Cert.LruProj.τ).loc Cert.LruProj.main_arg1) = m ((c.tc : Thread Cert.LruProj.nD Cert.LruProj.τ).loc Cert.LruProj.main_arg1))
      ∧ r.2.sem = fun _ => 0)

def quiescent_LruProjIdeal [hLruProjIdeal : Cert.LruProjIdeal.Facts] : Prop :=
  ∀ (m : (ℓ : Loc Cert.LruProjIdeal.nD Cert.LruProjIdeal.τ Cert.LruProjIdeal.sig) → Buf (Elt Ideal) ℓ) (g : Dev Cert.LruProjIdeal.nD → PrngReg), Pre_LruProjIdeal m →
    θ_run (Cert.LruProjIdeal.defs (F := Ideal)) (onTc (τ := Cert.LruProjIdeal.τ) (Cert.LruProjIdeal.main (F := Ideal))) ⟨m, fun _ => 0, g⟩ (fun r => (∀ c : Dev Cert.LruProjIdeal.nD,
      r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
      ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_LastAdd [hLastAdd : Cert.LastAdd.Facts] : Prop :=
  ∀ (m : (ℓ : Loc Cert.LastAdd.nD Cert.LastAdd.τ Cert.LastAdd.sig) → Buf (Elt Bits) ℓ) (g : Dev Cert.LastAdd.nD → PrngReg), Pre_LastAdd m →
    θ_run (Cert.LastAdd.defs (F := Bits)) (onTc (τ := Cert.LastAdd.τ) (Cert.LastAdd.main (F := Bits))) ⟨m, fun _ => 0, g⟩ (fun r => (∀ c : Dev Cert.LastAdd.nD,
      r.2.mem ((c.tc : Thread Cert.LastAdd.nD Cert.LastAdd.τ).loc Cert.LastAdd.main_arg0) = m ((c.tc : Thread Cert.LastAdd.nD Cert.LastAdd.τ).loc Cert.LastAdd.main_arg0)
      ∧ r.2.mem ((c.tc : Thread Cert.LastAdd.nD Cert.LastAdd.τ).loc Cert.LastAdd.main_arg1) = m ((c.tc : Thread Cert.LastAdd.nD Cert.LastAdd.τ).loc Cert.LastAdd.main_arg1))
      ∧ r.2.sem = fun _ => 0)

def quiescent_LastAddIdeal [hLastAddIdeal : Cert.LastAddIdeal.Facts] : Prop :=
  ∀ (m : (ℓ : Loc Cert.LastAddIdeal.nD Cert.LastAddIdeal.τ Cert.LastAddIdeal.sig) → Buf (Elt Ideal) ℓ) (g : Dev Cert.LastAddIdeal.nD → PrngReg), Pre_LastAddIdeal m →
    θ_run (Cert.LastAddIdeal.defs (F := Ideal)) (onTc (τ := Cert.LastAddIdeal.τ) (Cert.LastAddIdeal.main (F := Ideal))) ⟨m, fun _ => 0, g⟩ (fun r => (∀ c : Dev Cert.LastAddIdeal.nD,
      r.2.mem ((c.tc : Thread Cert.LastAddIdeal.nD Cert.LastAddIdeal.τ).loc Cert.LastAddIdeal.main_arg0) = m ((c.tc : Thread Cert.LastAddIdeal.nD Cert.LastAddIdeal.τ).loc Cert.LastAddIdeal.main_arg0)
      ∧ r.2.mem ((c.tc : Thread Cert.LastAddIdeal.nD Cert.LastAddIdeal.τ).loc Cert.LastAddIdeal.main_arg1) = m ((c.tc : Thread Cert.LastAddIdeal.nD Cert.LastAddIdeal.τ).loc Cert.LastAddIdeal.main_arg1))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  IdealRules.named_const.Statement Cert.MergeIdeal.κ "inv_sqrt_d" .f32 0x3DB504F3#32 (((Real.sqrt 128)⁻¹ : ℝ) : EReal)

def algebraic_MergeIdeal_MergeReferenceIdeal_pre_finite_cross_scores [hMergeIdeal : Cert.MergeIdeal.Facts] [hMergeReferenceIdeal : Cert.MergeReferenceIdeal.Facts] [hPre_finite_cross_scores : Cert.Pre_finite_cross_scores.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_finite_cross_scores m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v56) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_v17) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_QkvProj_QkvProjIdeal : Prop :=
  True

def algebraic_QkvProjIdeal_QkvReferenceIdeal [hQkvProjIdeal : Cert.QkvProjIdeal.Facts] [hQkvReferenceIdeal : Cert.QkvReferenceIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvProjIdeal m →
    (∀ c : Dev Cert.QkvProjIdeal.nD,
      m' ((c.tc : Thread Cert.QkvReferenceIdeal.nD Cert.QkvReferenceIdeal.τ).loc Cert.QkvReferenceIdeal.main_arg0) = m ((c.tc : Thread Cert.QkvProjIdeal.nD Cert.QkvProjIdeal.τ).loc Cert.QkvProjIdeal.main_arg0)
      ∧ m' ((c.tc : Thread Cert.QkvReferenceIdeal.nD Cert.QkvReferenceIdeal.τ).loc Cert.QkvReferenceIdeal.main_arg1) = m ((c.tc : Thread Cert.QkvProjIdeal.nD Cert.QkvProjIdeal.τ).loc Cert.QkvProjIdeal.main_arg1)
      ∧ m' ((c.tc : Thread Cert.QkvReferenceIdeal.nD Cert.QkvReferenceIdeal.τ).loc Cert.QkvReferenceIdeal.main_arg2) = m ((c.tc : Thread Cert.QkvProjIdeal.nD Cert.QkvProjIdeal.τ).loc Cert.QkvProjIdeal.main_arg2)
      ∧ m' ((c.tc : Thread Cert.QkvReferenceIdeal.nD Cert.QkvReferenceIdeal.τ).loc Cert.QkvReferenceIdeal.main_arg3) = m ((c.tc : Thread Cert.QkvProjIdeal.nD Cert.QkvProjIdeal.τ).loc Cert.QkvProjIdeal.main_arg3)
      ∧ m' ((c.tc : Thread Cert.QkvReferenceIdeal.nD Cert.QkvReferenceIdeal.τ).loc Cert.QkvReferenceIdeal.main_arg4) = m ((c.tc : Thread Cert.QkvProjIdeal.nD Cert.QkvProjIdeal.τ).loc Cert.QkvProjIdeal.main_arg4)) →
    ∃ (v0 : (c : Dev Cert.QkvProjIdeal.nD) → Buf (Elt Ideal) ((c.tc : Thread Cert.QkvProjIdeal.nD Cert.QkvProjIdeal.τ).loc Cert.QkvProjIdeal.main_v22)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v22) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1)
          ∧ r.2.mem ((c.tc : Thread Cert.QkvProjIdeal.nD Cert.QkvProjIdeal.τ).loc Cert.QkvProjIdeal.main_arg2) = m ((c.tc : Thread Cert.QkvProjIdeal.nD Cert.QkvProjIdeal.τ).loc Cert.QkvProjIdeal.main_arg2)
          ∧ r.2.mem ((c.tc : Thread Cert.QkvProjIdeal.nD Cert.QkvProjIdeal.τ).loc Cert.QkvProjIdeal.main_arg3) = m ((c.tc : Thread Cert.QkvProjIdeal.nD Cert.QkvProjIdeal.τ).loc Cert.QkvProjIdeal.main_arg3)
          ∧ r.2.mem ((c.tc : Thread Cert.QkvProjIdeal.nD Cert.QkvProjIdeal.τ).loc Cert.QkvProjIdeal.main_arg4) = m ((c.tc : Thread Cert.QkvProjIdeal.nD Cert.QkvProjIdeal.τ).loc Cert.QkvProjIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v54) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_LruProj_LruProjIdeal : Prop :=
  True

def algebraic_LruProjIdeal_LruReferenceIdeal [hLruProjIdeal : Cert.LruProjIdeal.Facts] [hLruReferenceIdeal : Cert.LruReferenceIdeal.Facts] : Prop :=
  ∀ (m : (ℓ : Loc Cert.LruProjIdeal.nD Cert.LruProjIdeal.τ Cert.LruProjIdeal.sig) → Buf (Elt Ideal) ℓ) (g : Dev Cert.LruProjIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruProjIdeal m →
    (∀ c : Dev Cert.LruProjIdeal.nD,
      m' ((c.tc : Thread Cert.LruReferenceIdeal.nD Cert.LruReferenceIdeal.τ).loc Cert.LruReferenceIdeal.main_arg0) = m ((c.tc : Thread Cert.LruProjIdeal.nD Cert.LruProjIdeal.τ).loc Cert.LruProjIdeal.main_arg0)
      ∧ m' ((c.tc : Thread Cert.LruReferenceIdeal.nD Cert.LruReferenceIdeal.τ).loc Cert.LruReferenceIdeal.main_arg1) = m ((c.tc : Thread Cert.LruProjIdeal.nD Cert.LruProjIdeal.τ).loc Cert.LruProjIdeal.main_arg1)) →
    ∃ (v0 : (c : Dev Cert.LruProjIdeal.nD) → Buf (Elt Ideal) ((c.tc : Thread Cert.LruProjIdeal.nD Cert.LruProjIdeal.τ).loc Cert.LruProjIdeal.main_v9)),
      θ_run (Cert.LruProjIdeal.defs (F := Ideal)) (onTc (τ := Cert.LruProjIdeal.τ) (Cert.LruProjIdeal.main (F := Ideal))) ⟨m, fun _ => 0, g⟩ (fun r => ∀ c : Dev Cert.LruProjIdeal.nD,
          r.2.mem ((c.tc : Thread Cert.LruProjIdeal.nD Cert.LruProjIdeal.τ).loc Cert.LruProjIdeal.main_v9) = v0 c
          ∧ r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
          ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v2) = v0 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1))

def preserves_FirstNorm_FirstNormIdeal : Prop :=
  True

def algebraic_FirstNormIdeal_NormReferenceIdeal [hFirstNormIdeal : Cert.FirstNormIdeal.Facts] [hNormReferenceIdeal : Cert.NormReferenceIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_FirstNormIdeal m →
    (∀ c : Dev Cert.FirstNormIdeal.nD,
      m' ((c.tc : Thread Cert.NormReferenceIdeal.nD Cert.NormReferenceIdeal.τ).loc Cert.NormReferenceIdeal.main_arg0) = m ((c.tc : Thread Cert.FirstNormIdeal.nD Cert.FirstNormIdeal.τ).loc Cert.FirstNormIdeal.main_arg0)
      ∧ m' ((c.tc : Thread Cert.NormReferenceIdeal.nD Cert.NormReferenceIdeal.τ).loc Cert.NormReferenceIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v2)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v2) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MemKv_MemKvIdeal : Prop :=
  True

def algebraic_MemKvIdeal_MemReferenceIdeal [hMemKvIdeal : Cert.MemKvIdeal.Facts] [hMemReferenceIdeal : Cert.MemReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKvIdeal m →
    (∀ c : Dev Cert.MemKvIdeal.nD,
      m' ((c.tc : Thread Cert.MemReferenceIdeal.nD Cert.MemReferenceIdeal.τ).loc Cert.MemReferenceIdeal.main_arg0) = m ((c.tc : Thread Cert.MemKvIdeal.nD Cert.MemKvIdeal.τ).loc Cert.MemKvIdeal.main_arg0)
      ∧ m' ((c.tc : Thread Cert.MemReferenceIdeal.nD Cert.MemReferenceIdeal.τ).loc Cert.MemReferenceIdeal.main_arg1) = m ((c.tc : Thread Cert.MemKvIdeal.nD Cert.MemKvIdeal.τ).loc Cert.MemKvIdeal.main_arg1)
      ∧ m' ((c.tc : Thread Cert.MemReferenceIdeal.nD Cert.MemReferenceIdeal.τ).loc Cert.MemReferenceIdeal.main_arg2) = m ((c.tc : Thread Cert.MemKvIdeal.nD Cert.MemKvIdeal.τ).loc Cert.MemKvIdeal.main_arg2)
      ∧ m' ((c.tc : Thread Cert.MemReferenceIdeal.nD Cert.MemReferenceIdeal.τ).loc Cert.MemReferenceIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v30) = v0 c
          ∧ r.2.mem ((c.tc : Thread Cert.MemReferenceIdeal.nD Cert.MemReferenceIdeal.τ).loc Cert.MemReferenceIdeal.main_v32) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_LastAdd_LastAddIdeal : Prop :=
  True

def algebraic_LastAddIdeal_LastReferenceIdeal [hLastAddIdeal : Cert.LastAddIdeal.Facts] [hLastReferenceIdeal : Cert.LastReferenceIdeal.Facts] : Prop :=
  ∀ (m : (ℓ : Loc Cert.LastAddIdeal.nD Cert.LastAddIdeal.τ Cert.LastAddIdeal.sig) → Buf (Elt Ideal) ℓ) (g : Dev Cert.LastAddIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastAddIdeal m →
    (∀ c : Dev Cert.LastAddIdeal.nD,
      m' ((c.tc : Thread Cert.LastReferenceIdeal.nD Cert.LastReferenceIdeal.τ).loc Cert.LastReferenceIdeal.main_arg0) = m ((c.tc : Thread Cert.LastAddIdeal.nD Cert.LastAddIdeal.τ).loc Cert.LastAddIdeal.main_arg0)
      ∧ m' ((c.tc : Thread Cert.LastReferenceIdeal.nD Cert.LastReferenceIdeal.τ).loc Cert.LastReferenceIdeal.main_arg1) = m ((c.tc : Thread Cert.LastAddIdeal.nD Cert.LastAddIdeal.τ).loc Cert.LastAddIdeal.main_arg1)) →
    ∃ (v0 : (c : Dev Cert.LastAddIdeal.nD) → Buf (Elt Ideal) ((c.tc : Thread Cert.LastAddIdeal.nD Cert.LastAddIdeal.τ).loc Cert.LastAddIdeal.main_v0)),
      θ_run (Cert.LastAddIdeal.defs (F := Ideal)) (onTc (τ := Cert.LastAddIdeal.τ) (Cert.LastAddIdeal.main (F := Ideal))) ⟨m, fun _ => 0, g⟩ (fun r => ∀ c : Dev Cert.LastAddIdeal.nD,
          r.2.mem ((c.tc : Thread Cert.LastAddIdeal.nD Cert.LastAddIdeal.τ).loc Cert.LastAddIdeal.main_v0) = v0 c
          ∧ r.2.mem ((c.tc : Thread Cert.LastAddIdeal.nD Cert.LastAddIdeal.τ).loc Cert.LastAddIdeal.main_arg0) = m ((c.tc : Thread Cert.LastAddIdeal.nD Cert.LastAddIdeal.τ).loc Cert.LastAddIdeal.main_arg0)
          ∧ r.2.mem ((c.tc : Thread Cert.LastAddIdeal.nD Cert.LastAddIdeal.τ).loc Cert.LastAddIdeal.main_arg1) = m ((c.tc : Thread Cert.LastAddIdeal.nD Cert.LastAddIdeal.τ).loc Cert.LastAddIdeal.main_arg1))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v1) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1))

def preserves_Route_RouteIdeal : Prop :=
  True

def algebraic_RouteIdeal_RouteReferenceIdeal [hRouteIdeal : Cert.RouteIdeal.Facts] [hRouteReferenceIdeal : Cert.RouteReferenceIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v36_0)) (v1 : (c : Dev Cert.RouteIdeal.nD) → Buf (Elt Ideal) ((c.tc : Thread Cert.RouteIdeal.nD Cert.RouteIdeal.τ).loc Cert.RouteIdeal.main_v36_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v36_0) = v0 c
          ∧ r.2.mem ((c.tc : Thread Cert.RouteIdeal.nD Cert.RouteIdeal.τ).loc Cert.RouteIdeal.main_v36_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v9) = v0 c
          ∧ r.2.mem ((c.tc : Thread Cert.RouteReferenceIdeal.nD Cert.RouteReferenceIdeal.τ).loc Cert.RouteReferenceIdeal.main_v12) = v1 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutReferenceIdeal : Cert.OutReferenceIdeal.Facts) (hQkvProj : Cert.QkvProj.Facts) (hQkvProjIdeal : Cert.QkvProjIdeal.Facts) (hQkvReferenceIdeal : Cert.QkvReferenceIdeal.Facts) (hLruProj : Cert.LruProj.Facts) (hLruProjIdeal : Cert.LruProjIdeal.Facts) (hLruReferenceIdeal : Cert.LruReferenceIdeal.Facts) (hFirstNorm : Cert.FirstNorm.Facts) (hFirstNormIdeal : Cert.FirstNormIdeal.Facts) (hNormReferenceIdeal : Cert.NormReferenceIdeal.Facts) (hMemKv : Cert.MemKv.Facts) (hMemKvIdeal : Cert.MemKvIdeal.Facts) (hMemReferenceIdeal : Cert.MemReferenceIdeal.Facts) (hLastAdd : Cert.LastAdd.Facts) (hLastAddIdeal : Cert.LastAddIdeal.Facts) (hLastReferenceIdeal : Cert.LastReferenceIdeal.Facts) (hRoute : Cert.Route.Facts) (hRouteIdeal : Cert.RouteIdeal.Facts) (hRouteReferenceIdeal : Cert.RouteReferenceIdeal.Facts) (hPre_finite_scores : Cert.Pre_finite_scores.Facts) (hPre_finite_cross_scores : Cert.Pre_finite_cross_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeIdeal_pre_finite_cross_scores (hMergeIdeal := hMergeIdeal) (hPre_finite_cross_scores := hPre_finite_cross_scores)
    ∧ quiescent_MergeReferenceIdeal (hMergeReferenceIdeal := hMergeReferenceIdeal)
    ∧ quiescent_MergeReferenceIdeal_pre_finite_cross_scores (hMergeReferenceIdeal := hMergeReferenceIdeal) (hPre_finite_cross_scores := hPre_finite_cross_scores)
    ∧ quiescent_OutProj (hOutProj := hOutProj)
    ∧ quiescent_OutProjIdeal (hOutProjIdeal := hOutProjIdeal)
    ∧ quiescent_OutReferenceIdeal (hOutReferenceIdeal := hOutReferenceIdeal)
    ∧ quiescent_QkvProj (hQkvProj := hQkvProj)
    ∧ quiescent_QkvProjIdeal (hQkvProjIdeal := hQkvProjIdeal)
    ∧ quiescent_QkvReferenceIdeal (hQkvReferenceIdeal := hQkvReferenceIdeal)
    ∧ quiescent_LruProj (hLruProj := hLruProj)
    ∧ quiescent_LruProjIdeal (hLruProjIdeal := hLruProjIdeal)
    ∧ quiescent_LruReferenceIdeal (hLruReferenceIdeal := hLruReferenceIdeal)
    ∧ quiescent_FirstNorm (hFirstNorm := hFirstNorm)
    ∧ quiescent_FirstNormIdeal (hFirstNormIdeal := hFirstNormIdeal)
    ∧ quiescent_NormReferenceIdeal (hNormReferenceIdeal := hNormReferenceIdeal)
    ∧ quiescent_MemKv (hMemKv := hMemKv)
    ∧ quiescent_MemKvIdeal (hMemKvIdeal := hMemKvIdeal)
    ∧ quiescent_MemReferenceIdeal (hMemReferenceIdeal := hMemReferenceIdeal)
    ∧ quiescent_LastAdd (hLastAdd := hLastAdd)
    ∧ quiescent_LastAddIdeal (hLastAddIdeal := hLastAddIdeal)
    ∧ quiescent_LastReferenceIdeal (hLastReferenceIdeal := hLastReferenceIdeal)
    ∧ quiescent_Route (hRoute := hRoute)
    ∧ quiescent_RouteIdeal (hRouteIdeal := hRouteIdeal)
    ∧ quiescent_RouteReferenceIdeal (hRouteReferenceIdeal := hRouteReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeReferenceIdeal_pre_finite_cross_scores (hMergeIdeal := hMergeIdeal) (hMergeReferenceIdeal := hMergeReferenceIdeal) (hPre_finite_cross_scores := hPre_finite_cross_scores)
    ∧ preserves_OutProj_OutProjIdeal
    ∧ algebraic_OutProjIdeal_OutReferenceIdeal (hOutProjIdeal := hOutProjIdeal) (hOutReferenceIdeal := hOutReferenceIdeal)
    ∧ preserves_QkvProj_QkvProjIdeal
    ∧ algebraic_QkvProjIdeal_QkvReferenceIdeal (hQkvProjIdeal := hQkvProjIdeal) (hQkvReferenceIdeal := hQkvReferenceIdeal)
    ∧ preserves_LruProj_LruProjIdeal
    ∧ algebraic_LruProjIdeal_LruReferenceIdeal (hLruProjIdeal := hLruProjIdeal) (hLruReferenceIdeal := hLruReferenceIdeal)
    ∧ preserves_FirstNorm_FirstNormIdeal
    ∧ algebraic_FirstNormIdeal_NormReferenceIdeal (hFirstNormIdeal := hFirstNormIdeal) (hNormReferenceIdeal := hNormReferenceIdeal)
    ∧ preserves_MemKv_MemKvIdeal
    ∧ algebraic_MemKvIdeal_MemReferenceIdeal (hMemKvIdeal := hMemKvIdeal) (hMemReferenceIdeal := hMemReferenceIdeal)
    ∧ preserves_LastAdd_LastAddIdeal
    ∧ algebraic_LastAddIdeal_LastReferenceIdeal (hLastAddIdeal := hLastAddIdeal) (hLastReferenceIdeal := hLastReferenceIdeal)
    ∧ preserves_Route_RouteIdeal
    ∧ algebraic_RouteIdeal_RouteReferenceIdeal (hRouteIdeal := hRouteIdeal) (hRouteReferenceIdeal := hRouteReferenceIdeal)
-- ==== Pre_finite_cross_scores.lean ====
abbrev S16384x2048 : Shape := ⟨2, ![16384, 2048]⟩
abbrev S16384x1024 : Shape := ⟨2, ![16384, 1024]⟩
abbrev S16384x512 : Shape := ⟨2, ![16384, 512]⟩
abbrev S16384x3584 : Shape := ⟨2, ![16384, 3584]⟩
abbrev S2x256x512 : Shape := ⟨3, ![2, 256, 512]⟩
abbrev S2048x6144 : Shape := ⟨2, ![2048, 6144]⟩
abbrev S6144 : Shape := ⟨1, ![6144]⟩
abbrev S2048x2048 : Shape := ⟨2, ![2048, 2048]⟩
abbrev S_ : Shape := ⟨0, ![]⟩

class Facts : Prop where
  slices_S16384x3584_S16384x512_0_3072 : S16384x3584.Slices ![0, 3072] S16384x512
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_

variable [Facts]

def fn {F : FTy → Type} [FloatOps F] (main_arg0 : FVec F S16384x2048 .bf16) (main_arg1 : FVec F S16384x1024 .bf16) (main_arg2 : FVec F S16384x512 .bf16) (main_arg3 : FVec F S16384x3584 .bf16) (main_arg4 : FVec F S2x256x512 .bf16) (main_arg5 : FVec F S2x256x512 .bf16) (main_arg6 : FVec F S2048x6144 .f32) (main_arg7 : FVec F S6144 .f32) (main_arg8 : FVec F S2048x2048 .f32) : IVec S_ 1 :=
  let main_v0 : FVec F S16384x512 .bf16 := (extractStridedSlice S16384x512 ![0, 3072] · slices_S16384x3584_S16384x512_0_3072) main_arg3
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_c : IVec S_ 1 := constantI S_ 1 1#1
  let main_v5 : IVec S_ 1 := (fun x v => Host.reduce IntOp.andi x v reducesTo_S16384x512_S_d0_1 h_S_) main_v4 main_c
  let main_v6 : FVec F S2x256x512 .f32 := (extf .f32 · bitsLt_bf16_f32) main_arg4
  let main_v7 : FVec F S2x256x512 .f32 := Host.absf main_v6
  let main_cst_0 : FVec F S_ .f32 := constant S_ .f32 0x7F800000#32
  let main_v8 : FVec F S2x256x512 .f32 := broadcastInDim S2x256x512 ![] bcast_S_S2x256x512 main_cst_0
  let main_v9 : IVec S2x256x512 1 := cmpf .olt main_v7 main_v8
  let main_c_1 : IVec S_ 1 := constantI S_ 1 1#1
  let main_v10 : IVec S_ 1 := (fun x v => Host.reduce IntOp.andi x v reducesTo_S2x256x512_S_d0_1_2 h_S_) main_v9 main_c_1
  let main_v11 : IVec S_ 1 := andi main_v5 main_v10
  main_v11
-- ==== Pre_finite_scores.lean ====
abbrev S16384x3584 : Shape := ⟨2, ![16384, 3584]⟩
abbrev S8x257 : Shape := ⟨2, ![8, 257]⟩
abbrev S16384x2048 : Shape := ⟨2, ![16384, 2048]⟩
abbrev S_ : Shape := ⟨0, ![]⟩

class Facts : Prop where
  slices_S16384x3584_S16384x2048_0_0 : S16384x3584.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S16384x3584 .bf16) (main_arg1 : FVec F S8x257 .f32) : IVec S_ 1 :=
  let main_v0 : FVec F S16384x2048 .bf16 := (extractStridedSlice S16384x2048 ![0, 0] · slices_S16384x3584_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S8x257 .f32 := Host.absf main_arg1
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  main_v10
-- ==== Kernel.lean ====
abbrev S16384x3584 : Shape := ⟨2, ![16384, 3584]⟩
abbrev S8x257 : Shape := ⟨2, ![8, 257]⟩
abbrev S256x768 : Shape := ⟨2, ![256, 768]⟩
abbrev S_ : Shape := ⟨0, ![]⟩
abbrev S8x1 : Shape := ⟨2, ![8, 1]⟩
abbrev S8x640 : Shape := ⟨2, ![8, 640]⟩
abbrev S8x255 : Shape := ⟨2, ![8, 255]⟩
abbrev S8x128 : Shape := ⟨2, ![8, 128]⟩
abbrev S8x1023 : Shape := ⟨2, ![8, 1023]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x768 : Shape := ⟨3, ![1, 256, 768]⟩
abbrev S1x8x256x768 : Shape := ⟨4, ![1, 8, 256, 768]⟩
abbrev S3x8x256x768 : Shape := ⟨4, ![3, 8, 256, 768]⟩
abbrev S16384x1024 : Shape := ⟨2, ![16384, 1024]⟩
abbrev S256x1024 : Shape := ⟨2, ![256, 1024]⟩
abbrev S256x128 : Shape := ⟨2, ![256, 128]⟩
abbrev S256x256 : Shape := ⟨2, ![256, 256]⟩
abbrev S1x1x256x768 : Shape := ⟨4, ![1, 1, 256, 768]⟩
abbrev S256 : Shape := ⟨1, ![256]⟩
abbrev S256x1 : Shape := ⟨2, ![256, 1]⟩

abbrev nBuf : Space → Nat
  | .hbm => 70
  | .vmem => 18
  | .smem => 0
  | _ => 0

abbrev bufTy : (tb : Table) → Fin (tcTables nBuf tb) → BufTy
  | .hbm, ⟨0, _⟩ => ⟨S16384x3584, .bf16⟩
  | .hbm, ⟨1, _⟩ => ⟨S8x257, .f32⟩
  | .hbm, ⟨2, _⟩ => ⟨S256x768, .i32⟩
  | .hbm, ⟨3, _⟩ => ⟨S256x768, .i32⟩
  | .hbm, ⟨4, _⟩ => ⟨S_, .i32⟩
  | .hbm, ⟨5, _⟩ => ⟨S256x768, .i32⟩
  | .hbm, ⟨6, _⟩ => ⟨S256x768, .i32⟩
  | .hbm, ⟨7, _⟩ => ⟨S_, .i32⟩
  | .hbm, ⟨8, _⟩ => ⟨S256x768, .i32⟩
  | .hbm, ⟨9, _⟩ => ⟨S256x768, .i32⟩
  | .hbm, ⟨10, _⟩ => ⟨S_, .i32⟩
  | .hbm, ⟨11, _⟩ => ⟨S256x768, .i32⟩
  | .hbm, ⟨12, _⟩ => ⟨S256x768, .i32⟩
  | .hbm, ⟨13, _⟩ => ⟨S256x768, .i1⟩
  | .hbm, ⟨14, _⟩ => ⟨S_, .i32⟩
  | .hbm, ⟨15, _⟩ => ⟨S256x768, .i32⟩
  | .hbm, ⟨16, _⟩ => ⟨S256x768, .i32⟩
  | .hbm, ⟨17, _⟩ => ⟨S256x768, .i1⟩
  | .hbm, ⟨18, _⟩ => ⟨S256x768, .i1⟩
  | .hbm, ⟨19, _⟩ => ⟨S8x1, .f32⟩
  | .hbm, ⟨20, _⟩ => ⟨S8x640, .f32⟩
  | .hbm, ⟨21, _⟩ => ⟨S8x255, .f32⟩
  | .hbm, ⟨22, _⟩ => ⟨S8x255, .f32⟩
  | .hbm, ⟨23, _⟩ => ⟨S8x1, .f32⟩
  | .hbm, ⟨24, _⟩ => ⟨S8x128, .f32⟩
  | .hbm, ⟨25, _⟩ => ⟨S8x1023, .f32⟩
  | .hbm, ⟨26, _⟩ => ⟨S_, .i32⟩
  | .hbm, ⟨27, _⟩ => ⟨S_, .f32⟩
  | .hbm, ⟨28, _⟩ => ⟨S8x1024, .f32⟩
  | .hbm, ⟨29, _⟩ => ⟨S1x8x1x1024, .f32⟩
  | .hbm, ⟨30, _⟩ => ⟨S1x8x256x1024, .f32⟩
  | .hbm, ⟨31, _⟩ => ⟨S8x262144, .f32⟩
  | .hbm, ⟨32, _⟩ => ⟨S8x261888, .f32⟩
  | .hbm, ⟨33, _⟩ => ⟨S8x256x1023, .f32⟩
  | .hbm, ⟨34, _⟩ => ⟨S8x256x768, .f32⟩
  | .hbm, ⟨35, _⟩ => ⟨S_, .i32⟩
  | .hbm, ⟨36, _⟩ => ⟨S256x768, .i32⟩
  | .hbm, ⟨37, _⟩ => ⟨S256x768, .i1⟩
  | .hbm, ⟨38, _⟩ => ⟨S256x768, .i1⟩
  | .hbm, ⟨39, _⟩ => ⟨S1x256x768, .i1⟩
  | .hbm, ⟨40, _⟩ => ⟨S_, .f32⟩
  | .hbm, ⟨41, _⟩ => ⟨S_, .f32⟩
  | .hbm, ⟨42, _⟩ => ⟨S8x256x768, .i1⟩
  | .hbm, ⟨43, _⟩ => ⟨S8x256x768, .f32⟩
  | .hbm, ⟨44, _⟩ => ⟨S8x256x768, .f32⟩
  | .hbm, ⟨45, _⟩ => ⟨S_, .i32⟩
  | .hbm, ⟨46, _⟩ => ⟨S256x768, .i32⟩
  | .hbm, ⟨47, _⟩ => ⟨S256x768, .i1⟩
  | .hbm, ⟨48, _⟩ => ⟨S256x768, .i1⟩
  | .hbm, ⟨49, _⟩ => ⟨S1x256x768, .i1⟩
  | .hbm, ⟨50, _⟩ => ⟨S_, .f32⟩
  | .hbm, ⟨51, _⟩ => ⟨S_, .f32⟩
  | .hbm, ⟨52, _⟩ => ⟨S8x256x768, .i1⟩
  | .hbm, ⟨53, _⟩ => ⟨S8x256x768, .f32⟩
  | .hbm, ⟨54, _⟩ => ⟨S8x256x768, .f32⟩
  | .hbm, ⟨55, _⟩ => ⟨S_, .i32⟩
  | .hbm, ⟨56, _⟩ => ⟨S256x768, .i32⟩
  | .hbm, ⟨57, _⟩ => ⟨S256x768, .i1⟩
  | .hbm, ⟨58, _⟩ => ⟨S256x768, .i1⟩
  | .hbm, ⟨59, _⟩ => ⟨S1x256x768, .i1⟩
  | .hbm, ⟨60, _⟩ => ⟨S_, .f32⟩
  | .hbm, ⟨61, _⟩ => ⟨S_, .f32⟩
  | .hbm, ⟨62, _⟩ => ⟨S8x256x768, .i1⟩
  | .hbm, ⟨63, _⟩ => ⟨S8x256x768, .f32⟩
  | .hbm, ⟨64, _⟩ => ⟨S8x256x768, .f32⟩
  | .hbm, ⟨65, _⟩ => ⟨S1x8x256x768, .f32⟩
  | .hbm, ⟨66, _⟩ => ⟨S1x8x256x768, .f32⟩
  | .hbm, ⟨67, _⟩ => ⟨S1x8x256x768, .f32⟩
  | .hbm, ⟨68, _⟩ => ⟨S3x8x256x768, .f32⟩
  | .hbm, ⟨69, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x8x256x768, .f32⟩
  | .local _ .vmem, ⟨15, _⟩ => ⟨S1x8x256x768, .f32⟩
  | .local _ .vmem, ⟨16, _⟩ => ⟨S256x1024, .bf16⟩
  | .local _ .vmem, ⟨17, _⟩ => ⟨S256x1024, .bf16⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c1_i32 : BitVec 32 := 1#32
  let c0_i32_0 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c1_i32 : BitVec 32 := 1#32
  let c0_i32_1 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c2_i32_0 : BitVec 32 := 2#32
  let c0_i32_1 : BitVec 32 := 0#32
  ![v3.toNat, c2_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c2_i32 : BitVec 32 := 2#32
  let c0_i32_1 : BitVec 32 := 0#32
  ![v3.toNat, c2_i32.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x3584 : Shape := ⟨2, ![16384, 3584]⟩
abbrev S8x257 : Shape := ⟨2, ![8, 257]⟩
abbrev S16384x1024 : Shape := ⟨2, ![16384, 1024]⟩
abbrev S2x128x64x8x128 : Shape := ⟨5, ![2, 128, 64, 8, 128]⟩
abbrev S_ : Shape := ⟨0, ![]⟩
abbrev S2x136x64x8x128 : Shape := ⟨5, ![2, 136, 64, 8, 128]⟩
abbrev S2x128x576x8x128 : Shape := ⟨5, ![2, 128, 576, 8, 128]⟩
abbrev S2x128x8x64x576 : Shape := ⟨5, ![2, 128, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S1x1x8x64x576 : Shape := ⟨5, ![1, 1, 8, 64, 576]⟩
abbrev S2x128x8x64 : Shape := ⟨4, ![2, 128, 8, 64]⟩
abbrev S2x128x8x64x1 : Shape := ⟨5, ![2, 128, 8, 64, 1]⟩
abbrev S2x128x8x128x64 : Shape := ⟨5, ![2, 128, 8, 128, 64]⟩

abbrev nBuf : Space → Nat
  | .hbm => 104
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S8x257, .f32⟩
  | .hbm, ⟨2, _⟩ => ⟨S16384x3584, .f32⟩
  | .hbm, ⟨3, _⟩ => ⟨S16384x1024, .f32⟩
  | .hbm, ⟨4, _⟩ => ⟨S2x128x64x8x128, .f32⟩
  | .hbm, ⟨5, _⟩ => ⟨S16384x1024, .f32⟩
  | .hbm, ⟨6, _⟩ => ⟨S2x128x64x8x128, .f32⟩
  | .hbm, ⟨7, _⟩ => ⟨S16384x1024, .f32⟩
  | .hbm, ⟨8, _⟩ => ⟨S2x128x64x8x128, .f32⟩
  | .hbm, ⟨9, _⟩ => ⟨S_, .i32⟩
  | .hbm, ⟨10, _⟩ => ⟨S_, .f32⟩
  | .hbm, ⟨11, _⟩ => ⟨S2x136x64x8x128, .f32⟩
  | .hbm, ⟨12, _⟩ => ⟨S_, .i32⟩
  | .hbm, ⟨13, _⟩ => ⟨S_, .f32⟩
  | .hbm, ⟨14, _⟩ => ⟨S2x136x64x8x128, .f32⟩
  | .hbm, ⟨15, _⟩ => ⟨S2x128x64x8x128, .f32⟩
  | .hbm, ⟨16, _⟩ => ⟨S2x128x64x8x128, .f32⟩
  | .hbm, ⟨17, _⟩ => ⟨S2x128x64x8x128, .f32⟩
  | .hbm, ⟨18, _⟩ => ⟨S2x128x64x8x128, .f32⟩
  | .hbm, ⟨19, _⟩ => ⟨S2x128x64x8x128, .f32⟩
  | .hbm, ⟨20, _⟩ => ⟨S2x128x64x8x128, .f32⟩
  | .hbm, ⟨21, _⟩ => ⟨S2x128x64x8x128, .f32⟩
  | .hbm, ⟨22, _⟩ => ⟨S2x128x64x8x128, .f32⟩
  | .hbm, ⟨23, _⟩ => ⟨S2x128x64x8x128, .f32⟩
  | .hbm, ⟨24, _⟩ => ⟨S2x128x576x8x128, .f32⟩
  | .hbm, ⟨25, _⟩ => ⟨S2x128x64x8x128, .f32⟩
  | .hbm, ⟨26, _⟩ => ⟨S2x128x64x8x128, .f32⟩
  | .hbm, ⟨27, _⟩ => ⟨S2x128x64x8x128, .f32⟩
  | .hbm, ⟨28, _⟩ => ⟨S2x128x64x8x128, .f32⟩
  | .hbm, ⟨29, _⟩ => ⟨S2x128x64x8x128, .f32⟩
  | .hbm, ⟨30, _⟩ => ⟨S2x128x64x8x128, .f32⟩
  | .hbm, ⟨31, _⟩ => ⟨S2x128x64x8x128, .f32⟩
  | .hbm, ⟨32, _⟩ => ⟨S2x128x64x8x128, .f32⟩
  | .hbm, ⟨33, _⟩ => ⟨S2x128x64x8x128, .f32⟩
  | .hbm, ⟨34, _⟩ => ⟨S2x128x576x8x128, .f32⟩
  | .hbm, ⟨35, _⟩ => ⟨S2x128x8x64x576, .f32⟩
  | .hbm, ⟨36, _⟩ => ⟨S64, .i32⟩
  | .hbm, ⟨37, _⟩ => ⟨S64x1, .i32⟩
  | .hbm, ⟨38, _⟩ => ⟨S576, .i32⟩
  | .hbm, ⟨39, _⟩ => ⟨S1x576, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S64x576, .i32⟩
  | .hbm, ⟨44, _⟩ => ⟨S64x576, .i32⟩
  | .hbm, ⟨45, _⟩ => ⟨S64x576, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S64x576, .i32⟩
  | .hbm, ⟨50, _⟩ => ⟨S64x576, .i32⟩
  | .hbm, ⟨51, _⟩ => ⟨S_, .i32⟩
  | .hbm, ⟨52, _⟩ => ⟨S64x576, .i32⟩
  | .hbm, ⟨53, _⟩ => ⟨S64x576, .i32⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S64x576, .i32⟩
  | .hbm, ⟨59, _⟩ => ⟨S64x576, .i1⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S64x576, .i32⟩
  | .hbm, ⟨64, _⟩ => ⟨S64x576x1, .i32⟩
  | .hbm, ⟨65, _⟩ => ⟨S8x64x576, .f32⟩
  | .hbm, ⟨66, _⟩ => ⟨S128, .i32⟩
  | .hbm, ⟨67, _⟩ => ⟨S128x1, .i32⟩
  | .hbm, ⟨68, _⟩ => ⟨S_, .i32⟩
  | .hbm, ⟨69, _⟩ => ⟨S1x576, .i32⟩
  | .hbm, ⟨70, _⟩ => ⟨S1x576, .i32⟩
  | .hbm, ⟨71, _⟩ => ⟨S128x576, .i32⟩
  | .hbm, ⟨72, _⟩ => ⟨S128x576, .i32⟩
  | .hbm, ⟨73, _⟩ => ⟨S128x576, .i32⟩
  | .hbm, ⟨74, _⟩ => ⟨S_, .i32⟩
  | .hbm, ⟨75, _⟩ => ⟨S128x576, .i32⟩
  | .hbm, ⟨76, _⟩ => ⟨S128x576, .i1⟩
  | .hbm, ⟨77, _⟩ => ⟨S1x128x1x1x576, .i1⟩
  | .hbm, ⟨78, _⟩ => ⟨S1x1x8x64x576, .f32⟩
  | .hbm, ⟨79, _⟩ => ⟨S2x128x8x64x576, .f32⟩
  | .hbm, ⟨80, _⟩ => ⟨S2x128x8x64x576, .f32⟩
  | .hbm, ⟨81, _⟩ => ⟨S_, .f32⟩
  | .hbm, ⟨82, _⟩ => ⟨S_, .f32⟩
  | .hbm, ⟨83, _⟩ => ⟨S2x128x8x64x576, .i1⟩
  | .hbm, ⟨84, _⟩ => ⟨S2x128x8x64x576, .f32⟩
  | .hbm, ⟨85, _⟩ => ⟨S2x128x8x64x576, .f32⟩
  | .hbm, ⟨86, _⟩ => ⟨S_, .f32⟩
  | .hbm, ⟨87, _⟩ => ⟨S2x128x8x64, .f32⟩
  | .hbm, ⟨88, _⟩ => ⟨S_, .f32⟩
  | .hbm, ⟨89, _⟩ => ⟨S2x128x8x64, .f32⟩
  | .hbm, ⟨90, _⟩ => ⟨S2x128x8x64, .f32⟩
  | .hbm, ⟨91, _⟩ => ⟨S2x128x8x64x1, .f32⟩
  | .hbm, ⟨92, _⟩ => ⟨S2x128x8x64x576, .f32⟩
  | .hbm, ⟨93, _⟩ => ⟨S2x128x8x64x576, .f32⟩
  | .hbm, ⟨94, _⟩ => ⟨S2x128x8x64x576, .f32⟩
  | .hbm, ⟨95, _⟩ => ⟨S_, .f32⟩
  | .hbm, ⟨96, _⟩ => ⟨S2x128x8x64, .f32⟩
  | .hbm, ⟨97, _⟩ => ⟨S2x128x8x64x1, .f32⟩
  | .hbm, ⟨98, _⟩ => ⟨S2x128x8x64x576, .f32⟩
  | .hbm, ⟨99, _⟩ => ⟨S2x128x8x64x576, .f32⟩
  | .hbm, ⟨100, _⟩ => ⟨S2x128x8x128x64, .f32⟩
  | .hbm, ⟨101, _⟩ => ⟨S2x128x64x8x128, .f32⟩
  | .hbm, ⟨102, _⟩ => ⟨S16384x1024, .f32⟩
  | .hbm, ⟨103, _⟩ => ⟨S16384x1024, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_2 : Ref sig .tc := ⟨.hbm, 46, rfl⟩
abbrev main_c_3 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x512 : Shape := ⟨2, ![16384, 512]⟩
abbrev S16384x3584 : Shape := ⟨2, ![16384, 3584]⟩
abbrev S2x256x512 : Shape := ⟨3, ![2, 256, 512]⟩
abbrev S2048x6144 : Shape := ⟨2, ![2048, 6144]⟩
abbrev S6144 : Shape := ⟨1, ![6144]⟩
abbrev S2048x2048 : Shape := ⟨2, ![2048, 2048]⟩
abbrev S3x2048 : Shape := ⟨2, ![3, 2048]⟩
abbrev S1024x2048 : Shape := ⟨2, ![1024, 2048]⟩
abbrev S1024x1024 : Shape := ⟨2, ![1024, 1024]⟩
abbrev S1024x512 : Shape := ⟨2, ![1024, 512]⟩
abbrev S1x256x512 : Shape := ⟨3, ![1, 256, 512]⟩
abbrev S2048x512 : Shape := ⟨2, ![2048, 512]⟩
abbrev S3x512 : Shape := ⟨2, ![3, 512]⟩
abbrev S512x512 : Shape := ⟨2, ![512, 512]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S1x512 : Shape := ⟨2, ![1, 512]⟩

abbrev nBuf : Space → Nat
  | .hbm => 13
  | .vmem => 29
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x512, .bf16⟩
  | .hbm, ⟨3, _⟩ => ⟨S16384x3584, .bf16⟩
  | .hbm, ⟨4, _⟩ => ⟨S2x256x512, .bf16⟩
  | .hbm, ⟨5, _⟩ => ⟨S2x256x512, .bf16⟩
  | .hbm, ⟨6, _⟩ => ⟨S2048x6144, .f32⟩
  | .hbm, ⟨7, _⟩ => ⟨S6144, .f32⟩
  | .hbm, ⟨8, _⟩ => ⟨S2048x2048, .f32⟩
  | .hbm, ⟨9, _⟩ => ⟨S2048x6144, .bf16⟩
  | .hbm, ⟨10, _⟩ => ⟨S3x2048, .f32⟩
  | .hbm, ⟨11, _⟩ => ⟨S2048x2048, .bf16⟩
  | .hbm, ⟨12, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S3x512, .f32⟩
  | .local _ .vmem, ⟨19, _⟩ => ⟨S3x512, .f32⟩
  | .local _ .vmem, ⟨20, _⟩ => ⟨S1024x512, .bf16⟩
  | .local _ .vmem, ⟨21, _⟩ => ⟨S1024x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeIdeal.lean ====
variable {F : FTy → Type} [FloatOps F] [Named F]
def κ : String → Option EReal := fun
  | "inv_sqrt_d" => some (((Real.sqrt 128)⁻¹ : ℝ) : EReal)
  | _ => none
-- ==== MergeReferenceIdeal.lean ====
abbrev S16384x2048 : Shape := ⟨2, ![16384, 2048]⟩
abbrev S16384x1024 : Shape := ⟨2, ![16384, 1024]⟩
abbrev S16384x512 : Shape := ⟨2, ![16384, 512]⟩
abbrev S16384x3584 : Shape := ⟨2, ![16384, 3584]⟩
abbrev S2x256x512 : Shape := ⟨3, ![2, 256, 512]⟩
abbrev S2048x6144 : Shape := ⟨2, ![2048, 6144]⟩
abbrev S6144 : Shape := ⟨1, ![6144]⟩
abbrev S2048x2048 : Shape := ⟨2, ![2048, 2048]⟩
abbrev S2x8192x4x128 : Shape := ⟨4, ![2, 8192, 4, 128]⟩
abbrev S2x256x4x128 : Shape := ⟨4, ![2, 256, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S1024x2048 : Shape := ⟨2, ![1024, 2048]⟩
abbrev S512x2048 : Shape := ⟨2, ![512, 2048]⟩
abbrev S16384x6144 : Shape := ⟨2, ![16384, 6144]⟩
abbrev S1x6144 : Shape := ⟨2, ![1, 6144]⟩
abbrev S16384x3x2048 : Shape := ⟨3, ![16384, 3, 2048]⟩
abbrev S16384x1x2048 : Shape := ⟨3, ![16384, 1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x512, .bf16⟩
  | .hbm, ⟨3, _⟩ => ⟨S16384x3584, .bf16⟩
  | .hbm, ⟨4, _⟩ => ⟨S2x256x512, .bf16⟩
  | .hbm, ⟨5, _⟩ => ⟨S2x256x512, .bf16⟩
  | .hbm, ⟨6, _⟩ => ⟨S2048x6144, .f32⟩
  | .hbm, ⟨7, _⟩ => ⟨S6144, .f32⟩
  | .hbm, ⟨8, _⟩ => ⟨S2048x2048, .f32⟩
  | .hbm, ⟨9, _⟩ => ⟨S16384x512, .bf16⟩
  | .hbm, ⟨10, _⟩ => ⟨S16384x512, .f32⟩
  | .hbm, ⟨11, _⟩ => ⟨S2x8192x4x128, .f32⟩
  | .hbm, ⟨12, _⟩ => ⟨S2x256x512, .f32⟩
  | .hbm, ⟨13, _⟩ => ⟨S2x256x4x128, .f32⟩
  | .hbm, ⟨14, _⟩ => ⟨S2x256x512, .f32⟩
  | .hbm, ⟨15, _⟩ => ⟨S2x256x4x128, .f32⟩
  | .hbm, ⟨16, _⟩ => ⟨S2x4x8192x256, .f32⟩
  | .hbm, ⟨17, _⟩ => ⟨S_, .f32⟩
  | .hbm, ⟨18, _⟩ => ⟨S_, .f32⟩
  | .hbm, ⟨19, _⟩ => ⟨S2x4x8192x256, .f32⟩
  | .hbm, ⟨20, _⟩ => ⟨S2x4x8192x256, .f32⟩
  | .hbm, ⟨21, _⟩ => ⟨S_, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .f32⟩
  | .hbm, ⟨26, _⟩ => ⟨S2x4x8192x1, .f32⟩
  | .hbm, ⟨27, _⟩ => ⟨S2x4x8192x256, .f32⟩
  | .hbm, ⟨28, _⟩ => ⟨S2x4x8192x256, .f32⟩
  | .hbm, ⟨29, _⟩ => ⟨S2x4x8192x256, .f32⟩
  | .hbm, ⟨30, _⟩ => ⟨S_, .f32⟩
  | .hbm, ⟨31, _⟩ => ⟨S2x4x8192, .f32⟩
  | .hbm, ⟨32, _⟩ => ⟨S2x4x8192x1, .f32⟩
  | .hbm, ⟨33, _⟩ => ⟨S2x4x8192x256, .f32⟩
  | .hbm, ⟨34, _⟩ => ⟨S2x4x8192x256, .f32⟩
  | .hbm, ⟨35, _⟩ => ⟨S2x4x128x8192, .f32⟩
  | .hbm, ⟨36, _⟩ => ⟨S2x8192x4x128, .f32⟩
  | .hbm, ⟨37, _⟩ => ⟨S16384x512, .f32⟩
  | .hbm, ⟨38, _⟩ => ⟨S16384x1024, .f32⟩
  | .hbm, ⟨39, _⟩ => ⟨S1024x2048, .f32⟩
  | .hbm, ⟨40, _⟩ => ⟨S16384x2048, .f32⟩
  | .hbm, ⟨41, _⟩ => ⟨S16384x512, .f32⟩
  | .hbm, ⟨42, _⟩ => ⟨S512x2048, .f32⟩
  | .hbm, ⟨43, _⟩ => ⟨S16384x2048, .f32⟩
  | .hbm, ⟨44, _⟩ => ⟨S512x2048, .f32⟩
  | .hbm, ⟨45, _⟩ => ⟨S16384x2048, .f32⟩
  | .hbm, ⟨46, _⟩ => ⟨S16384x2048, .f32⟩
  | .hbm, ⟨47, _⟩ => ⟨S16384x6144, .f32⟩
  | .hbm, ⟨48, _⟩ => ⟨S1x6144, .f32⟩
  | .hbm, ⟨49, _⟩ => ⟨S16384x6144, .f32⟩
  | .hbm, ⟨50, _⟩ => ⟨S16384x6144, .f32⟩
  | .hbm, ⟨51, _⟩ => ⟨S16384x6144, .f32⟩
  | .hbm, ⟨52, _⟩ => ⟨S16384x6144, .f32⟩
  | .hbm, ⟨53, _⟩ => ⟨S_, .f32⟩
  | .hbm, ⟨54, _⟩ => ⟨S16384x6144, .f32⟩
  | .hbm, ⟨55, _⟩ => ⟨S16384x6144, .f32⟩
  | .hbm, ⟨56, _⟩ => ⟨S_, .f32⟩
  | .hbm, ⟨57, _⟩ => ⟨S16384x6144, .f32⟩
  | .hbm, ⟨58, _⟩ => ⟨S16384x6144, .f32⟩
  | .hbm, ⟨59, _⟩ => ⟨S16384x3x2048, .f32⟩
  | .hbm, ⟨60, _⟩ => ⟨S16384x1x2048, .f32⟩
  | .hbm, ⟨61, _⟩ => ⟨S16384x2048, .f32⟩
  | .hbm, ⟨62, _⟩ => ⟨S16384x2048, .f32⟩
  | .hbm, ⟨63, _⟩ => ⟨S16384x1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x1x2048, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .f32⟩
  | .hbm, ⟨7, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S2048x512, .bf16⟩
  | .local _ .vmem, ⟨9, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x16384 : Shape := ⟨2, ![2048, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .bf16⟩
  | .hbm, ⟨24, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== QkvProj.lean ====
abbrev S16384x2048 : Shape := ⟨2, ![16384, 2048]⟩
abbrev S2048x4608 : Shape := ⟨2, ![2048, 4608]⟩
abbrev S128 : Shape := ⟨1, ![128]⟩
abbrev S2048x1024 : Shape := ⟨2, ![2048, 1024]⟩
abbrev S2048x512 : Shape := ⟨2, ![2048, 512]⟩
abbrev S2048x3584 : Shape := ⟨2, ![2048, 3584]⟩
abbrev S_ : Shape := ⟨0, ![]⟩
abbrev S1x128 : Shape := ⟨2, ![1, 128]⟩
abbrev S8x128 : Shape := ⟨2, ![8, 128]⟩
abbrev S1024 : Shape := ⟨1, ![1024]⟩
abbrev S4x128 : Shape := ⟨2, ![4, 128]⟩
abbrev S512 : Shape := ⟨1, ![512]⟩
abbrev S3584 : Shape := ⟨1, ![3584]⟩
abbrev S1x3584 : Shape := ⟨2, ![1, 3584]⟩
abbrev S16384x3584 : Shape := ⟨2, ![16384, 3584]⟩
abbrev S2048x2048 : Shape := ⟨2, ![2048, 2048]⟩
abbrev S1x512 : Shape := ⟨2, ![1, 512]⟩
abbrev S2048x128 : Shape := ⟨2, ![2048, 128]⟩
abbrev S2048 : Shape := ⟨1, ![2048]⟩
abbrev S2048x1 : Shape := ⟨2, ![2048, 1]⟩

abbrev nBuf : Space → Nat
  | .hbm => 30
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x4608, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x3584, .f32⟩
  | .hbm, ⟨12, _⟩ => ⟨S2048x3584, .bf16⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S8x128, .f32⟩
  | .hbm, ⟨18, _⟩ => ⟨S1024, .f32⟩
  | .hbm, ⟨19, _⟩ => ⟨S1x128, .f32⟩
  | .hbm, ⟨20, _⟩ => ⟨S8x128, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1x128, .f32⟩
  | .hbm, ⟨25, _⟩ => ⟨S4x128, .f32⟩
  | .hbm, ⟨26, _⟩ => ⟨S512, .f32⟩
  | .hbm, ⟨27, _⟩ => ⟨S3584, .f32⟩
  | .hbm, ⟨28, _⟩ => ⟨S1x3584, .f32⟩
  | .hbm, ⟨29, _⟩ => ⟨S16384x3584, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c4_i32 : BitVec 32 := 4#32
  let v4 : BitVec 1 := Scalar.cmpi .sge arg1 c4_i32
  let c6_i32 : BitVec 32 := 6#32
  let v5 : BitVec 1 := Scalar.cmpi .slt arg1 c6_i32
  let v6 : BitVec 1 := Scalar.andi v4 v5
  let v_true : BitVec 1 := 1#1
  let v7 : BitVec 1 := Scalar.xori v6 v_true
  let v8 : BitVec 32 := Scalar.extui v7
  let c0_i32 : BitVec 32 := 0#32
  let v9 : BitVec 1 := Scalar.cmpi .ne v8 c0_i32
  v9

def k0_cond2 (i : grid0.Coords) : BitVec 1 :=
  let arg1 : BitVec 32 := BitVec.ofNat 32 (i 1).val
  let c4_i32 : BitVec 32 := 4#32
  let v4 : BitVec 1 := Scalar.cmpi .sge arg1 c4_i32
  let c6_i32 : BitVec 32 := 6#32
  let v5 : BitVec 1 := Scalar.cmpi .slt arg1 c6_i32
  let v6 : BitVec 1 := Scalar.andi v4 v5
  let v10 : BitVec 32 := Scalar.extui v6
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvReferenceIdeal.lean ====
abbrev S16384x2048 : Shape := ⟨2, ![16384, 2048]⟩
abbrev S2048x4608 : Shape := ⟨2, ![2048, 4608]⟩
abbrev S128 : Shape := ⟨1, ![128]⟩
abbrev S16384x4608 : Shape := ⟨2, ![16384, 4608]⟩
abbrev S16384x1024 : Shape := ⟨2, ![16384, 1024]⟩
abbrev S16384x512 : Shape := ⟨2, ![16384, 512]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S16384x4x128 : Shape := ⟨3, ![16384, 4, 128]⟩
abbrev S16384x4 : Shape := ⟨2, ![16384, 4]⟩
abbrev S16384x4x1 : Shape := ⟨3, ![16384, 4, 1]⟩
abbrev S16384x3584 : Shape := ⟨2, ![16384, 3584]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4608, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S16384x2048, .f32⟩
  | .hbm, ⟨6, _⟩ => ⟨S16384x4608, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x512, .f32⟩
  | .hbm, ⟨11, _⟩ => ⟨S16384x8x128, .f32⟩
  | .hbm, ⟨12, _⟩ => ⟨S16384x8x128, .f32⟩
  | .hbm, ⟨13, _⟩ => ⟨S_, .f32⟩
  | .hbm, ⟨14, _⟩ => ⟨S16384x8, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S16384x8x1, .f32⟩
  | .hbm, ⟨23, _⟩ => ⟨S16384x8x128, .f32⟩
  | .hbm, ⟨24, _⟩ => ⟨S16384x8x128, .f32⟩
  | .hbm, ⟨25, _⟩ => ⟨S1x1x128, .f32⟩
  | .hbm, ⟨26, _⟩ => ⟨S16384x8x128, .f32⟩
  | .hbm, ⟨27, _⟩ => ⟨S16384x8x128, .f32⟩
  | .hbm, ⟨28, _⟩ => ⟨S_, .f32⟩
  | .hbm, ⟨29, _⟩ => ⟨S16384x8x128, .f32⟩
  | .hbm, ⟨30, _⟩ => ⟨S16384x8x128, .f32⟩
  | .hbm, ⟨31, _⟩ => ⟨S16384x8x128, .f32⟩
  | .hbm, ⟨32, _⟩ => ⟨S16384x8x128, .f32⟩
  | .hbm, ⟨33, _⟩ => ⟨S_, .f32⟩
  | .hbm, ⟨34, _⟩ => ⟨S16384x8, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S16384x8x1, .f32⟩
  | .hbm, ⟨43, _⟩ => ⟨S16384x8x128, .f32⟩
  | .hbm, ⟨44, _⟩ => ⟨S16384x8x128, .f32⟩
  | .hbm, ⟨45, _⟩ => ⟨S1x1x128, .f32⟩
  | .hbm, ⟨46, _⟩ => ⟨S16384x8x128, .f32⟩
  | .hbm, ⟨47, _⟩ => ⟨S16384x8x128, .f32⟩
  | .hbm, ⟨48, _⟩ => ⟨S16384x4x128, .f32⟩
  | .hbm, ⟨49, _⟩ => ⟨S16384x4x128, .f32⟩
  | .hbm, ⟨50, _⟩ => ⟨S_, .f32⟩
  | .hbm, ⟨51, _⟩ => ⟨S16384x4, .f32⟩
  | .hbm, ⟨52, _⟩ => ⟨S16384x4x1, .f32⟩
  | .hbm, ⟨53, _⟩ => ⟨S_, .f32⟩
  | .hbm, ⟨54, _⟩ => ⟨S16384x4x1, .f32⟩
  | .hbm, ⟨55, _⟩ => ⟨S16384x4x1, .f32⟩
  | .hbm, ⟨56, _⟩ => ⟨S_, .f32⟩
  | .hbm, ⟨57, _⟩ => ⟨S16384x4x1, .f32⟩
  | .hbm, ⟨58, _⟩ => ⟨S16384x4x1, .f32⟩
  | .hbm, ⟨59, _⟩ => ⟨S16384x4x1, .f32⟩
  | .hbm, ⟨60, _⟩ => ⟨S16384x4x128, .f32⟩
  | .hbm, ⟨61, _⟩ => ⟨S16384x4x128, .f32⟩
  | .hbm, ⟨62, _⟩ => ⟨S1x1x128, .f32⟩
  | .hbm, ⟨63, _⟩ => ⟨S16384x4x128, .f32⟩
  | .hbm, ⟨64, _⟩ => ⟨S16384x4x128, .f32⟩
  | .hbm, ⟨65, _⟩ => ⟨S16384x1024, .f32⟩
  | .hbm, ⟨66, _⟩ => ⟨S16384x1024, .f32⟩
  | .hbm, ⟨67, _⟩ => ⟨S16384x512, .f32⟩
  | .hbm, ⟨68, _⟩ => ⟨S16384x3584, .f32⟩
  | .hbm, ⟨69, _⟩ => ⟨S16384x3584, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== LruProj.lean ====
abbrev S16384x2048 : Shape := ⟨2, ![16384, 2048]⟩
abbrev S2048x4608 : Shape := ⟨2, ![2048, 4608]⟩
abbrev S2048x1024 : Shape := ⟨2, ![2048, 1024]⟩
abbrev S2048x512 : Shape := ⟨2, ![2048, 512]⟩
abbrev S_ : Shape := ⟨0, ![]⟩
abbrev S1x1024 : Shape := ⟨2, ![1, 1024]⟩
abbrev S16384x1024 : Shape := ⟨2, ![16384, 1024]⟩
abbrev S2048x2048 : Shape := ⟨2, ![2048, 2048]⟩
abbrev S1x512 : Shape := ⟨2, ![1, 512]⟩
abbrev S2048x128 : Shape := ⟨2, ![2048, 128]⟩
abbrev S2048 : Shape := ⟨1, ![2048]⟩
abbrev S2048x1 : Shape := ⟨2, ![2048, 1]⟩
abbrev S1x128 : Shape := ⟨2, ![1, 128]⟩

abbrev nBuf : Space → Nat
  | .hbm => 13
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x4608, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x1024, .f32⟩
  | .hbm, ⟨9, _⟩ => ⟨S2048x1024, .bf16⟩
  | .hbm, ⟨10, _⟩ => ⟨S_, .f32⟩
  | .hbm, ⟨11, _⟩ => ⟨S1x1024, .f32⟩
  | .hbm, ⟨12, _⟩ => ⟨S16384x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v4 : BitVec 1 := Scalar.cmpi .sge arg1 c0_i32
  let c2_i32 : BitVec 32 := 2#32
  let v5 : BitVec 1 := Scalar.cmpi .slt arg1 c2_i32
  let v6 : BitVec 1 := Scalar.andi v4 v5
  let v_true : BitVec 1 := 1#1
  let v7 : BitVec 1 := Scalar.xori v6 v_true
  let v8 : BitVec 32 := Scalar.extui v7
  let c0_i32_3 : BitVec 32 := 0#32
  let v9 : BitVec 1 := Scalar.cmpi .ne v8 c0_i32_3
  v9

def k0_cond2 (i : grid0.Coords) : BitVec 1 :=
  let arg1 : BitVec 32 := BitVec.ofNat 32 (i 1).val
  let c0_i32 : BitVec 32 := 0#32
  let v4 : BitVec 1 := Scalar.cmpi .sge arg1 c0_i32
  let c2_i32 : BitVec 32 := 2#32
  let v5 : BitVec 1 := Scalar.cmpi .slt arg1 c2_i32
  let v6 : BitVec 1 := Scalar.andi v4 v5
  let v10 : BitVec 32 := Scalar.extui v6
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruReferenceIdeal.lean ====
abbrev S16384x2048 : Shape := ⟨2, ![16384, 2048]⟩
abbrev S2048x4608 : Shape := ⟨2, ![2048, 4608]⟩
abbrev S16384x4608 : Shape := ⟨2, ![16384, 4608]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4608, .f32⟩
  | .hbm, ⟨2, _⟩ => ⟨S16384x2048, .f32⟩
  | .hbm, ⟨3, _⟩ => ⟨S16384x4608, .f32⟩
  | .hbm, ⟨4, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FirstNorm.lean ====
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S1x1x2048, .f32⟩
  | .hbm, ⟨16, _⟩ => ⟨S2x8192x2048, .f32⟩
  | .hbm, ⟨17, _⟩ => ⟨S2x8192x2048, .f32⟩
  | .hbm, ⟨18, _⟩ => ⟨S16384x2048, .f32⟩
  | .hbm, ⟨19, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemKv.lean ====
abbrev S2x256x2048 : Shape := ⟨3, ![2, 256, 2048]⟩
abbrev S2048 : Shape := ⟨1, ![2048]⟩
abbrev S2048x1024 : Shape := ⟨2, ![2048, 1024]⟩
abbrev S128 : Shape := ⟨1, ![128]⟩
abbrev S1x2048 : Shape := ⟨2, ![1, 2048]⟩
abbrev S1x128 : Shape := ⟨2, ![1, 128]⟩
abbrev S2x256x512 : Shape := ⟨3, ![2, 256, 512]⟩
abbrev S1x256x2048 : Shape := ⟨3, ![1, 256, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S2048x1024, .bf16⟩
  | .hbm, ⟨5, _⟩ => ⟨S1x2048, .f32⟩
  | .hbm, ⟨6, _⟩ => ⟨S1x128, .f32⟩
  | .hbm, ⟨7, _⟩ => ⟨S2x256x512, .bf16⟩
  | .hbm, ⟨8, _⟩ => ⟨S2x256x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemReferenceIdeal.lean ====
abbrev S2x256x2048 : Shape := ⟨3, ![2, 256, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S1x1x1x128 : Shape := ⟨4, ![1, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2x256x1024, .f32⟩
  | .hbm, ⟨21, _⟩ => ⟨S2x256x512, .f32⟩
  | .hbm, ⟨22, _⟩ => ⟨S2x256x4x128, .f32⟩
  | .hbm, ⟨23, _⟩ => ⟨S2x256x4x128, .f32⟩
  | .hbm, ⟨24, _⟩ => ⟨S_, .f32⟩
  | .hbm, ⟨25, _⟩ => ⟨S2x256x4, .f32⟩
  | .hbm, ⟨26, _⟩ => ⟨S2x256x4x1, .f32⟩
  | .hbm, ⟨27, _⟩ => ⟨S_, .f32⟩
  | .hbm, ⟨28, _⟩ => ⟨S2x256x4x1, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S2x256x4x1, .f32⟩
  | .hbm, ⟨34, _⟩ => ⟨S2x256x4x128, .f32⟩
  | .hbm, ⟨35, _⟩ => ⟨S2x256x4x128, .f32⟩
  | .hbm, ⟨36, _⟩ => ⟨S1x1x1x128, .f32⟩
  | .hbm, ⟨37, _⟩ => ⟨S2x256x4x128, .f32⟩
  | .hbm, ⟨38, _⟩ => ⟨S2x256x4x128, .f32⟩
  | .hbm, ⟨39, _⟩ => ⟨S2x256x512, .f32⟩
  | .hbm, ⟨40, _⟩ => ⟨S2x256x512, .bf16⟩
  | .hbm, ⟨41, _⟩ => ⟨S2x256x512, .f32⟩
  | .hbm, ⟨42, _⟩ => ⟨S2x256x512, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== LastAdd.lean ====
abbrev S16384x2048 : Shape := ⟨2, ![16384, 2048]⟩
abbrev S2048x16384 : Shape := ⟨2, ![2048, 16384]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastReferenceIdeal.lean ====
abbrev S16384x2048 : Shape := ⟨2, ![16384, 2048]⟩
abbrev S2048x16384 : Shape := ⟨2, ![2048, 16384]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S16384x2048, .f32⟩
  | .hbm, ⟨3, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Route.lean ====
abbrev S2048x16384 : Shape := ⟨2, ![2048, 16384]⟩
abbrev S2048x2048 : Shape := ⟨2, ![2048, 2048]⟩
abbrev S8x2x128x128 : Shape := ⟨4, ![8, 2, 128, 128]⟩
abbrev S2048x8x2x128 : Shape := ⟨4, ![2048, 8, 2, 128]⟩
abbrev S2x8x128x2048 : Shape := ⟨4, ![2, 8, 128, 2048]⟩
abbrev S8x1x128x128 : Shape := ⟨4, ![8, 1, 128, 128]⟩
abbrev S8x128x128 : Shape := ⟨3, ![8, 128, 128]⟩
abbrev S8x8 : Shape := ⟨2, ![8, 8]⟩
abbrev S_ : Shape := ⟨0, ![]⟩
abbrev S128x8x128 : Shape := ⟨3, ![128, 8, 128]⟩
abbrev S128x8x1x128 : Shape := ⟨4, ![128, 8, 1, 128]⟩
abbrev S1x8x8x1 : Shape := ⟨4, ![1, 8, 8, 1]⟩
abbrev S128x8x8x128 : Shape := ⟨4, ![128, 8, 8, 128]⟩
abbrev S1024x1024 : Shape := ⟨2, ![1024, 1024]⟩
abbrev S1024x16384 : Shape := ⟨2, ![1024, 16384]⟩
abbrev S8x128x16384 : Shape := ⟨3, ![8, 128, 16384]⟩
abbrev S4x8x16384 : Shape := ⟨3, ![4, 8, 16384]⟩
abbrev S2048x512 : Shape := ⟨2, ![2048, 512]⟩
abbrev S1024x512 : Shape := ⟨2, ![1024, 512]⟩
abbrev S8x128x512 : Shape := ⟨3, ![8, 128, 512]⟩
abbrev S4x8x512 : Shape := ⟨3, ![4, 8, 512]⟩
abbrev S1024x128 : Shape := ⟨2, ![1024, 128]⟩
abbrev S128x128 : Shape := ⟨2, ![128, 128]⟩
abbrev S1x128x128 : Shape := ⟨3, ![1, 128, 128]⟩
abbrev S1024x256 : Shape := ⟨2, ![1024, 256]⟩
abbrev S128x8x256 : Shape := ⟨3, ![128, 8, 256]⟩
abbrev S1x8x256 : Shape := ⟨3, ![1, 8, 256]⟩
abbrev S8x256 : Shape := ⟨2, ![8, 256]⟩

abbrev nBuf : Space → Nat
  | .hbm => 44
  | .vmem => 13
  | .smem => 0
  | _ => 0

abbrev bufTy : (tb : Table) → Fin (tcTables nBuf tb) → BufTy
  | .hbm, ⟨0, _⟩ => ⟨S2048x16384, .bf16⟩
  | .hbm, ⟨1, _⟩ => ⟨S2048x2048, .f32⟩
  | .hbm, ⟨2, _⟩ => ⟨S8x2x128x128, .f32⟩
  | .hbm, ⟨3, _⟩ => ⟨S2048x8x2x128, .f32⟩
  | .hbm, ⟨4, _⟩ => ⟨S2x8x128x2048, .f32⟩
  | .hbm, ⟨5, _⟩ => ⟨S2048x2048, .f32⟩
  | .hbm, ⟨6, _⟩ => ⟨S2048x2048, .bf16⟩
  | .hbm, ⟨7, _⟩ => ⟨S8x1x128x128, .f32⟩
  | .hbm, ⟨8, _⟩ => ⟨S8x128x128, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S128x8x128, .f32⟩
  | .hbm, ⟨17, _⟩ => ⟨S128x8x1x128, .f32⟩
  | .hbm, ⟨18, _⟩ => ⟨S1x8x8x1, .f32⟩
  | .hbm, ⟨19, _⟩ => ⟨S128x8x8x128, .f32⟩
  | .hbm, ⟨20, _⟩ => ⟨S128x8x8x128, .f32⟩
  | .hbm, ⟨21, _⟩ => ⟨S128x8x8x128, .f32⟩
  | .hbm, ⟨22, _⟩ => ⟨S1024x1024, .f32⟩
  | .hbm, ⟨23, _⟩ => ⟨S1024x1024, .bf16⟩
  | .hbm, ⟨24, _⟩ => ⟨S8x1x128x128, .f32⟩
  | .hbm, ⟨25, _⟩ => ⟨S8x128x128, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S128x8x128, .f32⟩
  | .hbm, ⟨34, _⟩ => ⟨S128x8x1x128, .f32⟩
  | .hbm, ⟨35, _⟩ => ⟨S1x8x8x1, .f32⟩
  | .hbm, ⟨36, _⟩ => ⟨S128x8x8x128, .f32⟩
  | .hbm, ⟨37, _⟩ => ⟨S128x8x8x128, .f32⟩
  | .hbm, ⟨38, _⟩ => ⟨S128x8x8x128, .f32⟩
  | .hbm, ⟨39, _⟩ => ⟨S1024x1024, .f32⟩
  | .hbm, ⟨40, _⟩ => ⟨S1024x1024, .bf16⟩
  | .hbm, ⟨41, _⟩ => ⟨S1024x16384, .f32⟩
  | .hbm, ⟨42, _⟩ => ⟨S8x128x16384, .f32⟩
  | .hbm, ⟨43, _⟩ => ⟨S4x8x16384, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .f32⟩
  | .local _ .vmem, ⟨6, _⟩ => ⟨S1024x512, .f32⟩
  | .local _ .vmem, ⟨7, _⟩ => ⟨S8x128x512, .f32⟩
  | .local _ .vmem, ⟨8, _⟩ => ⟨S8x128x512, .f32⟩
  | .local _ .vmem, ⟨9, _⟩ => ⟨S4x8x512, .f32⟩
  | .local _ .vmem, ⟨10, _⟩ => ⟨S4x8x512, .f32⟩
  | .local _ .vmem, ⟨11, _⟩ => ⟨S1024x512, .f32⟩
  | .local _ .vmem, ⟨12, _⟩ => ⟨S1024x128, .f32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36_0 : Ref sig .tc := ⟨.hbm, 41, rfl⟩
abbrev main_v36_1 : Ref sig .tc := ⟨.hbm, 42, rfl⟩
abbrev main_v36_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v18 : BitVec 32 := Scalar.addi c0_i32 c2_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let c0_i32_14 : BitVec 32 := 0#32
  let v20 : BitVec 32 := Scalar.addi v19 c0_i32_14
  v20
def k0_off1 (k0_t1 : Fin k0_t1_loop.trips) (c0_i32_14 : BitVec 32) : Fin 2 → Nat :=
  let c0_15 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v22 : Index := Scalar.indexCast v21
  ![0, v22.toNat]
def k0_off2 (k0_t1 : Fin k0_t1_loop.trips) (c0_i32_14 : BitVec 32) : Fin 3 → Nat :=
  let c0_20 : Index := 0#32
  let c0_21 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v28 : Index := Scalar.indexCast v21
  ![0, 0, v28.toNat]
def k0_off3 (k0_t1 : Fin k0_t1_loop.trips) (c0_i32_14 : BitVec 32) : Fin 3 → Nat :=
  let c1_23 : Index := 1#32
  let c0_24 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v33 : Index := Scalar.indexCast v21
  ![1, 0, v33.toNat]
def k0_off4 (k0_t1 : Fin k0_t1_loop.trips) (c0_i32_14 : BitVec 32) : Fin 3 → Nat :=
  let c2_26 : Index := 2#32
  let c0_27 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v38 : Index := Scalar.indexCast v21
  ![2, 0, v38.toNat]
def k0_off5 (k0_t1 : Fin k0_t1_loop.trips) (c0_i32_14 : BitVec 32) : Fin 3 → Nat :=
  let c3_29 : Index := 3#32
  let c0_30 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v43 : Index := Scalar.indexCast v21
  ![3, 0, v43.toNat]
def k0_off6 (k0_t1 : Fin k0_t1_loop.trips) (c0_i32_14 : BitVec 32) : Fin 3 → Nat :=
  let c4_32 : Index := 4#32
  let c0_33 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v48 : Index := Scalar.indexCast v21
  ![4, 0, v48.toNat]
def k0_off7 (k0_t1 : Fin k0_t1_loop.trips) (c0_i32_14 : BitVec 32) : Fin 3 → Nat :=
  let c5_35 : Index := 5#32
  let c0_36 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v53 : Index := Scalar.indexCast v21
  ![5, 0, v53.toNat]
def k0_off8 (k0_t1 : Fin k0_t1_loop.trips) (c0_i32_14 : BitVec 32) : Fin 3 → Nat :=
  let c6_38 : Index := 6#32
  let c0_39 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v58 : Index := Scalar.indexCast v21
  ![6, 0, v58.toNat]
def k0_off9 (k0_t1 : Fin k0_t1_loop.trips) (c0_i32_14 : BitVec 32) : Fin 3 → Nat :=
  let c7_41 : Index := 7#32
  let c0_42 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : BitVec 32 := Scalar.addi v19 c0_i32_14
  let v21 : BitVec 32 := v20
  let v63 : Index := Scalar.indexCast v21
  ![7, 0, v63.toNat]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_43 : BitVec 32 := 256#32
  let v67 : BitVec 32 := Scalar.muli arg10 c256_i32_43
  let c128_i32 : BitVec 32 := 128#32
  let v68 : BitVec 32 := Scalar.addi v67 c128_i32
  v68
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_79 : BitVec 32 := 256#32
  let v115 : BitVec 32 := Scalar.muli arg10 c256_i32_79
  v115
def k0_off10 (k0_t1 : Fin k0_t1_loop.trips) : Fin 2 → Nat :=
  let c0_80 : Index := 0#32
  let c0_i32 : BitVec 32 := 0#32
  let c1_i32 : BitVec 32 := 1#32
  let arg10 : BitVec 32 := Scf.iv c0_i32 c1_i32 k0_t1
  let c256_i32_79 : BitVec 32 := 256#32
  let v115 : BitVec 32 := Scalar.muli arg10 c256_i32_79
  let v116 : BitVec 32 := v115
  let v117 : Index := Scalar.indexCast v116
  ![0, v117.toNat]
def k0_off11 (k0_t1 : Fin k0_t1_loop.trips) : Fin 3 → Nat :=
  let c0_135 : Index := 0#32
  let c0_136 : Index := 0#32
  let c0_i32 : BitVec 32 := 0#32
  let c1_i32 : BitVec 32 := 1#32
  let arg10 : BitVec 32 := Scf.iv c0_i32 c1_i32 k0_t1
  let c256_i32_79 : BitVec 32 := 256#32
  let v115 : BitVec 32 := Scalar.muli arg10 c256_i32_79
  let v116 : BitVec 32 := v115
  let v5973 : Index := Scalar.indexCast v116
  ![0, 0, v5973.toNat]
def k0_off12 (k0_t1 : Fin k0_t1_loop.trips) : Fin 3 → Nat :=
  let c1_137 : Index := 1#32
  let c0_138 : Index := 0#32
  let c0_i32 : BitVec 32 := 0#32
  let c1_i32 : BitVec 32 := 1#32
  let arg10 : BitVec 32 := Scf.iv c0_i32 c1_i32 k0_t1
  let c256_i32_79 : BitVec 32 := 256#32
  let v115 : BitVec 32 := Scalar.muli arg10 c256_i32_79
  let v116 : BitVec 32 := v115
  let v5977 : Index := Scalar.indexCast v116
  ![1, 0, v5977.toNat]
def k0_off13 (k0_t1 : Fin k0_t1_loop.trips) : Fin 3 → Nat :=
  let c2_139 : Index := 2#32
  let c0_140 : Index := 0#32
  let c0_i32 : BitVec 32 := 0#32
  let c1_i32 : BitVec 32 := 1#32
  let arg10 : BitVec 32 := Scf.iv c0_i32 c1_i32 k0_t1
  let c256_i32_79 : BitVec 32 := 256#32
  let v115 : BitVec 32 := Scalar.muli arg10 c256_i32_79
  let v116 : BitVec 32 := v115
  let v5981 : Index := Scalar.indexCast v116
  ![2, 0, v5981.toNat]
def k0_off14 (k0_t1 : Fin k0_t1_loop.trips) : Fin 3 → Nat :=
  let c3_142 : Index := 3#32
  let c0_143 : Index := 0#32
  let c0_i32 : BitVec 32 := 0#32
  let c1_i32 : BitVec 32 := 1#32
  let arg10 : BitVec 32 := Scf.iv c0_i32 c1_i32 k0_t1
  let c256_i32_79 : BitVec 32 := 256#32
  let v115 : BitVec 32 := Scalar.muli arg10 c256_i32_79
  let v116 : BitVec 32 := v115
  let v5987 : Index := Scalar.indexCast v116
  ![3, 0, v5987.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteReferenceIdeal.lean ====
abbrev S2048x16384 : Shape := ⟨2, ![2048, 16384]⟩
abbrev S2048x2048 : Shape := ⟨2, ![2048, 2048]⟩
abbrev S8x2x128x128 : Shape := ⟨4, ![8, 2, 128, 128]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S128x8x16384 : Shape := ⟨3, ![128, 8, 16384]⟩
abbrev S1024x16384 : Shape := ⟨2, ![1024, 16384]⟩
abbrev S8x128x16384 : Shape := ⟨3, ![8, 128, 16384]⟩

abbrev nBuf : Space → Nat
  | .hbm => 16
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S2048x2048, .f32⟩
  | .hbm, ⟨2, _⟩ => ⟨S8x2x128x128, .f32⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x8x2x128, .f32⟩
  | .hbm, ⟨7, _⟩ => ⟨S8x2x128x16384, .f32⟩
  | .hbm, ⟨8, _⟩ => ⟨S16384x8x2x128, .f32⟩
  | .hbm, ⟨9, _⟩ => ⟨S16384x8x1x128, .f32⟩
  | .hbm, ⟨10, _⟩ => ⟨S16384x8x128, .f32⟩
  | .hbm, ⟨11, _⟩ => ⟨S128x8x16384, .f32⟩
  | .hbm, ⟨12, _⟩ => ⟨S1024x16384, .f32⟩
  | .hbm, ⟨13, _⟩ => ⟨S16384x8x1x128, .f32⟩
  | .hbm, ⟨14, _⟩ => ⟨S16384x8x128, .f32⟩
  | .hbm, ⟨15, _⟩ => ⟨S8x128x16384, .f32⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.Soft.lean ====
/- Soft attention over the extended reals: dividing the weighted sum of the values by the sum of the weights, or weighting
   the values by the divided weights, is the same number, and keys that score −∞ may be added on one side only. -/
module

public import Idealize.ShloMosaic.PureOps.Ideal.Laws

@[expose] public section

noncomputable section

namespace Cert.Soft

open Idealize.ShloMosaic

/-- A real number that is not negative distributes over a finite sum of extended reals, from the right. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The greatest of a finite family, from −∞, is its supremum. -/
theorem fold_max_eq_sup {ι : Type} (s : Finset ι) (f : ι → EReal) : s.fold max ⊥ f = s.sup f := rfl

/-- The supremum over the larger family is that over the smaller when the further members are −∞. -/
theorem sup_of_injective {ι κ : Type} [Fintype ι] [Fintype κ] (e : κ → ι) (S : ι → EReal) (S' : κ → EReal)
    (hoff : ∀ j, j ∉ Set.range e → S j = ⊥) (hon : ∀ k, S (e k) = S' k) :
    Finset.univ.sup S = Finset.univ.sup S' := by
  apply le_antisymm
  · refine Finset.sup_le fun j _ => ?_
    by_cases h : j ∈ Set.range e
    · obtain ⟨k, rfl⟩ := h
      rw [hon]; exact Finset.le_sup (f := S') (Finset.mem_univ k)
    · rw [hoff j h]; exact bot_le
  · refine Finset.sup_le fun k _ => ?_
    rw [← hon]; exact Finset.le_sup (f := S) (Finset.mem_univ (e k))

/-- A weight: the exponential of a score that is not +∞ less a real maximum is a real number, and not negative. -/
theorem exp_sub_real {x : EReal} {M : ℝ} (hx : x ≠ ⊤) : ∃ p : ℝ, 0 ≤ p ∧ Ideal.exp (x - (M : EReal)) = (p : EReal) := by
  induction x with
  | bot => exact ⟨0, le_rfl, by rw [EReal.bot_sub]; rfl⟩
  | top => exact absurd rfl hx
  | coe r => exact ⟨Real.exp (r - M), (Real.exp_pos _).le, by rw [← EReal.coe_sub, Ideal.exp_coe]⟩

/-- A score of −∞ weighs nothing. -/
theorem exp_bot_sub (M : EReal) : Ideal.exp (⊥ - M) = 0 := by rw [EReal.bot_sub]; rfl

/-- The finite sum of real numbers read as extended reals. -/
theorem sum_coe {ι : Type} (s : Finset ι) (p : ι → ℝ) : ∑ i ∈ s, (p i : EReal) = ((∑ i ∈ s, p i : ℝ) : EReal) := by
  classical
  induction s using Finset.induction_on with
  | empty => simp
  | insert a s ha ih => rw [Finset.sum_insert ha, Finset.sum_insert ha, ih, EReal.coe_add]

/-- The supremum of finitely many scores, none +∞ and one of them real, is a real number that one of them attains. -/
theorem sup_real {κ : Type} [Fintype κ] (S : κ → EReal) (htop : ∀ k, S k ≠ ⊤) (k₀ : κ) (h₀ : S k₀ ≠ ⊥) :
    ∃ (M : ℝ) (k : κ), Finset.univ.sup S = (M : EReal) ∧ S k = (M : EReal) := by
  obtain ⟨k, -, hk⟩ := Finset.exists_mem_eq_sup Finset.univ ⟨k₀, Finset.mem_univ k₀⟩ S
  have hle : S k₀ ≤ S k := by rw [← hk]; exact Finset.le_sup (f := S) (Finset.mem_univ k₀)
  have hb : S k ≠ ⊥ := fun h => h₀ (le_bot_iff.mp (h ▸ hle))
  refine ⟨(S k).toReal, k, ?_, ?_⟩
  · rw [hk, EReal.coe_toReal (htop k) hb]
  · rw [EReal.coe_toReal (htop k) hb]

/-- Attention two ways. On the left every member of `ι` is scored and the weighted sum of the values is divided once by the
    sum of the weights; on the right only the members that `e` names are, and each weight is divided. The members `e` does
    not name score −∞, and the two value families agree at every key whose score is not −∞. -/
theorem attend_eq {ι κ : Type} [Fintype ι] [Fintype κ] (e : κ → ι) (he : Function.Injective e)
    (S V : ι → EReal) (S' V' : κ → EReal)
    (hoff : ∀ j, j ∉ Set.range e → S j = ⊥) (hon : ∀ k, S (e k) = S' k)
    (hV : ∀ k, S' k ≠ ⊥ → V (e k) = V' k)
    (htop : ∀ k, S' k ≠ ⊤) (k₀ : κ) (h₀ : S' k₀ ≠ ⊥) :
    Ideal.div (∑ j, Ideal.exp (S j - Finset.univ.sup S) * V j) (∑ j, Ideal.exp (S j - Finset.univ.sup S))
      = ∑ k, V' k * Ideal.div (Ideal.exp (S' k - Finset.univ.sup S')) (∑ k, Ideal.exp (S' k - Finset.univ.sup S')) := by
  rw [sup_of_injective e S S' hoff hon]
  obtain ⟨M, kM, hM, hkM⟩ := sup_real S' htop k₀ h₀
  rw [hM]
  have hw : (∑ j, Ideal.exp (S j - (M : EReal))) = ∑ k, Ideal.exp (S' k - (M : EReal)) :=
    (Fintype.sum_of_injective e he _ _ (fun j hj => by rw [hoff j hj, exp_bot_sub]) (fun k => by rw [hon])).symm
  have hn : (∑ j, Ideal.exp (S j - (M : EReal)) * V j) = ∑ k, Ideal.exp (S' k - (M : EReal)) * V' k := by
    refine (Fintype.sum_of_injective e he _ _ (fun j hj => by rw [hoff j hj, exp_bot_sub, zero_mul]) (fun k => ?_)).symm
    rw [hon]
    by_cases h : S' k = ⊥
    · rw [h, exp_bot_sub, zero_mul, zero_mul]
    · rw [hV k h]
  rw [hw, hn]
  choose p hp0 hp using fun k => exp_sub_real (M := M) (htop k)
  simp only [hp]
  have hpos : 0 < ∑ k, p k := by
    refine Finset.sum_pos' (fun k _ => hp0 k) ⟨kM, Finset.mem_univ kM, ?_⟩
    have h1 := hp kM
    rw [hkM, ← EReal.coe_sub, Ideal.exp_coe] at h1
    rw [← EReal.coe_eq_coe_iff.mp h1]; exact Real.exp_pos _
  rw [sum_coe]
  have hne : (∑ k, p k : ℝ) ≠ 0 := hpos.ne'
  simp only [Ideal.div_coe hne]
  rw [sum_mul_coe _ _ (by positivity)]
  refine Finset.sum_congr rfl fun k _ => ?_
  rw [mul_comm (p k : EReal) (V' k), mul_assoc]

end Cert.Soft

end
-- ==== Proof.Head.lean ====
/- One head of the band attention's block: 256 query rows against three blocks of 256 key rows, read at an index. -/
module

public import proofs.«01_k».proof.Proof.Gen.KernelIdeal.Skeleton
public import proofs.«01_k».proof.Proof.Soft
public import Idealize.ShloMosaic.Lib.Pointwise

@[expose] public section

set_option maxRecDepth 16384

noncomputable section

namespace Cert.Head

open Cert.Soft Cert.KernelIdeal Cert.KernelIdeal.Gen Idealize.ShloMosaic

variable {F : FTy → Type} [FloatOps F]

/-- The scores of 256 rows against three key blocks, the bias added. -/
def scores (q k0 k1 k2 : Vec F S256x128 .bf16) (t : Vec F S1x1x256x768 .f32) : FVec F S256x768 .f32 :=
  addf (concatenate S256x768 1
      [⟨S256x256, (matmul dot_S256x128_S256x128_S256x256_1_1_0_0_n_n none q k0 (constant S256x256 .f32 0x00000000#32) : FVec F S256x256 .f32)⟩,
       ⟨S256x256, (matmul dot_S256x128_S256x128_S256x256_1_1_0_0_n_n none q k1 (constant S256x256 .f32 0x00000000#32) : FVec F S256x256 .f32)⟩,
       ⟨S256x256, (matmul dot_S256x128_S256x128_S256x256_1_1_0_0_n_n none q k2 (constant S256x256 .f32 0x00000000#32) : FVec F S256x256 .f32)⟩]
      concatenates_S256x256_S256x256_S256x256_S256x768_d1)
    (shapeCast S256x768 t shapeCasts_S1x1x256x768_S256x768)

/-- Each row's exponentials, less the row's maximum. -/
def weights (s : FVec F S256x768 .f32) : FVec F S256x768 .f32 :=
  exp (subf s (broadcastTo S256x768 (shapeCast S256x1
    (multiReduction .maximumf [1] S256 s 0xFF800000#32 reduces_S256x768_S256 (.inl rfl) rfl : FVec F S256 .f32)
    shapeCasts_S256_S256x1) broadcasts_S256x1_S256x768))

/-- Each row's sum of the exponentials. -/
def sums (p : FVec F S256x768 .f32) : FVec F S256x1 .f32 :=
  shapeCast S256x1 (multiReduction .add [1] S256 p 0x00000000#32 reduces_S256x768_S256 (.inl rfl) rfl : FVec F S256 .f32)
    shapeCasts_S256_S256x1

/-- The weighted values of the three blocks. -/
def weighted (p : FVec F S256x768 .bf16) (v0 v1 v2 : Vec F S256x128 .bf16) : FVec F S256x128 .f32 :=
  addf (addf
    (matmul dot_S256x256_S256x128_S256x128_1_0_0_1_n_n none (extractStridedSlice S256x256 ![0, 0] p slices_S256x768_o0_0_S256x256) v0 (constant S256x128 .f32 0x00000000#32))
    (matmul dot_S256x256_S256x128_S256x128_1_0_0_1_n_n none (extractStridedSlice S256x256 ![0, 256] p slices_S256x768_o0_256_S256x256) v1 (constant S256x128 .f32 0x00000000#32)))
    (matmul dot_S256x256_S256x128_S256x128_1_0_0_1_n_n none (extractStridedSlice S256x256 ![0, 512] p slices_S256x768_o0_512_S256x256) v2 (constant S256x128 .f32 0x00000000#32))

/-- The head's result block. -/
def out (q k0 k1 k2 : Vec F S256x128 .bf16) (t : Vec F S1x1x256x768 .f32) (v0 v1 v2 : Vec F S256x128 .bf16) :
    FVec F S256x128 .bf16 :=
  truncf .bf16 (divf (weighted (truncf .bf16 (weights (scores q k0 k1 k2 t)) bitsLt_bf16_f32) v0 v1 v2)
    (broadcastTo S256x128 (sums (weights (scores q k0 k1 k2 t))) broadcasts_S256x1_S256x128)) bitsLt_bf16_f32

/-- Row `j` of three blocks of 256 rows laid end to end. -/
def cat3 (x0 x1 x2 : Fin 256 → EReal) (j : Fin 768) : EReal :=
  if h0 : j.val < 256 then x0 ⟨j.val, h0⟩
  else if h1 : j.val - 256 < 256 then x1 ⟨j.val - 256, h1⟩ else x2 ⟨j.val - 256 - 256, by omega⟩

/-- A sum over the rows of three blocks laid end to end is the three blocks' sums. -/
theorem sum_three (f : Fin 768 → EReal) :
    ∑ j, f j = (∑ k : Fin 256, f ⟨k.val, by omega⟩) + (∑ k : Fin 256, f ⟨256 + k.val, by omega⟩)
      + ∑ k : Fin 256, f ⟨512 + k.val, by omega⟩ := by
  rw [show (∑ j, f j) = ∑ j : Fin (256 + 256 + 256), f j from rfl, Fin.sum_univ_add, Fin.sum_univ_add]
  rfl

theorem ofBits_bot : (Ideal.ofBits .f32 4286578688#32 : EReal) = ⊥ := by
  simp [Ideal.ofBits, Ideal.ieee]

theorem scores_apply (q k0 k1 k2 : Vec Ideal S256x128 .bf16) (t : Vec Ideal S1x1x256x768 .f32) (i : Fin 256) (j : Fin 768) :
    scores q k0 k1 k2 t (ix2 i j)
      = cat3 (fun r => ∑ d : Fin 128, q (ix2 i d) * k0 (ix2 r d)) (fun r => ∑ d : Fin 128, q (ix2 i d) * k1 (ix2 r d))
          (fun r => ∑ d : Fin 128, q (ix2 i d) * k2 (ix2 r d)) j + t (ix4 0 0 i j) := by
  pointwise [scores, cat3]

theorem weights_apply (s : FVec Ideal S256x768 .f32) (i : Fin 256) (j : Fin 768) :
    weights s (ix2 i j) = Ideal.exp (s (ix2 i j) - Finset.univ.sup fun j => s (ix2 i j)) := by
  pointwise [weights]
  rw [ofBits_bot, fold_max_eq_sup]

theorem sums_apply (s : FVec Ideal S256x768 .f32) (i : Fin 256) :
    sums s (ix2 i 0) = ∑ j, s (ix2 i j) := by
  pointwise [sums]

theorem weighted_apply (p : FVec Ideal S256x768 .bf16) (v0 v1 v2 : Vec Ideal S256x128 .bf16) (i : Fin 256) (d : Fin 128) :
    weighted p v0 v1 v2 (ix2 i d)
      = ∑ j, p (ix2 i j) * cat3 (fun r => v0 (ix2 r d)) (fun r => v1 (ix2 r d)) (fun r => v2 (ix2 r d)) j := by
  have h1 (x : Fin 256) : cat3 (fun r => v0 (ix2 r d)) (fun r => v1 (ix2 r d)) (fun r => v2 (ix2 r d)) ⟨256 + x.val, by omega⟩
      = v1 (ix2 x d) := by
    simp only [cat3, show ¬ 256 + x.val < 256 by omega, show 256 + x.val - 256 = x.val by omega, dif_pos x.isLt, dite_false]
  have h2 (x : Fin 256) : cat3 (fun r => v0 (ix2 r d)) (fun r => v1 (ix2 r d)) (fun r => v2 (ix2 r d)) ⟨512 + x.val, by omega⟩
      = v2 (ix2 x d) := by
    simp only [cat3, show ¬ 512 + x.val < 256 by omega, show ¬ 512 + x.val - 256 < 256 by omega,
      show 512 + x.val - 256 - 256 = x.val by omega, dite_false]
  have h0 (x : Fin 256) : cat3 (fun r => v0 (ix2 r d)) (fun r => v1 (ix2 r d)) (fun r => v2 (ix2 r d)) ⟨x.val, by omega⟩
      = v0 (ix2 x d) := by
    simp only [cat3, dif_pos x.isLt]
  rw [sum_three]
  simp only [h0, h1, h2]
  pointwise [weighted]

/-- The head's result at a row and a value column: the exponentials' weighted values over their sum. -/
theorem out_apply (q k0 k1 k2 : Vec Ideal S256x128 .bf16) (t : Vec Ideal S1x1x256x768 .f32)
    (v0 v1 v2 : Vec Ideal S256x128 .bf16) (i : Fin 256) (d : Fin 128) :
    out q k0 k1 k2 t v0 v1 v2 (ix2 i d)
      = Ideal.div (∑ j, Ideal.exp (scores q k0 k1 k2 t (ix2 i j) - Finset.univ.sup fun j => scores q k0 k1 k2 t (ix2 i j))
            * cat3 (fun r => v0 (ix2 r d)) (fun r => v1 (ix2 r d)) (fun r => v2 (ix2 r d)) j)
          (∑ j, Ideal.exp (scores q k0 k1 k2 t (ix2 i j) - Finset.univ.sup fun j => scores q k0 k1 k2 t (ix2 i j))) := by
  have h : out q k0 k1 k2 t v0 v1 v2 (ix2 i d)
      = Ideal.div (weighted (F := Ideal) (truncf .bf16 (weights (scores q k0 k1 k2 t)) bitsLt_bf16_f32) v0 v1 v2 (ix2 i d))
          (sums (weights (scores q k0 k1 k2 t)) (ix2 i 0)) := by
    pointwise [out]
  rw [h, weighted_apply, sums_apply]
  simp only [weights_apply]
  refine congrArg (fun x => Ideal.div x _) (Finset.sum_congr rfl fun j _ => ?_)
  rw [show (truncf .bf16 (weights (scores q k0 k1 k2 t)) bitsLt_bf16_f32 : FVec Ideal S256x768 .bf16) (ix2 i j)
    = weights (scores q k0 k1 k2 t) (ix2 i j) from rfl, weights_apply]

end Cert.Head

end
-- ==== Proof.Block.lean ====
/- What the attention's body leaves in its output block: eight heads, each on its own 128 columns. -/
module

public import proofs.«01_k».proof.Proof.Gen.KernelIdeal.Value
public import proofs.«01_k».proof.Proof.Head
public import Idealize.ShloMosaic.Lib.Pipeline.ValueKit.Tiles

@[expose] public section

set_option maxRecDepth 16384

noncomputable section

namespace Cert.Block

open Cert.Head Cert.KernelIdeal Cert.KernelIdeal.Gen Idealize.ShloMosaic Idealize.ShloMosaic.TcCoe

variable {F : FTy → Type} [FloatOps F]

/-- The columns of head `h` of a block of 1024 columns. -/
abbrev cols (h : Fin 8) : Rect S256x1024 :=
  Rect.unit ![0, 128 * h.val] S256x128.size fun a => match a with
    | ⟨0, _⟩ => by show 0 + 256 ≤ 256; omega
    | ⟨1, _⟩ => by have := h.isLt; show 128 * h.val + 128 ≤ 1024; omega

/-- The bias block of head `h`. -/
abbrev plane (h : Fin 8) : Rect S1x8x256x768 :=
  Rect.unit ![0, h.val, 0, 0] S1x1x256x768.size fun a => match a with
    | ⟨0, _⟩ => by show 0 + 1 ≤ 1; omega
    | ⟨1, _⟩ => by have := h.isLt; show h.val + 1 ≤ 8; omega
    | ⟨2, _⟩ => by show 0 + 256 ≤ 256; omega
    | ⟨3, _⟩ => by show 0 + 768 ≤ 768; omega

/-- Head `h` of the block, from the seven blocks of rows and the bias block. -/
def headOut (h : Fin 8) (x0 x1 x2 x3 x4 x5 x6 : Vec F S256x1024 .bf16) (x7 : Vec F S1x8x256x768 .f32) : FVec F S256x128 .bf16 :=
  out (View.ld x0 (cols h)) (View.ld x1 (cols h)) (View.ld x2 (cols h)) (View.ld x3 (cols h)) (View.ld x7 (plane h))
    (View.ld x4 (cols h)) (View.ld x5 (cols h)) (View.ld x6 (cols h))

theorem out_apply (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1x8x256x768 .f32) (harg9 : arg9.IsWhole) (arg10 : Memref sig .tc .vmem S256x1024 .bf16) (harg10 : arg10.IsWhole)
    (x0 x1 x2 x3 x4 x5 x6 : Vec F S256x1024 .bf16) (x7 : Vec F S1x8x256x768 .f32) (h : Fin 8) (r : Fin 256) (d : Fin 128) (y : S256x1024.Idx) (hy0 : (y 0).val = r.val) (hy1 : (y 1).val = 128 * h.val + d.val) :
    out0_A_8 c i arg2 harg2 arg3 harg3 arg4 harg4 arg5 harg5 arg6 harg6 arg7 harg7 arg8 harg8 arg9 harg9 arg10 harg10 x0 x1 x2 x3 x4 x5 x6 x7 y
      = headOut h x0 x1 x2 x3 x4 x5 x6 x7 (ix2 r d) := by
  unfold out0_A_8
  rw [View.read_writes_junk_eq_canon]
  unfold kernelRun0_A
  canon_tiles x e using cover0_A_8 c i arg2 harg2 arg3 harg3 arg4 harg4 arg5 harg5 arg6 harg6 arg7 harg7 arg8 harg8 arg9 harg9 arg10 harg10 x0 x1 x2 x3 x4 x5 x6 x7 y
  · obtain rfl : h = 7 := Fin.ext (by show h.val = 7; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl
  · obtain rfl : h = 6 := Fin.ext (by show h.val = 6; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl
  · obtain rfl : h = 5 := Fin.ext (by show h.val = 5; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl
  · obtain rfl : h = 4 := Fin.ext (by show h.val = 4; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl
  · obtain rfl : h = 3 := Fin.ext (by show h.val = 3; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl
  · obtain rfl : h = 2 := Fin.ext (by show h.val = 2; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl
  · obtain rfl : h = 1 := Fin.ext (by show h.val = 1; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl
  · obtain rfl : h = 0 := Fin.ext (by show h.val = 0; omega)
    rw [show x = ix2 r d from funext fun a => Fin.ext (by match a with | ⟨0, _⟩ => (show (x 0).val = r.val; omega) | ⟨1, _⟩ => (show (x 1).val = d.val; omega))]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, View.readAt_eq_ld, harg2.read_unread, harg3.read_unread, harg4.read_unread, harg5.read_unread,
      harg6.read_unread, harg7.read_unread, harg8.read_unread, harg9.read_unread]
    rfl

end Cert.Block

end
-- ==== Proof.Windows.lean ====
/- The attention's windows at an index: which rows and columns of the packed projection each staged block holds, and
   which block of the result a grid point writes. -/
module

public import proofs.«01_k».proof.Proof.Block

@[expose] public section

set_option maxRecDepth 16384

noncomputable section

namespace Cert.Windows

open Cert.Block Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

theorem index_0 : ∀ t : Fin cfg0.N, win0_0.index t (0 : Fin 2) = t.val ∧ win0_0.index t (1 : Fin 2) = 0 :=
  (by decide +kernel : ∀ t : Fin grid0.N, _)

theorem block_0 (c : Dev nD) (t : Fin cfg0.N) (j : S256x1024.Idx) (z : S16384x3584.Idx)
    (h0 : (z 0).val = (t.val) * 256 + (j 0).val) (h1 : (z 1).val = 0 + (j 1).val) :
    X0_0 m c t j = m ((c : Thread nD τ).loc main_arg0) z := by
  obtain ⟨e0, e1⟩ := index_0 t
  unfold X0_0 Pipeline.Window.fill
  rw [dif_pos (moved0_0 t j)]
  refine (congrFun (V_main_arg0 m c) _).trans (congrArg _ ?_)
  funext a; apply Fin.ext
  match a with
  | ⟨0, _⟩ => show win0_0.index t (0 : Fin 2) * 256 + 1 * (j 0).val = (z 0).val; omega
  | ⟨1, _⟩ => show win0_0.index t (1 : Fin 2) * 1024 + 1 * (j 1).val = (z 1).val; omega

theorem index_1 : ∀ t : Fin cfg0.N, win0_1.index t (0 : Fin 2) = 32 * (t.val / 32) + (t.val % 32 - 2) ∧ win0_1.index t (1 : Fin 2) = 1 :=
  (by decide +kernel : ∀ t : Fin grid0.N, _)

theorem block_1 (c : Dev nD) (t : Fin cfg0.N) (j : S256x1024.Idx) (z : S16384x3584.Idx)
    (h0 : (z 0).val = (32 * (t.val / 32) + (t.val % 32 - 2)) * 256 + (j 0).val) (h1 : (z 1).val = 1024 + (j 1).val) :
    X0_1 m c t j = m ((c : Thread nD τ).loc main_arg0) z := by
  obtain ⟨e0, e1⟩ := index_1 t
  unfold X0_1 Pipeline.Window.fill
  rw [dif_pos (moved0_1 t j)]
  refine (congrFun (V_main_arg0 m c) _).trans (congrArg _ ?_)
  funext a; apply Fin.ext
  match a with
  | ⟨0, _⟩ => show win0_1.index t (0 : Fin 2) * 256 + 1 * (j 0).val = (z 0).val; omega
  | ⟨1, _⟩ => show win0_1.index t (1 : Fin 2) * 1024 + 1 * (j 1).val = (z 1).val; omega

theorem index_2 : ∀ t : Fin cfg0.N, win0_2.index t (0 : Fin 2) = 32 * (t.val / 32) + (t.val % 32 - 1) ∧ win0_2.index t (1 : Fin 2) = 1 :=
  (by decide +kernel : ∀ t : Fin grid0.N, _)

theorem block_2 (c : Dev nD) (t : Fin cfg0.N) (j : S256x1024.Idx) (z : S16384x3584.Idx)
    (h0 : (z 0).val = (32 * (t.val / 32) + (t.val % 32 - 1)) * 256 + (j 0).val) (h1 : (z 1).val = 1024 + (j 1).val) :
    X0_2 m c t j = m ((c : Thread nD τ).loc main_arg0) z := by
  obtain ⟨e0, e1⟩ := index_2 t
  unfold X0_2 Pipeline.Window.fill
  rw [dif_pos (moved0_2 t j)]
  refine (congrFun (V_main_arg0 m c) _).trans (congrArg _ ?_)
  funext a; apply Fin.ext
  match a with
  | ⟨0, _⟩ => show win0_2.index t (0 : Fin 2) * 256 + 1 * (j 0).val = (z 0).val; omega
  | ⟨1, _⟩ => show win0_2.index t (1 : Fin 2) * 1024 + 1 * (j 1).val = (z 1).val; omega

theorem index_3 : ∀ t : Fin cfg0.N, win0_3.index t (0 : Fin 2) = t.val ∧ win0_3.index t (1 : Fin 2) = 1 :=
  (by decide +kernel : ∀ t : Fin grid0.N, _)

theorem block_3 (c : Dev nD) (t : Fin cfg0.N) (j : S256x1024.Idx) (z : S16384x3584.Idx)
    (h0 : (z 0).val = (t.val) * 256 + (j 0).val) (h1 : (z 1).val = 1024 + (j 1).val) :
    X0_3 m c t j = m ((c : Thread nD τ).loc main_arg0) z := by
  obtain ⟨e0, e1⟩ := index_3 t
  unfold X0_3 Pipeline.Window.fill
  rw [dif_pos (moved0_3 t j)]
  refine (congrFun (V_main_arg0 m c) _).trans (congrArg _ ?_)
  funext a; apply Fin.ext
  match a with
  | ⟨0, _⟩ => show win0_3.index t (0 : Fin 2) * 256 + 1 * (j 0).val = (z 0).val; omega
  | ⟨1, _⟩ => show win0_3.index t (1 : Fin 2) * 1024 + 1 * (j 1).val = (z 1).val; omega

theorem index_4 : ∀ t : Fin cfg0.N, win0_4.index t (0 : Fin 2) = 32 * (t.val / 32) + (t.val % 32 - 2) ∧ win0_4.index t (1 : Fin 2) = 2 :=
  (by decide +kernel : ∀ t : Fin grid0.N, _)

theorem block_4 (c : Dev nD) (t : Fin cfg0.N) (j : S256x1024.Idx) (z : S16384x3584.Idx)
    (h0 : (z 0).val = (32 * (t.val / 32) + (t.val % 32 - 2)) * 256 + (j 0).val) (h1 : (z 1).val = 2048 + (j 1).val) :
    X0_4 m c t j = m ((c : Thread nD τ).loc main_arg0) z := by
  obtain ⟨e0, e1⟩ := index_4 t
  unfold X0_4 Pipeline.Window.fill
  rw [dif_pos (moved0_4 t j)]
  refine (congrFun (V_main_arg0 m c) _).trans (congrArg _ ?_)
  funext a; apply Fin.ext
  match a with
  | ⟨0, _⟩ => show win0_4.index t (0 : Fin 2) * 256 + 1 * (j 0).val = (z 0).val; omega
  | ⟨1, _⟩ => show win0_4.index t (1 : Fin 2) * 1024 + 1 * (j 1).val = (z 1).val; omega

theorem index_5 : ∀ t : Fin cfg0.N, win0_5.index t (0 : Fin 2) = 32 * (t.val / 32) + (t.val % 32 - 1) ∧ win0_5.index t (1 : Fin 2) = 2 :=
  (by decide +kernel : ∀ t : Fin grid0.N, _)

theorem block_5 (c : Dev nD) (t : Fin cfg0.N) (j : S256x1024.Idx) (z : S16384x3584.Idx)
    (h0 : (z 0).val = (32 * (t.val / 32) + (t.val % 32 - 1)) * 256 + (j 0).val) (h1 : (z 1).val = 2048 + (j 1).val) :
    X0_5 m c t j = m ((c : Thread nD τ).loc main_arg0) z := by
  obtain ⟨e0, e1⟩ := index_5 t
  unfold X0_5 Pipeline.Window.fill
  rw [dif_pos (moved0_5 t j)]
  refine (congrFun (V_main_arg0 m c) _).trans (congrArg _ ?_)
  funext a; apply Fin.ext
  match a with
  | ⟨0, _⟩ => show win0_5.index t (0 : Fin 2) * 256 + 1 * (j 0).val = (z 0).val; omega
  | ⟨1, _⟩ => show win0_5.index t (1 : Fin 2) * 1024 + 1 * (j 1).val = (z 1).val; omega

theorem index_6 : ∀ t : Fin cfg0.N, win0_6.index t (0 : Fin 2) = t.val ∧ win0_6.index t (1 : Fin 2) = 2 :=
  (by decide +kernel : ∀ t : Fin grid0.N, _)

theorem block_6 (c : Dev nD) (t : Fin cfg0.N) (j : S256x1024.Idx) (z : S16384x3584.Idx)
    (h0 : (z 0).val = (t.val) * 256 + (j 0).val) (h1 : (z 1).val = 2048 + (j 1).val) :
    X0_6 m c t j = m ((c : Thread nD τ).loc main_arg0) z := by
  obtain ⟨e0, e1⟩ := index_6 t
  unfold X0_6 Pipeline.Window.fill
  rw [dif_pos (moved0_6 t j)]
  refine (congrFun (V_main_arg0 m c) _).trans (congrArg _ ?_)
  funext a; apply Fin.ext
  match a with
  | ⟨0, _⟩ => show win0_6.index t (0 : Fin 2) * 256 + 1 * (j 0).val = (z 0).val; omega
  | ⟨1, _⟩ => show win0_6.index t (1 : Fin 2) * 1024 + 1 * (j 1).val = (z 1).val; omega

theorem index_7 : ∀ t : Fin cfg0.N, win0_7.index t (0 : Fin 4) = min (t.val % 32) 2 ∧ win0_7.index t (1 : Fin 4) = 0
    ∧ win0_7.index t (2 : Fin 4) = 0 ∧ win0_7.index t (3 : Fin 4) = 0 :=
  (by decide +kernel : ∀ t : Fin grid0.N, _)

theorem block_7 (c : Dev nD) (t : Fin cfg0.N) (j : S1x8x256x768.Idx) (z : S3x8x256x768.Idx)
    (h0 : (z 0).val = min (t.val % 32) 2) (h1 : (z 1).val = (j 1).val) (h2 : (z 2).val = (j 2).val) (h3 : (z 3).val = (j 3).val) :
    iblk m c 7 t j = V m c main_v45 z := by
  obtain ⟨e0, e1, e2, e3⟩ := index_7 t
  have hj : (j 0).val < 1 := (j 0).isLt
  show V m c main_v45 (((cfg0.win 7).blk t).view.emb j) = _
  refine congrArg _ ?_
  funext a; apply Fin.ext
  match a with
  | ⟨0, _⟩ => show win0_7.index t (0 : Fin 4) * 1 + 1 * (j 0).val = (z 0).val; omega
  | ⟨1, _⟩ => show win0_7.index t (1 : Fin 4) * 8 + 1 * (j 1).val = (z 1).val; omega
  | ⟨2, _⟩ => show win0_7.index t (2 : Fin 4) * 256 + 1 * (j 2).val = (z 2).val; omega
  | ⟨3, _⟩ => show win0_7.index t (3 : Fin 4) * 768 + 1 * (j 3).val = (z 3).val; omega

theorem index_8 : ∀ t : Fin cfg0.N, win0_8.index t (0 : Fin 2) = t.val ∧ win0_8.index t (1 : Fin 2) = 0 :=
  (by decide +kernel : ∀ t : Fin grid0.N, _)

/-- The grid point that writes row block `n`. -/
abbrev pt (n : Fin 64) : Fin cfg0.N := ⟨n.val, by have := n.isLt; exact Nat.lt_of_lt_of_eq this (by decide)⟩

/-- The result array at a row and a column: the head's value at the row of the row's own grid point. -/
theorem result_apply (c : Dev nD) (n : Fin 64) (r : Fin 256) (h : Fin 8) (d : Fin 128) (z : S16384x1024.Idx)
    (h0 : (z 0).val = 256 * n.val + r.val) (h1 : (z 1).val = 128 * h.val + d.val) :
    (dats m 0 c).arrAt 8 cfg0.N z
      = headOut h (X0_0 m c (pt n)) (X0_1 m c (pt n)) (X0_2 m c (pt n)) (X0_3 m c (pt n)) (X0_4 m c (pt n)) (X0_5 m c (pt n))
          (X0_6 m c (pt n)) (iblk m c 7 (pt n)) (Idealize.ShloMosaic.ix2 r d) := by
  obtain ⟨e0, e1⟩ := index_8 (pt n)
  let y : S256x1024.Idx := Idealize.ShloMosaic.ix2 r ⟨128 * h.val + d.val, by have := h.isLt; have := d.isLt; omega⟩
  have b := congrFun (blocks8 m c (pt n) (flush0_8 (pt n))) y
  rw [flushed8_A] at b
  have e : ((cfg0.win 8).blk (pt n)).view.emb y = z := by
    funext a; apply Fin.ext
    match a with
    | ⟨0, _⟩ => show win0_8.index (pt n) (0 : Fin 2) * 256 + 1 * r.val = (z 0).val; rw [e0, h0]; show n.val * 256 + 1 * r.val = _; omega
    | ⟨1, _⟩ => show win0_8.index (pt n) (1 : Fin 2) * 1024 + 1 * (128 * h.val + d.val) = (z 1).val; omega
  have b' : (dats m 0 c).arrAt 8 cfg0.N (((cfg0.win 8).blk (pt n)).view.emb y) = _ := b
  rw [e] at b'
  refine b'.trans ?_
  exact out_apply c _ _ _ _ _ _ _ _ _ _ _ _ _ _ _ _ _ _ _ _ _ _ _ _ _ _ _ h r d _ rfl rfl

end Cert.Windows

end
-- ==== Proof.Table.lean ====
/- The attention's bias table at an index. -/
module

public import proofs.«01_k».proof.Proof.Gen.KernelIdeal.Value
public import proofs.«01_k».proof.Proof.Head
public import Idealize.ShloMosaic.Lib.Pointwise

@[expose] public section

set_option maxRecDepth 16384

noncomputable section

namespace Cert.Table

open Cert.KernelIdeal Cert.KernelIdeal.Gen Idealize.ShloMosaic Idealize.ShloMosaic.TcCoe Idealize.SL.Sem

variable {F : FTy → Type} [FloatOps F]

/-- The key's 64-row chunk, counted from the block's first key, less the query's: the band's two bounds as words. -/
def band : IVec S256x768 1 :=
  andi (cmpi .sle (subi (Host.divsi (iotaInDim S256x768 32 1) (broadcastInDim S256x768 ![] bcast_S_S256x768 (constantI S_ 32 64#32)))
        (broadcastInDim S256x768 ![] bcast_S_S256x768 (constantI S_ 32 8#32)))
      (Host.divsi (iotaInDim S256x768 32 0) (broadcastInDim S256x768 ![] bcast_S_S256x768 (constantI S_ 32 64#32))))
    (cmpi .sge (subi (Host.divsi (iotaInDim S256x768 32 1) (broadcastInDim S256x768 ![] bcast_S_S256x768 (constantI S_ 32 64#32)))
        (broadcastInDim S256x768 ![] bcast_S_S256x768 (constantI S_ 32 8#32)))
      (subi (Host.divsi (iotaInDim S256x768 32 0) (broadcastInDim S256x768 ![] bcast_S_S256x768 (constantI S_ 32 64#32)))
        (broadcastInDim S256x768 ![] bcast_S_S256x768 (constantI S_ 32 8#32))))

/-- The bias row reversed and padded at both ends. -/
def biasRow (rel : FVec F S8x257 .f32) : FVec F S8x1023 .f32 :=
  concatenate S8x1023 1
    [⟨S8x640, (broadcastInDim S8x640 ![0, 1] bcast_S8x1_S8x640_0_1 (extractStridedSlice S8x1 ![0, 256] rel slices_S8x257_S8x1_0_256) : FVec F S8x640 .f32)⟩,
     ⟨S8x255, (Host.reverse [1] (extractStridedSlice S8x255 ![0, 1] rel slices_S8x257_S8x255_0_1) : FVec F S8x255 .f32)⟩,
     ⟨S8x128, (broadcastInDim S8x128 ![0, 1] bcast_S8x1_S8x128_0_1 (extractStridedSlice S8x1 ![0, 0] rel slices_S8x257_S8x1_0_0) : FVec F S8x128 .f32)⟩]
    concatenates_S8x640_S8x255_S8x128_S8x1023_d1

/-- The bias of every query row against every key row: the row skewed by a reshape. -/
def biasOf (rel : FVec F S8x257 .f32) : FVec F S8x256x768 .f32 :=
  extractStridedSlice S8x256x768 ![0, 0, 255]
    (shapeCast S8x256x1023
      (extractStridedSlice S8x261888 ![0, 0]
        (shapeCast S8x262144
          (broadcastInDim S1x8x256x1024 ![0, 1, 2, 3] bcast_S1x8x1x1024_S1x8x256x1024_0_1_2_3
            (shapeCast S1x8x1x1024
              (pad S8x1024 ![0, 0] ![0, 1] ![0, 0] (biasRow rel) (sitofp .f32 (constantI S_ 32 0#32)) pads_S8x1023_S8x1024_000_010 h_S_)
              shapeCasts_S8x1024_S1x8x1x1024))
          shapeCasts_S1x8x256x1024_S8x262144)
        slices_S8x262144_S8x261888_0_0)
      shapeCasts_S8x261888_S8x256x1023)
    slices_S8x256x1023_S8x256x768_0_0_255

/-- The bias within the band and from key row `lo` on, −∞ elsewhere. -/
def maskedFrom (lo : BitVec 32) (rel : FVec F S8x257 .f32) : FVec F S8x256x768 .f32 :=
  select (broadcastInDim S8x256x768 ![0, 1, 2] bcast_S1x256x768_S8x256x768_0_1_2
      (broadcastInDim S1x256x768 ![1, 2] bcast_S256x768_S1x256x768_1_2
        (andi band (cmpi .sge (iotaInDim S256x768 32 1) (broadcastInDim S256x768 ![] bcast_S_S256x768 (constantI S_ 32 lo))))))
    (biasOf rel)
    (broadcastInDim S8x256x768 ![] bcast_S_S8x256x768 (constant S_ .f32 0xFF800000#32))

/-- The three planes of the table: no block before the query's, one, and two or more. -/
def tableOf (rel : FVec F S8x257 .f32) : FVec F S3x8x256x768 .f32 :=
  concatenate S3x8x256x768 0
    [⟨S1x8x256x768, (broadcastInDim S1x8x256x768 ![1, 2, 3] bcast_S8x256x768_S1x8x256x768_1_2_3 (maskedFrom 512#32 rel) : FVec F S1x8x256x768 .f32)⟩,
     ⟨S1x8x256x768, (broadcastInDim S1x8x256x768 ![1, 2, 3] bcast_S8x256x768_S1x8x256x768_1_2_3 (maskedFrom 256#32 rel) : FVec F S1x8x256x768 .f32)⟩,
     ⟨S1x8x256x768, (broadcastInDim S1x8x256x768 ![1, 2, 3] bcast_S8x256x768_S1x8x256x768_1_2_3 (maskedFrom 0#32 rel) : FVec F S1x8x256x768 .f32)⟩]
    concatenates_S1x8x256x768_S1x8x256x768_S1x8x256x768_S3x8x256x768_d0

variable (m : (ℓ : Loc nD τ sig) → Buf (Elt F) ℓ)

set_option maxHeartbeats 8000000 in
theorem table_eq (c : Dev nD) : V m c main_v45 = tableOf (m ((c : Thread nD τ).loc main_arg1)) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp <;> (try dsimp only [Matrix.cons_val]) <;> (try after_results_simp) <;> (try dsimp only [Matrix.cons_val]) <;> (try after_results_simp) <;> rfl

end Cert.Table

end
-- ==== Proof.TableAt.lean ====
/- The attention's bias table at an index. -/
module

public import proofs.«01_k».proof.Proof.Table
public import Idealize.ShloMosaic.Lib.Pointwise

@[expose] public section

set_option maxRecDepth 16384

noncomputable section

namespace Cert.Table

open Cert.Soft Cert.KernelIdeal Cert.KernelIdeal.Gen Idealize.ShloMosaic

theorem biasRow_apply (rel : FVec Ideal S8x257 .f32) (h : Fin 8) (e : Fin 1023) :
    biasRow rel (ix2 h e) = rel (ix2 h ⟨min (895 - e.val) 256, by omega⟩) := by
  pointwise [biasRow]
  by_cases h1 : e.val < 640
  · rw [dif_pos h1]
    refine congrArg (fun k => rel (ix2 h k)) (Fin.ext ?_)
    show (256 : Nat) = min (895 - e.val) 256
    omega
  · rw [dif_neg h1]
    by_cases h2 : e.val - 640 < 255
    · rw [dif_pos h2]
      refine congrArg rel (funext fun a => Fin.ext ?_)
      match a with
      | ⟨0, _⟩ => rfl
      | ⟨1, _⟩ => show 1 + (255 - (e.val - 640 + 1)) = min (895 - e.val) 256; omega
    · rw [dif_neg h2]
      refine congrArg (fun k => rel (ix2 h k)) (Fin.ext ?_)
      show (0 : Nat) = min (895 - e.val) 256
      omega

theorem biasOf_apply (rel : FVec Ideal S8x257 .f32) (h : Fin 8) (i : Fin 256) (j : Fin 768) :
    biasOf rel (ix3 h i j) = rel (ix2 h ⟨min (640 + i.val - j.val) 256, by omega⟩) := by
  have e : (i.val * 1023 + (255 + j.val)) % 1024 = 255 + j.val - i.val := by omega
  pointwise [biasOf]
  rw [dif_pos (by omega), biasRow_apply]
  refine congrArg (fun k => rel (ix2 h k)) (Fin.ext ?_)
  show min (895 - (i.val * 1023 + (255 + j.val)) % 1024) 256 = min (640 + i.val - j.val) 256
  omega

/-- A row number's chunk, as the words compute it. -/
theorem chunk_word : ∀ a : Fin 768, IntOp.divsi .host (BitVec.ofNat 32 a.val) 64#32 = BitVec.ofNat 32 (a.val / 64) := by
  decide +kernel

theorem band_word : ∀ u v : Fin 12,
    IntOp.andi (IntOp.cmpi .sle (IntOp.subi (BitVec.ofNat 32 v.val) 8#32) (BitVec.ofNat 32 u.val))
        (IntOp.cmpi .sge (IntOp.subi (BitVec.ofNat 32 v.val) 8#32) (IntOp.subi (BitVec.ofNat 32 u.val) 8#32))
      = if v.val ≤ u.val + 8 ∧ u.val ≤ v.val then 1#1 else 0#1 := by
  decide +kernel

theorem band_apply (i : Fin 256) (j : Fin 768) :
    band (ix2 i j) = if j.val / 64 ≤ i.val / 64 + 8 ∧ i.val / 64 ≤ j.val / 64 then 1#1 else 0#1 := by
  pointwise [band]
  rw [chunk_word j, chunk_word ⟨i.val, by omega⟩]
  exact band_word ⟨i.val / 64, by omega⟩ ⟨j.val / 64, by omega⟩

theorem from_word (lo : BitVec 32) : lo = 512#32 ∨ lo = 256#32 ∨ lo = 0#32 → ∀ j : Fin 768,
    IntOp.cmpi .sge (BitVec.ofNat 32 j.val) lo = if lo.toNat ≤ j.val then 1#1 else 0#1 := by
  rintro (rfl | rfl | rfl) <;> decide +kernel

theorem maskedFrom_apply (lo : BitVec 32) (hlo : lo = 512#32 ∨ lo = 256#32 ∨ lo = 0#32) (rel : FVec Ideal S8x257 .f32)
    (h : Fin 8) (i : Fin 256) (j : Fin 768) :
    maskedFrom lo rel (ix3 h i j)
      = if j.val / 64 ≤ i.val / 64 + 8 ∧ i.val / 64 ≤ j.val / 64 ∧ lo.toNat ≤ j.val then
          rel (ix2 h ⟨min (640 + i.val - j.val) 256, by omega⟩)
        else ⊥ := by
  pointwise [maskedFrom]
  rw [band_apply, from_word lo hlo j, biasOf_apply, Cert.Head.ofBits_bot]
  by_cases h1 : j.val / 64 ≤ i.val / 64 + 8 ∧ i.val / 64 ≤ j.val / 64 <;> by_cases h2 : lo.toNat ≤ j.val
  · rw [if_pos h1, if_pos h2, if_pos ⟨h1.1, h1.2, h2⟩]; rfl
  · rw [if_pos h1, if_neg h2, if_neg (fun h => h2 h.2.2)]; rfl
  · rw [if_neg h1, if_pos h2, if_neg (fun h => h1 ⟨h.1, h.2.1⟩)]; rfl
  · rw [if_neg h1, if_neg h2, if_neg (fun h => h1 ⟨h.1, h.2.1⟩)]; rfl

theorem tableOf_apply (rel : FVec Ideal S8x257 .f32) (p : Fin 3) (h : Fin 8) (i : Fin 256) (j : Fin 768) :
    tableOf rel (ix4 p h i j)
      = if j.val / 64 ≤ i.val / 64 + 8 ∧ i.val / 64 ≤ j.val / 64 ∧ 512 ≤ j.val + 256 * p.val then
          rel (ix2 h ⟨min (640 + i.val - j.val) 256, by omega⟩)
        else ⊥ := by
  pointwise [tableOf]
  rw [maskedFrom_apply _ (.inl rfl), maskedFrom_apply _ (.inr (.inl rfl)), maskedFrom_apply _ (.inr (.inr rfl))]
  split_ifs with h1 h2 <;> first | rfl | (exfalso; simp only [BitVec.toNat_ofNat] at *; omega)

end Cert.Table

end
-- ==== Proof.Band.lean ====
/- The band attention in plain numbers: the kernel's 768 scores of a row, most of them −∞, against the reference's 576. -/
module

public import proofs.«01_k».proof.Proof.Soft
public import Idealize.ShloMosaic.Lib.Pointwise

@[expose] public section

set_option maxRecDepth 16384

noncomputable section

namespace Cert.Band

open Cert.Soft Idealize.ShloMosaic

variable (x : Vec Ideal ⟨2, ![16384, 3584]⟩ .bf16) (y : Vec Ideal ⟨2, ![8, 257]⟩ .f32)

/-- The projection's entry at a row and a column. -/
def ent (r c : ℕ) : EReal := if h : r < 16384 ∧ c < 3584 then x (ix2 ⟨r, h.1⟩ ⟨c, h.2⟩) else 0

/-- The bias of a head at a position. -/
def rel (h : Fin 8) (e : ℕ) : EReal := if he : e < 257 then y (ix2 h ⟨e, he⟩) else 0

theorem ent_eq {r c : ℕ} (a : Fin 16384) (b : Fin 3584) (ha : a.val = r) (hb : b.val = c) : x (ix2 a b) = ent x r c := by
  subst ha hb
  unfold ent
  rw [dif_pos (show a.val < 16384 ∧ b.val < 3584 from ⟨a.isLt, b.isLt⟩)]

theorem ent_at {r c : ℕ} (z : (⟨2, ![16384, 3584]⟩ : Shape).Idx) (ha : (z 0).val = r) (hb : (z 1).val = c) : x z = ent x r c := by
  have e : z = ix2 (z 0) (z 1) := by funext a; match a with | ⟨0, _⟩ => rfl | ⟨1, _⟩ => rfl
  rw [e]
  exact ent_eq x (z 0) (z 1) ha hb

theorem rel_eq (h : Fin 8) {e : ℕ} (a : Fin 257) (ha : a.val = e) : y (ix2 h a) = rel y h e := by
  subst ha
  unfold rel
  rw [dif_pos a.isLt]

/-- The row of key `j` of the 768 that row block `n` reads. -/
def keyRow (n j : ℕ) : ℕ := (32 * (n / 32) + (n % 32 - (2 - j / 256))) * 256 + j % 256

/-- The kernel's score of row `i` of block `n` against key `j`. -/
def wide (n : Fin 64) (h : Fin 8) (i : Fin 256) (j : Fin 768) : EReal :=
  (∑ d : Fin 128, ent x (256 * n.val + i.val) (128 * h.val + d.val) * ent x (keyRow n.val j.val) (1024 + (128 * h.val + d.val)))
    + if j.val / 64 ≤ i.val / 64 + 8 ∧ i.val / 64 ≤ j.val / 64 ∧ 512 ≤ j.val + 256 * min (n.val % 32) 2 then
        rel y h (min (640 + i.val - j.val) 256) else ⊥

/-- The reference's score of row `i` of chunk `n` of sequence `b` against key `k` of the chunk's band. -/
def near (b : Fin 2) (n : Fin 128) (h : Fin 8) (i : Fin 64) (k : Fin 576) : EReal :=
  if 8 ≤ n.val + k.val / 64 then
    (∑ d : Fin 128, ent x (b.val * 8192 + n.val * 64 + i.val) (h.val * 128 + d.val)
        * ent x (b.val * 8192 + (n.val + k.val / 64 - 8) * 64 + k.val % 64) (1024 + (h.val * 128 + d.val)))
      + rel y h (min (640 + i.val - k.val) 256)
  else ⊥

/-- The value of key `k` of the band. -/
def nearValue (b : Fin 2) (n : Fin 128) (h : Fin 8) (k : Fin 576) (d : Fin 128) : EReal :=
  if 8 ≤ n.val + k.val / 64 then ent x (b.val * 8192 + (n.val + k.val / 64 - 8) * 64 + k.val % 64) (2048 + (h.val * 128 + d.val)) else 0

/-- A number that is neither infinity is real. -/
theorem exists_real {u : EReal} (h : u ≠ ⊤ ∧ u ≠ ⊥) : ∃ r : ℝ, u = r := ⟨u.toReal, (EReal.coe_toReal h.1 h.2).symm⟩

section
variable (hx : ∀ (r : Fin 16384) (c : Fin 3584), c.val < 2048 → (x (ix2 r c) : EReal) ≠ ⊤ ∧ (x (ix2 r c) : EReal) ≠ ⊥)
  (hy : ∀ (a : Fin 8) (c : Fin 257), (y (ix2 a c) : EReal) ≠ ⊤ ∧ (y (ix2 a c) : EReal) ≠ ⊥)

include hx in
theorem ent_real (r c : ℕ) (hc : c < 2048) : ∃ q : ℝ, ent x r c = q := by
  unfold ent
  by_cases h : r < 16384 ∧ c < 3584
  · rw [dif_pos h]
    exact exists_real (hx ⟨r, h.1⟩ ⟨c, h.2⟩ hc)
  · rw [dif_neg h]
    exact ⟨0, rfl⟩

include hy in
theorem rel_real (h : Fin 8) (e : ℕ) : ∃ q : ℝ, rel y h e = q := by
  unfold rel
  by_cases he : e < 257
  · rw [dif_pos he]
    exact exists_real (hy h ⟨e, he⟩)
  · rw [dif_neg he]
    exact ⟨0, rfl⟩

include hx hy in
theorem near_real (b : Fin 2) (n : Fin 128) (h : Fin 8) (i : Fin 64) (k : Fin 576) (hk : 8 ≤ n.val + k.val / 64) :
    ∃ q : ℝ, near x y b n h i k = q := by
  unfold near
  rw [if_pos hk]
  choose f hf using fun d : Fin 128 => ent_real x hx (b.val * 8192 + n.val * 64 + i.val) (h.val * 128 + d.val) (by omega)
  choose g hg using fun d : Fin 128 =>
    ent_real x hx (b.val * 8192 + (n.val + k.val / 64 - 8) * 64 + k.val % 64) (1024 + (h.val * 128 + d.val)) (by omega)
  obtain ⟨t, ht⟩ := rel_real y hy h (min (640 + i.val - k.val) 256)
  refine ⟨(∑ d, f d * g d) + t, ?_⟩
  rw [ht, EReal.coe_add]
  refine congrArg (fun s : EReal => s + (t : EReal)) ?_
  rw [← sum_coe]
  exact Finset.sum_congr rfl fun d _ => by rw [hf, hg, EReal.coe_mul]

include hx hy in
/-- The kernel's quotient over 768 keys is the reference's weighted sum over the 576 keys of the band. -/
theorem band_eq (n : Fin 64) (h : Fin 8) (i : Fin 256) (d : Fin 128) (b : Fin 2) (c : Fin 128) (q : Fin 64)
    (hb : b.val = n.val / 32) (hc : c.val = 4 * (n.val % 32) + i.val / 64) (hq : q.val = i.val % 64) :
    Ideal.div (∑ j, Ideal.exp (wide x y n h i j - Finset.univ.sup (wide x y n h i)) * ent x (keyRow n.val j.val) (2048 + (128 * h.val + d.val)))
        (∑ j, Ideal.exp (wide x y n h i j - Finset.univ.sup (wide x y n h i)))
      = ∑ k, nearValue x b c h k d * Ideal.div (Ideal.exp (near x y b c h q k - Finset.univ.sup (near x y b c h q)))
          (∑ k, Ideal.exp (near x y b c h q k - Finset.univ.sup (near x y b c h q))) := by
  have row (k : Fin 576) (hk : 8 ≤ c.val + k.val / 64) :
      keyRow n.val (k.val + 64 * (i.val / 64)) = b.val * 8192 + (c.val + k.val / 64 - 8) * 64 + k.val % 64 := by
    unfold keyRow; omega
  refine attend_eq (fun k : Fin 576 => (⟨k.val + 64 * (i.val / 64), by omega⟩ : Fin 768)) ?_ _ _ _ _ ?_ ?_ ?_ ?_ ⟨512 + q.val, by omega⟩ ?_
  · intro k k' e
    have := congrArg Fin.val e
    exact Fin.ext (by simpa using this)
  · intro j hj
    unfold wide
    rw [if_neg ?_, EReal.add_bot]
    rintro ⟨h1, h2, h3⟩
    exact hj ⟨⟨j.val - 64 * (i.val / 64), by omega⟩, Fin.ext (by show j.val - 64 * (i.val / 64) + 64 * (i.val / 64) = j.val; omega)⟩
  · intro k
    unfold wide near
    by_cases hk : 8 ≤ c.val + k.val / 64
    · rw [if_pos hk, if_pos ⟨by show (k.val + 64 * (i.val / 64)) / 64 ≤ _; omega, by show _ ≤ (k.val + 64 * (i.val / 64)) / 64; omega,
        by show 512 ≤ k.val + 64 * (i.val / 64) + _; omega⟩]
      refine congrArg₂ (fun s t : EReal => s + t) (Finset.sum_congr rfl fun d _ => ?_) ?_
      · show ent x _ _ * ent x (keyRow n.val (k.val + 64 * (i.val / 64))) _ = _
        rw [row k hk, Nat.mul_comm 128 h.val, show 256 * n.val + i.val = b.val * 8192 + c.val * 64 + q.val by omega]
      · show rel y h (min (640 + i.val - (k.val + 64 * (i.val / 64))) 256) = _
        rw [show 640 + i.val - (k.val + 64 * (i.val / 64)) = 640 + q.val - k.val by omega]
    · rw [if_neg hk, if_neg ?_, EReal.add_bot]
      rintro ⟨_, _, h3⟩
      have h3' : 512 ≤ k.val + 64 * (i.val / 64) + 256 * min (n.val % 32) 2 := h3
      omega
  · intro k hk
    have hk' : 8 ≤ c.val + k.val / 64 := by
      by_contra hn
      exact hk (by unfold near; rw [if_neg hn])
    unfold nearValue
    rw [if_pos hk', Nat.mul_comm h.val 128]
    show ent x (keyRow n.val (k.val + 64 * (i.val / 64))) _ = _
    rw [row k hk']
  · intro k
    by_cases hk : 8 ≤ c.val + k.val / 64
    · obtain ⟨r, hr⟩ := near_real x y hx hy b c h q k hk
      rw [hr]; exact EReal.coe_ne_top r
    · unfold near; rw [if_neg hk]; exact bot_ne_top
  · obtain ⟨r, hr⟩ := near_real x y hx hy b c h q ⟨512 + q.val, by omega⟩ (by show 8 ≤ c.val + (512 + q.val) / 64; omega)
    rw [hr]; exact EReal.coe_ne_bot r

end

end Cert.Band

end
-- ==== Proof.KernelValue.lean ====
/- The kernel's result at an index, in plain numbers. -/
module

public import proofs.«01_k».proof.Proof.Windows
public import proofs.«01_k».proof.Proof.Table
public import proofs.«01_k».proof.Proof.TableAt
public import proofs.«01_k».proof.Proof.Band

@[expose] public section

set_option maxRecDepth 16384

noncomputable section

namespace Cert.KernelValue

open Cert.Soft Cert.Head Cert.Block Cert.Windows Cert.Table Cert.Band Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The projection and the bias, as the kernel's arguments hold them. -/
abbrev arg0 : Vec Ideal ⟨2, ![16384, 3584]⟩ .bf16 := m ((c : Thread nD τ).loc main_arg0)
abbrev arg1 : Vec Ideal ⟨2, ![8, 257]⟩ .f32 := m ((c : Thread nD τ).loc main_arg1)

theorem query (n : Fin 64) (h : Fin 8) (r : Fin 256) (d : Fin 128) :
    View.ld (X0_0 m c (pt n)) (cols h) (ix2 r d) = ent (arg0 m c) (256 * n.val + r.val) (128 * h.val + d.val) := by
  rw [← ent_eq (arg0 m c) ⟨256 * n.val + r.val, by omega⟩ ⟨128 * h.val + d.val, by omega⟩ rfl rfl]
  refine block_0 m c (pt n) _ _ ?_ ?_
  · show 256 * n.val + r.val = n.val * 256 + (0 + 1 * r.val); omega
  · show 128 * h.val + d.val = 0 + (128 * h.val + 1 * d.val); omega

theorem block1 (n : Fin 64) (h : Fin 8) (r : Fin 256) (d : Fin 128) :
    View.ld (X0_1 m c (pt n)) (cols h) (ix2 r d) = ent (arg0 m c) ((32 * (n.val / 32) + (n.val % 32 - 2)) * 256 + r.val) (1024 + (128 * h.val + d.val)) := by
  rw [← ent_eq (arg0 m c) ⟨(32 * (n.val / 32) + (n.val % 32 - 2)) * 256 + r.val, by omega⟩ ⟨1024 + (128 * h.val + d.val), by omega⟩ rfl rfl]
  refine block_1 m c (pt n) _ _ ?_ ?_
  · show (32 * (n.val / 32) + (n.val % 32 - 2)) * 256 + r.val = (32 * (n.val / 32) + (n.val % 32 - 2)) * 256 + (0 + 1 * r.val); omega
  · show 1024 + (128 * h.val + d.val) = 1024 + (128 * h.val + 1 * d.val); omega

theorem block2 (n : Fin 64) (h : Fin 8) (r : Fin 256) (d : Fin 128) :
    View.ld (X0_2 m c (pt n)) (cols h) (ix2 r d) = ent (arg0 m c) ((32 * (n.val / 32) + (n.val % 32 - 1)) * 256 + r.val) (1024 + (128 * h.val + d.val)) := by
  rw [← ent_eq (arg0 m c) ⟨(32 * (n.val / 32) + (n.val % 32 - 1)) * 256 + r.val, by omega⟩ ⟨1024 + (128 * h.val + d.val), by omega⟩ rfl rfl]
  refine block_2 m c (pt n) _ _ ?_ ?_
  · show (32 * (n.val / 32) + (n.val % 32 - 1)) * 256 + r.val = (32 * (n.val / 32) + (n.val % 32 - 1)) * 256 + (0 + 1 * r.val); omega
  · show 1024 + (128 * h.val + d.val) = 1024 + (128 * h.val + 1 * d.val); omega

theorem block3 (n : Fin 64) (h : Fin 8) (r : Fin 256) (d : Fin 128) :
    View.ld (X0_3 m c (pt n)) (cols h) (ix2 r d) = ent (arg0 m c) (n.val * 256 + r.val) (1024 + (128 * h.val + d.val)) := by
  rw [← ent_eq (arg0 m c) ⟨n.val * 256 + r.val, by omega⟩ ⟨1024 + (128 * h.val + d.val), by omega⟩ rfl rfl]
  refine block_3 m c (pt n) _ _ ?_ ?_
  · show n.val * 256 + r.val = n.val * 256 + (0 + 1 * r.val); omega
  · show 1024 + (128 * h.val + d.val) = 1024 + (128 * h.val + 1 * d.val); omega

theorem block4 (n : Fin 64) (h : Fin 8) (r : Fin 256) (d : Fin 128) :
    View.ld (X0_4 m c (pt n)) (cols h) (ix2 r d) = ent (arg0 m c) ((32 * (n.val / 32) + (n.val % 32 - 2)) * 256 + r.val) (2048 + (128 * h.val + d.val)) := by
  rw [← ent_eq (arg0 m c) ⟨(32 * (n.val / 32) + (n.val % 32 - 2)) * 256 + r.val, by omega⟩ ⟨2048 + (128 * h.val + d.val), by omega⟩ rfl rfl]
  refine block_4 m c (pt n) _ _ ?_ ?_
  · show (32 * (n.val / 32) + (n.val % 32 - 2)) * 256 + r.val = (32 * (n.val / 32) + (n.val % 32 - 2)) * 256 + (0 + 1 * r.val); omega
  · show 2048 + (128 * h.val + d.val) = 2048 + (128 * h.val + 1 * d.val); omega

theorem block5 (n : Fin 64) (h : Fin 8) (r : Fin 256) (d : Fin 128) :
    View.ld (X0_5 m c (pt n)) (cols h) (ix2 r d) = ent (arg0 m c) ((32 * (n.val / 32) + (n.val % 32 - 1)) * 256 + r.val) (2048 + (128 * h.val + d.val)) := by
  rw [← ent_eq (arg0 m c) ⟨(32 * (n.val / 32) + (n.val % 32 - 1)) * 256 + r.val, by omega⟩ ⟨2048 + (128 * h.val + d.val), by omega⟩ rfl rfl]
  refine block_5 m c (pt n) _ _ ?_ ?_
  · show (32 * (n.val / 32) + (n.val % 32 - 1)) * 256 + r.val = (32 * (n.val / 32) + (n.val % 32 - 1)) * 256 + (0 + 1 * r.val); omega
  · show 2048 + (128 * h.val + d.val) = 2048 + (128 * h.val + 1 * d.val); omega

theorem block6 (n : Fin 64) (h : Fin 8) (r : Fin 256) (d : Fin 128) :
    View.ld (X0_6 m c (pt n)) (cols h) (ix2 r d) = ent (arg0 m c) (n.val * 256 + r.val) (2048 + (128 * h.val + d.val)) := by
  rw [← ent_eq (arg0 m c) ⟨n.val * 256 + r.val, by omega⟩ ⟨2048 + (128 * h.val + d.val), by omega⟩ rfl rfl]
  refine block_6 m c (pt n) _ _ ?_ ?_
  · show n.val * 256 + r.val = n.val * 256 + (0 + 1 * r.val); omega
  · show 2048 + (128 * h.val + d.val) = 2048 + (128 * h.val + 1 * d.val); omega

theorem bias (n : Fin 64) (h : Fin 8) (i : Fin 256) (j : Fin 768) :
    View.ld (iblk m c 7 (pt n)) (plane h) (ix4 0 0 i j)
      = if j.val / 64 ≤ i.val / 64 + 8 ∧ i.val / 64 ≤ j.val / 64 ∧ 512 ≤ j.val + 256 * min (n.val % 32) 2 then
          rel (arg1 m c) h (min (640 + i.val - j.val) 256) else ⊥ := by
  have e : View.ld (iblk m c 7 (pt n)) (plane h) (ix4 0 0 i j) = V m c main_v45 (ix4 ⟨min (n.val % 32) 2, by omega⟩ h i j) := by
    refine block_7 m c (pt n) _ _ rfl ?_ ?_ ?_
    · show h.val = h.val + 1 * 0; omega
    · show i.val = 0 + 1 * i.val; omega
    · show j.val = 0 + 1 * j.val; omega
  rw [e, table_eq, tableOf_apply]
  split_ifs with hc
  · exact rel_eq (arg1 m c) h _ rfl
  · rfl

/-- One of three blocks of 256 rows, each of which reads the rows it holds. -/
theorem cat3_eq (g₀ g₁ g₂ : Fin 256 → EReal) (F : ℕ → EReal) (n : Fin 64)
    (h0 : ∀ r : Fin 256, g₀ r = F ((32 * (n.val / 32) + (n.val % 32 - 2)) * 256 + r.val))
    (h1 : ∀ r : Fin 256, g₁ r = F ((32 * (n.val / 32) + (n.val % 32 - 1)) * 256 + r.val))
    (h2 : ∀ r : Fin 256, g₂ r = F (n.val * 256 + r.val)) (j : Fin 768) :
    cat3 g₀ g₁ g₂ j = F (keyRow n.val j.val) := by
  unfold cat3 keyRow
  split_ifs with a b
  · rw [h0]; refine congrArg F ?_; show _ + j.val = _; rw [show j.val / 256 = 0 by omega]; omega
  · rw [h1]; refine congrArg F ?_; show _ + (j.val - 256) = _; rw [show j.val / 256 = 1 by omega]; omega
  · rw [h2]; refine congrArg F ?_; show _ + (j.val - 256 - 256) = _; rw [show j.val / 256 = 2 by omega]; omega

theorem score_eq (n : Fin 64) (h : Fin 8) (i : Fin 256) (j : Fin 768) :
    scores (View.ld (X0_0 m c (pt n)) (cols h)) (View.ld (X0_1 m c (pt n)) (cols h)) (View.ld (X0_2 m c (pt n)) (cols h))
        (View.ld (X0_3 m c (pt n)) (cols h)) (View.ld (iblk m c 7 (pt n)) (plane h)) (ix2 i j)
      = wide (arg0 m c) (arg1 m c) n h i j := by
  rw [scores_apply, bias]
  unfold wide
  refine congrArg (fun s : EReal => s + _) ?_
  refine cat3_eq _ _ _ (fun k => ∑ d : Fin 128, ent (arg0 m c) (256 * n.val + i.val) (128 * h.val + d.val) * ent (arg0 m c) k (1024 + (128 * h.val + d.val))) n ?_ ?_ ?_ j
  · intro r; exact Finset.sum_congr rfl fun d _ => by rw [query, block1]
  · intro r; exact Finset.sum_congr rfl fun d _ => by rw [query, block2]
  · intro r; exact Finset.sum_congr rfl fun d _ => by rw [query, block3]

/-- The quotient of a row: its scores' exponentials weigh the values, over their sum. -/
def quot (S V : Fin 768 → EReal) : EReal :=
  Ideal.div (∑ j, Ideal.exp (S j - Finset.univ.sup S) * V j) (∑ j, Ideal.exp (S j - Finset.univ.sup S))

theorem value (n : Fin 64) (h : Fin 8) (i : Fin 256) (d : Fin 128) (z : S16384x1024.Idx)
    (h0 : (z 0).val = 256 * n.val + i.val) (h1 : (z 1).val = 128 * h.val + d.val) :
    (dats m 0 c).arrAt 8 cfg0.N z
      = Ideal.div (∑ j, Ideal.exp (wide (arg0 m c) (arg1 m c) n h i j - Finset.univ.sup (wide (arg0 m c) (arg1 m c) n h i))
            * ent (arg0 m c) (keyRow n.val j.val) (2048 + (128 * h.val + d.val)))
          (∑ j, Ideal.exp (wide (arg0 m c) (arg1 m c) n h i j - Finset.univ.sup (wide (arg0 m c) (arg1 m c) n h i))) := by
  rw [result_apply m c n i h d z h0 h1]
  unfold headOut
  rw [Cert.Head.out_apply]
  exact congrArg₂ quot (funext fun j => score_eq m c n h i j) (funext fun j =>
    cat3_eq _ _ _ (fun k => ent (arg0 m c) k (2048 + (128 * h.val + d.val))) n (fun r => block4 m c n h r d) (fun r => block5 m c n h r d)
      (fun r => block6 m c n h r d) j)

end Cert.KernelValue

end
-- ==== Proof.RefKeys.lean ====
/- The reference's queries, keys and values at an index: the nine chunks of keys before and at each query's chunk, zeros
   before the first. -/
module

public import proofs.«01_k».proof.Proof.Gen.ReferenceIdeal.Read
public import Idealize.ShloMosaic.Lib.Pointwise

@[expose] public section

set_option maxRecDepth 16384

noncomputable section

namespace Cert.RefValue

open Cert.ReferenceIdeal Cert.ReferenceIdeal.Gen Cert.ReferenceIdeal.Read Idealize.ShloMosaic

theorem zero_word : (FloatOps.sitofp (F := Ideal) .f32 (0#32) : EReal) = 0 := by
  show (((0#32 : BitVec 32).toInt : ℝ) : EReal) = 0
  simp

theorem q_apply (x : Vec Ideal S16384x3584 .bf16) (b : Fin 2) (n : Fin 128) (i : Fin 64) (h : Fin 8) (d : Fin 128) :
    val_main_v2 (F := Ideal) x (ix5 b n i h d)
      = x (ix2 ⟨b.val * 8192 + n.val * 64 + i.val, by omega⟩ ⟨h.val * 128 + d.val, by omega⟩) := by
  pointwise [val_main_v2, val_main_v1, val_main_v0]

theorem k_apply (x : Vec Ideal S16384x3584 .bf16) (b : Fin 2) (n : Fin 136) (i : Fin 64) (h : Fin 8) (d : Fin 128) :
    val_main_v7 (F := Ideal) x (ix5 b n i h d)
      = if hn : 8 ≤ n.val then x (ix2 ⟨b.val * 8192 + (n.val - 8) * 64 + i.val, by omega⟩ ⟨1024 + (h.val * 128 + d.val), by omega⟩)
        else 0 := by
  pointwise [val_main_v7, val_main_v4, val_main_v3, val_main_v0]
  have e : val_main_call0_v0 (F := Ideal) (Shape.Idx.first h_S_) = (0 : EReal) := zero_word
  rw [e]
  by_cases hn : 8 ≤ n.val
  · rw [dif_pos ⟨hn, by omega⟩, dif_pos hn]
  · rw [dif_neg (fun h => hn h.1), dif_neg hn]

theorem v_apply (x : Vec Ideal S16384x3584 .bf16) (b : Fin 2) (n : Fin 136) (i : Fin 64) (h : Fin 8) (d : Fin 128) :
    val_main_v8 (F := Ideal) x (ix5 b n i h d)
      = if hn : 8 ≤ n.val then x (ix2 ⟨b.val * 8192 + (n.val - 8) * 64 + i.val, by omega⟩ ⟨2048 + (h.val * 128 + d.val), by omega⟩)
        else 0 := by
  pointwise [val_main_v8, val_main_v6, val_main_v5, val_main_v0]
  have e : val_main_call1_v0 (F := Ideal) (Shape.Idx.first h_S_) = (0 : EReal) := zero_word
  rw [e]
  by_cases hn : 8 ≤ n.val
  · rw [dif_pos ⟨hn, by omega⟩, dif_pos hn]
  · rw [dif_neg (fun h => hn h.1), dif_neg hn]

theorem keys_apply (x : Vec Ideal S16384x3584 .bf16) (b : Fin 2) (n : Fin 128) (k : Fin 576) (h : Fin 8) (d : Fin 128) :
    val_main_v18 (F := Ideal) x (ix5 b n k h d)
      = val_main_v7 (F := Ideal) x (ix5 b ⟨n.val + k.val / 64, by omega⟩ ⟨k.val % 64, by omega⟩ h d) := by
  have key (u : Fin 136) (w : Fin 64) (hu : u.val = n.val + k.val / 64) (hw : w.val = k.val % 64) :
      val_main_v7 (F := Ideal) x (ix5 b u w h d)
        = val_main_v7 (F := Ideal) x (ix5 b ⟨n.val + k.val / 64, by omega⟩ ⟨k.val % 64, by omega⟩ h d) := by
    obtain ⟨u, hu'⟩ := u
    obtain ⟨w, hw'⟩ := w
    obtain rfl : u = n.val + k.val / 64 := hu
    obtain rfl : w = k.val % 64 := hw
    rfl
  pointwise [val_main_v18, val_main_v9, val_main_v10, val_main_v11, val_main_v12, val_main_v13, val_main_v14, val_main_v15, val_main_v16, val_main_v17]
  split_ifs <;> exact key _ _ (by first | (show n.val = _; omega) | (show _ + n.val = _; omega)) (by show _ = k.val % 64; dsimp only; omega)

theorem values_apply (x : Vec Ideal S16384x3584 .bf16) (b : Fin 2) (n : Fin 128) (k : Fin 576) (h : Fin 8) (d : Fin 128) :
    val_main_v28 (F := Ideal) x (ix5 b n k h d)
      = val_main_v8 (F := Ideal) x (ix5 b ⟨n.val + k.val / 64, by omega⟩ ⟨k.val % 64, by omega⟩ h d) := by
  have key (u : Fin 136) (w : Fin 64) (hu : u.val = n.val + k.val / 64) (hw : w.val = k.val % 64) :
      val_main_v8 (F := Ideal) x (ix5 b u w h d)
        = val_main_v8 (F := Ideal) x (ix5 b ⟨n.val + k.val / 64, by omega⟩ ⟨k.val % 64, by omega⟩ h d) := by
    obtain ⟨u, hu'⟩ := u
    obtain ⟨w, hw'⟩ := w
    obtain rfl : u = n.val + k.val / 64 := hu
    obtain rfl : w = k.val % 64 := hw
    rfl
  pointwise [val_main_v28, val_main_v19, val_main_v20, val_main_v21, val_main_v22, val_main_v23, val_main_v24, val_main_v25, val_main_v26, val_main_v27]
  split_ifs <;> exact key _ _ (by first | (show n.val = _; omega) | (show _ + n.val = _; omega)) (by show _ = k.val % 64; dsimp only; omega)

end Cert.RefValue

end
-- ==== Proof.RefWords.lean ====
/- The reference's index words. -/
module

public import proofs.«01_k».proof.Proof.RefKeys
public import proofs.«01_k».proof.Proof.Head

@[expose] public section

set_option maxRecDepth 16384

noncomputable section

namespace Cert.RefValue

open Cert.Soft Cert.Head Cert.ReferenceIdeal Cert.ReferenceIdeal.Gen Cert.ReferenceIdeal.Read Idealize.ShloMosaic

/-- The clipped distance as a position of the bias row, as the words compute it. -/
theorem index_word : ∀ (i : Fin 64) (k : Fin 576),
    Scalar.select
      (IntOp.cmpi .slt (IntOp.addi (IntOp.minsi 128#32 (IntOp.maxsi 4294967168#32 (IntOp.subi (IntOp.addi 512#32 (BitVec.ofNat 32 i.val)) (BitVec.ofNat 32 k.val)))) 128#32) 0#32)
      (IntOp.addi (IntOp.addi (IntOp.minsi 128#32 (IntOp.maxsi 4294967168#32 (IntOp.subi (IntOp.addi 512#32 (BitVec.ofNat 32 i.val)) (BitVec.ofNat 32 k.val)))) 128#32) 257#32)
      (IntOp.addi (IntOp.minsi 128#32 (IntOp.maxsi 4294967168#32 (IntOp.subi (IntOp.addi 512#32 (BitVec.ofNat 32 i.val)) (BitVec.ofNat 32 k.val)))) 128#32)
      = BitVec.ofNat 32 (min (640 + i.val - k.val) 256) := by
  decide +kernel

theorem valid_word : ∀ (n : Fin 128) (k : Fin 576),
    IntOp.cmpi .sge (IntOp.addi (BitVec.ofNat 32 n.val) (IntOp.divsi .host (BitVec.ofNat 32 k.val) 64#32)) 8#32
      = if 8 ≤ n.val + k.val / 64 then 1#1 else 0#1 := by
  decide +kernel

end Cert.RefValue

end
-- ==== Proof.RefScores.lean ====
/- The reference's bias, validity and scores at an index. -/
module

public import proofs.«01_k».proof.Proof.RefKeys
public import proofs.«01_k».proof.Proof.Head
public import proofs.«01_k».proof.Proof.RefWords

@[expose] public section

set_option maxRecDepth 16384

noncomputable section

namespace Cert.RefValue

open Cert.Soft Cert.Head Cert.ReferenceIdeal Cert.ReferenceIdeal.Gen Cert.ReferenceIdeal.Read Idealize.ShloMosaic

theorem index_apply (i : Fin 64) (k : Fin 576) (z : Fin 1) :
    val_main_v47 (F := Ideal) (ix3 i k z) = BitVec.ofNat 32 (min (640 + i.val - k.val) 256) := by
  pointwise [val_main_v47, val_main_v46, val_main_v45, val_main_v44, val_main_v43, val_main_v42, val_main_v41, val_main_v40, val_main_v39, val_main_call2_v4, val_main_call2_v3, val_main_call2_v2, val_main_call2_v1, val_main_call2_v0, val_main_v38, val_main_v37, val_main_v36, val_main_v35, val_main_v34, val_main_v33, val_main_v32, val_main_v31, val_main_v30, val_main_c_1, val_main_c_2, val_main_c_3, val_main_c_4, val_main_c_5, val_main_c_6]
  exact index_word i k

theorem valid_apply (n : Fin 128) (k : Fin 576) :
    val_main_v57 (F := Ideal) (ix2 n k) = if 8 ≤ n.val + k.val / 64 then 1#1 else 0#1 := by
  pointwise [val_main_v57, val_main_v56, val_main_v55, val_main_v54, val_main_v53, val_main_v52, val_main_v51, val_main_v50, val_main_v49, val_main_v33, val_main_v32, val_main_c_7, val_main_c_8]
  exact valid_word n k

theorem clamp_word : ∀ e : Fin 257, min (BitVec.ofNat 32 e.val).toInt.toNat (257 - 1) = e.val := by
  decide +kernel

/-- The gathered bias: row `h` of the bias at the position that the index array holds. -/
theorem gather_apply (y : Vec Ideal S8x257 .f32) (p : IVec S64x576x1 32) (h : Fin 8) (i : Fin 64) (k : Fin 576) :
    Host.gather gather_S8x257_S64x576x1_S8x64x576_0_1_n_n_1_2_81 y p (ix3 h i k)
      = y (ix2 h ⟨min (p (ix3 i k 0)).toInt.toNat (257 - 1), by omega⟩) := by
  unfold Host.gather
  refine congrArg y ?_
  funext a; apply Fin.ext
  match a with
  | ⟨0, _⟩ => exact Nat.zero_add h.val
  | ⟨1, _⟩ =>
    show GatherDims.start gather_S8x257_S64x576x1_S8x64x576_0_1_n_n_1_2_81 (ix3 h i k) p (⟨1, by decide⟩ : Fin S8x257.rank) = _
    unfold GatherDims.start
    rw [dif_pos (show (⟨1, by decide⟩ : Fin S8x257.rank) ∈ gather_S8x257_S64x576x1_S8x64x576_0_1_n_n_1_2_81.startIndexMap from List.mem_singleton.mpr rfl)]
    have e : gather_S8x257_S64x576x1_S8x64x576_0_1_n_n_1_2_81.siIdx (ix3 h i k)
        ⟨List.idxOf (⟨1, by decide⟩ : Fin S8x257.rank) gather_S8x257_S64x576x1_S8x64x576_0_1_n_n_1_2_81.startIndexMap,
          List.idxOf_lt_length_of_mem (List.mem_singleton.mpr rfl)⟩ = ix3 i k 0 := by
      funext b; apply Fin.ext
      match b with
      | ⟨0, _⟩ => rfl
      | ⟨1, _⟩ => rfl
      | ⟨2, _⟩ => rfl
    exact congrArg (fun q => min (BitVec.toInt (n := 32) (p q)).toNat (257 - 1)) e

theorem gather_at (y : Vec Ideal S8x257 .f32) (p : IVec S64x576x1 32) (h : Fin 8) (i : Fin 64) (k : Fin 576) (e : Fin 257)
    (he : p (ix3 i k 0) = BitVec.ofNat 32 e.val) :
    Host.gather gather_S8x257_S64x576x1_S8x64x576_0_1_n_n_1_2_81 y p (ix3 h i k) = y (ix2 h e) := by
  rw [gather_apply]
  have h2 : min (p (ix3 i k 0)).toInt.toNat (257 - 1) = e.val := by rw [he]; exact clamp_word e
  have h3 : (⟨min (p (ix3 i k 0)).toInt.toNat (257 - 1), by omega⟩ : Fin 257) = e := Fin.ext h2
  rw [h3]

theorem rel_apply (y : Vec Ideal S8x257 .f32) (h : Fin 8) (i : Fin 64) (k : Fin 576) :
    val_main_v48 (F := Ideal) y (ix3 h i k) = y (ix2 h ⟨min (640 + i.val - k.val) 256, by omega⟩) := by
  unfold val_main_v48
  exact gather_at y _ h i k ⟨min (640 + i.val - k.val) 256, by omega⟩ (index_apply i k 0)

theorem score_apply (x : Vec Ideal S16384x3584 .bf16) (y : Vec Ideal S8x257 .f32) (b : Fin 2) (n : Fin 128) (h : Fin 8) (i : Fin 64) (k : Fin 576) :
    val_main_v62 (F := Ideal) x y (ix5 b n h i k)
      = if 8 ≤ n.val + k.val / 64 then
          (∑ d : Fin 128, val_main_v2 (F := Ideal) x (ix5 b n i h d) * val_main_v18 (F := Ideal) x (ix5 b n k h d))
            + val_main_v48 (F := Ideal) y (ix3 h i k)
        else ⊥ := by
  pointwise [val_main_v62, val_main_v61, val_main_v60, val_main_v59, val_main_v58, val_main_v29, val_main_call3_v2, val_main_call3_v1, val_main_call3_v0, val_main_cst]
  rw [valid_apply]
  by_cases hk : 8 ≤ n.val + k.val / 64
  · rw [if_pos hk, if_pos hk]; rfl
  · rw [if_neg hk, if_neg hk]; exact ofBits_bot

end Cert.RefValue

end
-- ==== Proof.RefSoft.lean ====
/- The reference's softmax and result at an index. -/
module

public import proofs.«01_k».proof.Proof.RefScores
public import proofs.«01_k».proof.Proof.Head

@[expose] public section

set_option maxRecDepth 16384

noncomputable section

namespace Cert.RefValue

open Cert.Soft Cert.Head Cert.ReferenceIdeal Cert.ReferenceIdeal.Gen Cert.ReferenceIdeal.Read Idealize.ShloMosaic

/-- A row's maximum, in any scores. -/
theorem max_gen (s : FVec Ideal S2x128x8x64x576 .f32) (b : Fin 2) (n : Fin 128) (h : Fin 8) (i : Fin 64) :
    (Host.reduce FloatOps.maximumf s (constant (F := Ideal) S_ .f32 0xFF800000#32) reducesTo_S2x128x8x64x576_S2x128x8x64_d4 h_S_ : FVec Ideal S2x128x8x64 .f32) (ix4 b n h i)
      = Finset.univ.sup fun k => (s (ix5 b n h i k) : EReal) := by
  pointwise
  rw [ofBits_bot]
  exact fold_max_eq_sup _ _

/-- The maximum against −∞ changes nothing. -/
theorem clip_gen (s : FVec Ideal S2x128x8x64 .f32) (b : Fin 2) (n : Fin 128) (h : Fin 8) (i : Fin 64) :
    (maximumf (broadcastInDim S2x128x8x64 ![] bcast_S_S2x128x8x64 (constant (F := Ideal) S_ .f32 0xFF800000#32)) s : FVec Ideal S2x128x8x64 .f32) (ix4 b n h i)
      = s (ix4 b n h i) := by
  pointwise
  rw [ofBits_bot]
  exact max_eq_right bot_le

/-- The exponential of the scores less a number for each row. -/
theorem exp_gen (s : FVec Ideal S2x128x8x64x576 .f32) (t : FVec Ideal S2x128x8x64 .f32) (b : Fin 2) (n : Fin 128) (h : Fin 8) (i : Fin 64) (k : Fin 576) :
    (Host.exp (subf s (broadcastInDim S2x128x8x64x576 ![0, 1, 2, 3, 4] bcast_S2x128x8x64x1_S2x128x8x64x576_0_1_2_3_4
      (broadcastInDim S2x128x8x64x1 ![0, 1, 2, 3] bcast_S2x128x8x64_S2x128x8x64x1_0_1_2_3 t))) : FVec Ideal S2x128x8x64x576 .f32) (ix5 b n h i k)
      = Ideal.exp (s (ix5 b n h i k) - t (ix4 b n h i)) := by
  pointwise

/-- The weights over their row's sum. -/
theorem div_gen (w : FVec Ideal S2x128x8x64x576 .f32) (b : Fin 2) (n : Fin 128) (h : Fin 8) (i : Fin 64) (k : Fin 576) :
    (Host.divf w (broadcastInDim S2x128x8x64x576 ![0, 1, 2, 3, 4] bcast_S2x128x8x64x1_S2x128x8x64x576_0_1_2_3_4
      (broadcastInDim S2x128x8x64x1 ![0, 1, 2, 3] bcast_S2x128x8x64_S2x128x8x64x1_0_1_2_3
        (Host.reduceAdd w (constant (F := Ideal) S_ .f32 0x00000000#32) reducesTo_S2x128x8x64x576_S2x128x8x64_d4 h_S_))) : FVec Ideal S2x128x8x64x576 .f32) (ix5 b n h i k)
      = Ideal.div (w (ix5 b n h i k)) (∑ k : Fin 576, (w (ix5 b n h i k) : EReal)) := by
  pointwise

/-- The weighted values, laid out as rows and columns. -/
theorem out_gen (v : FVec Ideal S2x128x576x8x128 .f32) (w : FVec Ideal S2x128x8x64x576 .f32) (b : Fin 2) (n : Fin 128) (h : Fin 8) (i : Fin 64) (d : Fin 128) :
    (truncf .bf16 (shapeCast S16384x1024 (transpose S2x128x64x8x128 [0, 1, 4, 2, 3]
      (Host.dotGeneral dot_S2x128x576x8x128_S2x128x8x64x576_S2x128x8x128x64_2_4_4_3_013_012 none v w : FVec Ideal S2x128x8x128x64 .f32)
      transposes_S2x128x8x128x64_S2x128x64x8x128_0_1_4_2_3) shapeCasts_S2x128x64x8x128_S16384x1024) bitsLt_bf16_f32 : FVec Ideal S16384x1024 .bf16)
        (ix2 ⟨b.val * 8192 + n.val * 64 + i.val, by omega⟩ ⟨h.val * 128 + d.val, by omega⟩)
      = ∑ k : Fin 576, (v (ix5 b n k h d) : EReal) * w (ix5 b n h i k) := by
  pointwise

theorem weight_apply (x : Vec Ideal S16384x3584 .bf16) (y : Vec Ideal S8x257 .f32) (b : Fin 2) (n : Fin 128) (h : Fin 8) (i : Fin 64) (k : Fin 576) :
    val_main_v69 (F := Ideal) x y (ix5 b n h i k)
      = Ideal.exp (val_main_v62 (F := Ideal) x y (ix5 b n h i k) - Finset.univ.sup fun k => (val_main_v62 (F := Ideal) x y (ix5 b n h i k) : EReal)) := by
  unfold val_main_v69 val_main_v68 val_main_v67 val_main_v66 val_main_v65 val_main_v64 val_main_v63 val_main_cst_9 val_main_cst_10
  rw [exp_gen, clip_gen, max_gen]

theorem result_apply (x : Vec Ideal S16384x3584 .bf16) (y : Vec Ideal S8x257 .f32) (b : Fin 2) (n : Fin 128) (h : Fin 8) (i : Fin 64) (d : Fin 128) :
    val_main_v77 (F := Ideal) x y (ix2 ⟨b.val * 8192 + n.val * 64 + i.val, by omega⟩ ⟨h.val * 128 + d.val, by omega⟩)
      = ∑ k : Fin 576, (val_main_v28 (F := Ideal) x (ix5 b n k h d) : EReal)
          * Ideal.div (val_main_v69 (F := Ideal) x y (ix5 b n h i k)) (∑ k : Fin 576, (val_main_v69 (F := Ideal) x y (ix5 b n h i k) : EReal)) := by
  unfold val_main_v77 val_main_v76 val_main_v75 val_main_v74
  rw [out_gen]
  refine Finset.sum_congr rfl fun k _ => ?_
  refine congrArg (fun q : EReal => (val_main_v28 (F := Ideal) x (ix5 b n k h d) : EReal) * q) ?_
  unfold val_main_v73 val_main_v72 val_main_v71 val_main_v70 val_main_cst_11
  exact div_gen _ b n h i k

end Cert.RefValue

end
-- ==== Proof.RefResult.lean ====
/- The reference's result at an index, in plain numbers. -/
module

public import proofs.«01_k».proof.Proof.RefSoft
public import proofs.«01_k».proof.Proof.Band

@[expose] public section

set_option maxRecDepth 16384

noncomputable section

namespace Cert.RefValue

open Cert.Band Cert.ReferenceIdeal Cert.ReferenceIdeal.Gen Cert.ReferenceIdeal.Read Idealize.ShloMosaic

variable (x : Vec Ideal S16384x3584 .bf16) (y : Vec Ideal S8x257 .f32)

theorem near_eq (b : Fin 2) (n : Fin 128) (h : Fin 8) (i : Fin 64) (k : Fin 576) :
    val_main_v62 (F := Ideal) x y (ix5 b n h i k) = near x y b n h i k := by
  rw [score_apply]
  unfold near
  split_ifs with hk
  · refine congrArg₂ (fun s t : EReal => s + t) (Finset.sum_congr rfl fun d _ => ?_) ?_
    · rw [q_apply, keys_apply, k_apply, dif_pos hk]
      exact congrArg₂ (fun s t : EReal => s * t) (ent_eq x _ _ rfl rfl) (ent_eq x _ _ rfl rfl)
    · rw [rel_apply]
      exact rel_eq y h _ rfl
  · rfl

theorem nearValue_eq (b : Fin 2) (n : Fin 128) (h : Fin 8) (k : Fin 576) (d : Fin 128) :
    val_main_v28 (F := Ideal) x (ix5 b n k h d) = nearValue x b n h k d := by
  rw [values_apply, v_apply]
  unfold nearValue
  by_cases hk : 8 ≤ n.val + k.val / 64
  · rw [dif_pos hk, if_pos hk]
    exact ent_eq x _ _ rfl rfl
  · rw [dif_neg hk, if_neg hk]

theorem value (b : Fin 2) (n : Fin 128) (h : Fin 8) (i : Fin 64) (d : Fin 128) :
    val_main_v77 (F := Ideal) x y (ix2 ⟨b.val * 8192 + n.val * 64 + i.val, by omega⟩ ⟨h.val * 128 + d.val, by omega⟩)
      = ∑ k, nearValue x b n h k d * Ideal.div (Ideal.exp (near x y b n h i k - Finset.univ.sup (near x y b n h i)))
          (∑ k, Ideal.exp (near x y b n h i k - Finset.univ.sup (near x y b n h i))) := by
  rw [result_apply]
  simp only [weight_apply, near_eq, nearValue_eq]

end Cert.RefValue

end
-- ==== Proof.Finite.lean ====
/- What the precondition says of the entries: each query, key and bias entry is a real number. -/
module

public import proofs.«01_k».proof.Defs
public import Idealize.ShloMosaic.Lib.ReduceAll
public import Idealize.ShloMosaic.Lib.Pointwise

@[expose] public section

set_option maxRecDepth 16384

noncomputable section

namespace Cert.Finite

open Cert.Pre_finite_scores Idealize.ShloMosaic

/-- The side conditions of the precondition's operations. -/
theorem facts : Cert.Pre_finite_scores.Facts where
  slices_S16384x3584_S16384x2048_0_0 := by decide
  bitsLt_bf16_f32 := by decide
  bcast_S_S16384x2048 := by decide
  reducesTo_S16384x2048_S_d0_1 := by decide
  h_S_ := by decide
  bcast_S_S8x257 := by decide
  reducesTo_S8x257_S_d0_1 := by decide

instance : Cert.Pre_finite_scores.Facts := facts

/-- A number whose absolute value lies below ∞ is real. -/
theorem real_of_abs (x : EReal) (h : Ideal.cmp .olt (max x (-x)) (Ideal.ofBits .f32 0x7F800000#32) = 1#1) : x ≠ ⊤ ∧ x ≠ ⊥ := by
  have ht : (Ideal.ofBits .f32 0x7F800000#32 : EReal) = ⊤ := by simp [Ideal.ofBits, Ideal.ieee]
  rw [ht] at h
  constructor
  · rintro rfl
    revert h
    simp [Ideal.cmp]
  · rintro rfl
    revert h
    simp [Ideal.cmp]

theorem andi_one (a b : BitVec 1) (h : IntOp.andi a b = 1#1) : a = 1#1 ∧ b = 1#1 := by
  revert a b; decide

theorem bias_real (y : FVec Ideal S8x257 .f32)
    (h : Host.reduce IntOp.andi (cmpf .olt (Host.absf y) (broadcastInDim S8x257 ![] Facts.bcast_S_S8x257 (constant (F := Ideal) S_ .f32 0x7F800000#32)) : IVec S8x257 1)
      (constantI S_ 1 1#1) Facts.reducesTo_S8x257_S_d0_1 Facts.h_S_ ix0 = 1#1) (a : Fin 8) (c : Fin 257) :
    (y (ix2 a c) : EReal) ≠ ⊤ ∧ (y (ix2 a c) : EReal) ≠ ⊥ := by
  haveI : Subsingleton S_.Idx := ⟨fun a b => funext fun z => z.elim0⟩
  have := Host.reduce_andi_all _ _ _ _ _ h (ix2 a c)
  exact real_of_abs _ this

theorem entries_real (x : FVec Ideal S16384x3584 .bf16)
    (h : Host.reduce IntOp.andi (cmpf .olt (Host.absf (extf .f32 (extractStridedSlice S16384x2048 ![0, 0] x Facts.slices_S16384x3584_S16384x2048_0_0) Facts.bitsLt_bf16_f32))
        (broadcastInDim S16384x2048 ![] Facts.bcast_S_S16384x2048 (constant (F := Ideal) S_ .f32 0x7F800000#32)) : IVec S16384x2048 1)
      (constantI S_ 1 1#1) Facts.reducesTo_S16384x2048_S_d0_1 Facts.h_S_ ix0 = 1#1) (r : Fin 16384) (c : Fin 2048) :
    (x (ix2 r ⟨c.val, by omega⟩) : EReal) ≠ ⊤ ∧ (x (ix2 r ⟨c.val, by omega⟩) : EReal) ≠ ⊥ := by
  haveI : Subsingleton S_.Idx := ⟨fun a b => funext fun z => z.elim0⟩
  have := Host.reduce_andi_all _ _ _ _ _ h (ix2 r c)
  have e : extractStridedSlice S16384x2048 ![0, 0] x Facts.slices_S16384x3584_S16384x2048_0_0 (ix2 r c) = x (ix2 r ⟨c.val, by omega⟩) := by
    pointwise
  have h2 := real_of_abs _ this
  have e' : (extf .f32 (extractStridedSlice S16384x2048 ![0, 0] x Facts.slices_S16384x3584_S16384x2048_0_0) Facts.bitsLt_bf16_f32 : FVec Ideal S16384x2048 .f32) (ix2 r c)
      = x (ix2 r ⟨c.val, by omega⟩) := e
  rw [e'] at h2
  exact h2

theorem entries (x : FVec Ideal S16384x3584 .bf16) (y : FVec Ideal S8x257 .f32) (h : fn (F := Ideal) x y = fun _ => 1#1) :
    (∀ (r : Fin 16384) (c : Fin 2048), (x (ix2 r ⟨c.val, by omega⟩) : EReal) ≠ ⊤ ∧ (x (ix2 r ⟨c.val, by omega⟩) : EReal) ≠ ⊥)
      ∧ ∀ (a : Fin 8) (c : Fin 257), (y (ix2 a c) : EReal) ≠ ⊤ ∧ (y (ix2 a c) : EReal) ≠ ⊥ := by
  have h0 := congrFun h ix0
  unfold fn at h0
  have h1 := andi_one _ _ h0
  exact ⟨entries_real x h1.1, bias_real y h1.2⟩

end Cert.Finite

end
-- ==== Proof.Equation.lean ====
/- The kernel and the reference compute the same array, wherever queries, keys and bias are real numbers. -/
module

public import proofs.«01_k».proof.Proof.KernelValue
public import proofs.«01_k».proof.Proof.RefResult
public import proofs.«01_k».proof.Proof.Finite
public import proofs.«01_k».proof.Proof.Gen.ReferenceIdeal.Run

@[expose] public section

set_option maxRecDepth 16384

noncomputable section

namespace Cert.Equation

open Cert.Band Idealize.ShloMosaic Idealize.ShloMosaic.TcCoe Idealize.SL.Sem

theorem index_split (z : (⟨2, ![16384, 1024]⟩ : Shape).Idx) (b : Fin 2) (n : Fin 128) (i : Fin 64) (h : Fin 8) (d : Fin 128)
    (h0 : (z 0).val = b.val * 8192 + n.val * 64 + i.val) (h1 : (z 1).val = h.val * 128 + d.val) :
    z = ix2 ⟨b.val * 8192 + n.val * 64 + i.val, by omega⟩ ⟨h.val * 128 + d.val, by omega⟩ := by
  funext a; apply Fin.ext
  match a with
  | ⟨0, _⟩ => exact h0
  | ⟨1, _⟩ => exact h1

theorem agree (m : (ℓ : Loc Cert.KernelIdeal.nD Cert.KernelIdeal.τ Cert.KernelIdeal.sig) → Buf (Elt Ideal) ℓ) (c : Dev Cert.KernelIdeal.nD)
    (hpre : Cert.Pre_finite_scores.fn (F := Ideal) (Cert.KernelValue.arg0 m c) (Cert.KernelValue.arg1 m c) = fun _ => 1#1) :
    (Cert.KernelIdeal.Gen.dats m 0 c).arrAt 8 Cert.KernelIdeal.cfg0.N
      = Cert.ReferenceIdeal.Read.val_main_v77 (F := Ideal) (Cert.KernelValue.arg0 m c) (Cert.KernelValue.arg1 m c) := by
  obtain ⟨hx', hy⟩ := Cert.Finite.entries _ _ hpre
  have hx := fun (r : Fin 16384) (c : Fin 3584) (hc : c.val < 2048) => hx' r ⟨c.val, hc⟩
  funext z
  have z0 : (z 0).val < 16384 := (z 0).isLt
  have z1 : (z 1).val < 1024 := (z 1).isLt
  obtain ⟨n, hn⟩ : ∃ n : Fin 64, n.val = (z 0).val / 256 := ⟨⟨(z 0).val / 256, by omega⟩, rfl⟩
  obtain ⟨i, hi⟩ : ∃ i : Fin 256, i.val = (z 0).val % 256 := ⟨⟨(z 0).val % 256, by omega⟩, rfl⟩
  obtain ⟨h, hh⟩ : ∃ h : Fin 8, h.val = (z 1).val / 128 := ⟨⟨(z 1).val / 128, by omega⟩, rfl⟩
  obtain ⟨d, hd⟩ : ∃ d : Fin 128, d.val = (z 1).val % 128 := ⟨⟨(z 1).val % 128, by omega⟩, rfl⟩
  obtain ⟨b, hb⟩ : ∃ b : Fin 2, b.val = n.val / 32 := ⟨⟨n.val / 32, by omega⟩, rfl⟩
  obtain ⟨p, hp⟩ : ∃ p : Fin 128, p.val = 4 * (n.val % 32) + i.val / 64 := ⟨⟨4 * (n.val % 32) + i.val / 64, by omega⟩, rfl⟩
  obtain ⟨q, hq⟩ : ∃ q : Fin 64, q.val = i.val % 64 := ⟨⟨i.val % 64, by omega⟩, rfl⟩
  rw [Cert.KernelValue.value m c n h i d z (by omega) (by omega),
    band_eq _ _ hx hy n h i d b p q hb hp hq, ← Cert.RefValue.value]
  exact congrArg _ (index_split z b p q h d (by omega) (by omega)).symm

end Cert.Equation

end
-- ==== Proof.MergeHead.lean ====
/- One head of the memory attention in the merge: 1024 query rows against 256 memory rows, read at an index; and the gated
   sum of the three branches' products, read at an index. -/
module

public import proofs.«01_k».proof.Proof.Gen.MergeIdeal.Skeleton
public import proofs.«01_k».proof.Proof.Soft
public import Idealize.ShloMosaic.Lib.Pointwise

@[expose] public section

set_option maxRecDepth 16384

noncomputable section

namespace Cert.MergeHead

open Cert.Soft Cert.MergeIdeal Cert.MergeIdeal.Gen Idealize.ShloMosaic

theorem minus_infinity : (Ideal.ofBits .f32 4286578688#32 : EReal) = ⊥ := by
  simp [Ideal.ofBits, Ideal.ieee]

theorem one_word : (Ideal.ofBits .f32 1065353216#32 : EReal) = 1 := by
  rw [show (Ideal.ofBits .f32 1065353216#32 : EReal) = ((1 : ℝ) : EReal) by simp [Ideal.ofBits, Ideal.ieee, -EReal.coe_mul]; norm_num]
  rfl

/-- The named scale is 1/√128. -/
theorem scale_eq : Named.named (F := Ideal) Cert.MergeIdeal.κ "inv_sqrt_d" (φ := .f32) 0x3DB504F3#32 = (((Real.sqrt 128)⁻¹ : ℝ) : EReal) :=
  IdealRules.named_const.ideal_named_scalar _ _ _ _ rfl

/-- A query row's scaled score against a memory row. -/
def score (q : Vec Ideal S1024x128 .bf16) (k : Vec Ideal S1x256x128 .bf16) (i : Fin 1024) (j : Fin 256) : EReal :=
  (∑ d : Fin 128, q (ix2 i d) * k (ix3 0 j d)) * (((Real.sqrt 128)⁻¹ : ℝ) : EReal)

theorem weight_apply (q : Vec Ideal S1024x128 .bf16) (k : Vec Ideal S1x256x128 .bf16) (i : Fin 1024) (j : Fin 256) :
    k0_pay3 (F := Ideal) q k (ix2 i j) = Ideal.exp (score q k i j - Finset.univ.sup (score q k i)) := by
  pointwise [k0_pay3]
  simp only [scale_eq, minus_infinity, fold_max_eq_sup]
  rfl

/-- The head's result at a row and a value column: the weights' sum of the values over the weights' sum. -/
theorem head_apply (q : Vec Ideal S1024x128 .bf16) (k v : Vec Ideal S1x256x128 .bf16) (i : Fin 1024) (d : Fin 128) :
    k0_pay2 (F := Ideal) q k v (ix2 i d)
      = Ideal.div (∑ j, Ideal.exp (score q k i j - Finset.univ.sup (score q k i)) * v (ix3 0 j d))
          (∑ j, Ideal.exp (score q k i j - Finset.univ.sup (score q k i))) := by
  have h : k0_pay2 (F := Ideal) q k v (ix2 i d)
      = Ideal.div (∑ j, k0_pay3 (F := Ideal) q k (ix2 i j) * v (ix3 0 j d)) (∑ j, k0_pay3 (F := Ideal) q k (ix2 i j)) := by
    show k0_pay5 (F := Ideal) (k0_pay3 q k) (k0_pay4 q k) v (ix2 i d) = _
    generalize e : k0_pay3 (F := Ideal) q k = p
    unfold k0_pay4
    rw [e]
    pointwise [k0_pay5]
  rw [h]
  simp only [weight_apply]

/-- A gate: the logistic function. -/
def logistic (x : EReal) : EReal := Ideal.div 1 (1 + Ideal.exp (-x))

variable {F : FTy → Type} [FloatOps F] [Named F]

/-- What the body stores: the three gates times the three products, added up. -/
def body (x0 : Vec F S1024x2048 .bf16) (x1 : Vec F S1024x1024 .bf16) (x2 oc : Vec F S1024x512 .bf16)
    (x6 x7 x8 : Vec F S2048x512 .bf16) (b0 b1 b2 : Vec F S1x512 .f32) (x10 : Vec F S1024x512 .bf16) (x11 x12 : Vec F S512x512 .bf16) :
    FVec F S1024x512 .bf16 :=
  k0_pay1 x0 oc (k0_pay8 x0 x1 x10 x6 b0) (k0_pay9 x2 x11) (k0_pay10 x7) (constant S1024x512 .f32 0x00000000#32) b1 x12 x8 b2

theorem body_apply (x0 : Vec Ideal S1024x2048 .bf16) (x1 : Vec Ideal S1024x1024 .bf16) (x2 oc : Vec Ideal S1024x512 .bf16)
    (x6 x7 x8 : Vec Ideal S2048x512 .bf16) (b0 b1 b2 : Vec Ideal S1x512 .f32) (x10 : Vec Ideal S1024x512 .bf16) (x11 x12 : Vec Ideal S512x512 .bf16)
    (r : Fin 1024) (c : Fin 512) :
    body x0 x1 x2 oc x6 x7 x8 b0 b1 b2 x10 x11 x12 (ix2 r c)
      = logistic ((∑ k : Fin 2048, x0 (ix2 r k) * x6 (ix2 k c)) + b0 (ix2 0 c)) * (∑ k : Fin 1024, x1 (ix2 r k) * x10 (ix2 k c))
        + logistic ((∑ k : Fin 2048, x0 (ix2 r k) * x7 (ix2 k c)) + b1 (ix2 0 c)) * (∑ k : Fin 512, x2 (ix2 r k) * x11 (ix2 k c))
        + logistic ((∑ k : Fin 2048, x0 (ix2 r k) * x8 (ix2 k c)) + b2 (ix2 0 c)) * (∑ k : Fin 512, oc (ix2 r k) * x12 (ix2 k c)) := by
  pointwise [body, k0_pay1, k0_pay8, k0_pay9, k0_pay10]
  simp only [one_word, zero_sub, logistic]

end Cert.MergeHead

end
-- ==== Proof.MergeBlock.lean ====
/- What the merge's body leaves: the memory attention's four heads in the carried scratch, and the gated sum in the output
   block. -/
module

public import proofs.«01_k».proof.Proof.Gen.MergeIdeal.Value
public import proofs.«01_k».proof.Proof.MergeHead
public import Idealize.ShloMosaic.Lib.Pipeline.ValueKit.Tiles

@[expose] public section

set_option maxRecDepth 16384

noncomputable section

namespace Cert.MergeBlock

open Cert.MergeHead Cert.MergeIdeal Cert.MergeIdeal.Gen Idealize.ShloMosaic Idealize.ShloMosaic.TcCoe

variable {F : FTy → Type} [FloatOps F] [Named F]

/-- The columns of head `h` of a block of 512 columns. -/
abbrev cols (h : Fin 4) : Rect S1024x512 :=
  Rect.unit ![0, 128 * h.val] S1024x128.size fun a => match a with
    | ⟨0, _⟩ => by show 0 + 1024 ≤ 1024; omega
    | ⟨1, _⟩ => by have := h.isLt; show 128 * h.val + 128 ≤ 512; omega

/-- The columns of head `h` of the memory's rows. -/
abbrev mem (h : Fin 4) : Rect S1x256x512 :=
  Rect.unit ![0, 0, 128 * h.val] S1x256x128.size fun a => match a with
    | ⟨0, _⟩ => by show 0 + 1 ≤ 1; omega
    | ⟨1, _⟩ => by show 0 + 256 ≤ 256; omega
    | ⟨2, _⟩ => by have := h.isLt; show 128 * h.val + 128 ≤ 512; omega

/-- Row `i` of the three rows of gate biases. -/
abbrev row (i : Fin 3) : Rect S3x512 :=
  Rect.unit ![i.val, 0] S1x512.size fun a => match a with
    | ⟨0, _⟩ => by have := i.isLt; show i.val + 1 ≤ 3; omega
    | ⟨1, _⟩ => by show 0 + 512 ≤ 512; omega

/-- Head `h` of the memory attention, from a block of queries and the memory's keys and values. -/
def headOut (h : Fin 4) (x3 : Vec F S1024x512 .bf16) (x4 x5 : Vec F S1x256x512 .bf16) : FVec F S1024x128 .bf16 :=
  k0_pay2 (View.ld x3 (cols h)) (View.ld x4 (mem h)) (View.ld x5 (mem h))

theorem scratch_apply (c : Dev nD) (i : grid0.Coords) (arg2 : Memref sig .tc .vmem S1024x2048 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S3x512 .f32) (harg11 : arg11.IsWhole) (arg12 : Memref sig .tc .vmem S1024x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S1024x512 .bf16) (harg15 : arg15.IsWhole) (arg16 : Memref sig .tc .vmem S1024x512 .bf16) (harg16 : arg16.IsWhole) (hc0 : cond0_0 i) (x0 : Vec F S1024x2048 .bf16) (x1 : Vec F S1024x1024 .bf16) (x2 : Vec F S1024x512 .bf16) (x3 : Vec F S1024x512 .bf16) (x4 : Vec F S1x256x512 .bf16) (x5 : Vec F S1x256x512 .bf16) (x6 : Vec F S2048x512 .bf16) (x7 : Vec F S2048x512 .bf16) (x8 : Vec F S2048x512 .bf16) (x9 : Vec F S3x512 .f32) (x10 : Vec F S1024x512 .bf16) (x11 : Vec F S512x512 .bf16) (x12 : Vec F S512x512 .bf16) (h : Fin 4) (r : Fin 1024) (d : Fin 128) (y : S1024x512.Idx) (hy0 : (y 0).val = r.val) (hy1 : (y 1).val = 128 * h.val + d.val) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 y = headOut h x3 x4 x5 (ix2 r d) := by
  unfold sout0_A_0
  rw [View.read_writes_junk_eq_canon]
  unfold kernelRun0_A
  dsimp only
  unfold kernelRun0_A.sl.HS0_4
  canon_tiles x e using scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 y
  all_goals
    obtain ⟨hv, hh⟩ := h
    dsimp only at hy1
    have hx1 : (x 1).val < 128 := (x 1).isLt
    obtain rfl : x = ix2 r d := funext fun a => Fin.ext (match a with
      | ⟨0, _⟩ => by show (x 0).val = r.val; omega
      | ⟨1, _⟩ => by show (x 1).val = d.val; omega)
    have e1' : (y 1).val < 512 := (y 1).isLt
    change (y 1).val = _ at e1
    simp only [ix2] at e1
    interval_cases hv <;> first
      | omega
      | (simp only [kernelRun0_A.sl.r, kernelRun0_A.sl.r_1, kernelRun0_A.sl.r_2, View.readAt_eq_ld, harg5.read_unread, harg6.read_unread,
          harg7.read_unread]
         rfl)

theorem store_A (c : Dev nD) (i : grid0.Coords) (arg2 : Memref sig .tc .vmem S1024x2048 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S3x512 .f32) (harg11 : arg11.IsWhole) (arg12 : Memref sig .tc .vmem S1024x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S1024x512 .bf16) (harg15 : arg15.IsWhole) (arg16 : Memref sig .tc .vmem S1024x512 .bf16) (harg16 : arg16.IsWhole) (hc0 : cond0_0 i) (x0 : Vec F S1024x2048 .bf16) (x1 : Vec F S1024x1024 .bf16) (x2 : Vec F S1024x512 .bf16) (x3 : Vec F S1024x512 .bf16) (x4 : Vec F S1x256x512 .bf16) (x5 : Vec F S1x256x512 .bf16) (x6 : Vec F S2048x512 .bf16) (x7 : Vec F S2048x512 .bf16) (x8 : Vec F S2048x512 .bf16) (x9 : Vec F S3x512 .f32) (x10 : Vec F S1024x512 .bf16) (x11 : Vec F S512x512 .bf16) (x12 : Vec F S512x512 .bf16) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12
      = body x0 x1 x2 (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12) x6 x7 x8
          (View.ld x9 (row 0)) (View.ld x9 (row 1)) (View.ld x9 (row 2)) x10 x11 x12 := by
  unfold out0_A_13 sout0_A_0
  rw [View.read_writes_junk_eq_canon, View.read_writes_junk_eq_canon]
  unfold kernelRun0_A
  dsimp only
  rw [View.canon_cons_unit_lit _ _ _ (by decide)]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v6, kernelRun0_A.sl.cst_23, View.readAt_eq_ld,
    harg2.read_unread, harg3.read_unread, harg4.read_unread, harg5.read_unread, harg6.read_unread, harg7.read_unread, harg8.read_unread, harg9.read_unread, harg10.read_unread, harg11.read_unread, harg12.read_unread, harg13.read_unread, harg14.read_unread]
  simp (disch := decide) only [View.ld_unit_lit']
  rw [View.readCov_eq_canon_ld _ (kernelRun0_A.sl.HS0_4 c arg5 harg5 arg6 harg6 arg7 harg7 x3 x4 x5) _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12), View.ld_unit_lit' _ _ (by decide)]
  rfl

theorem store_B (c : Dev nD) (i : grid0.Coords) (arg2 : Memref sig .tc .vmem S1024x2048 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S3x512 .f32) (harg11 : arg11.IsWhole) (arg12 : Memref sig .tc .vmem S1024x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S1024x512 .bf16) (harg15 : arg15.IsWhole) (arg16 : Memref sig .tc .vmem S1024x512 .bf16) (harg16 : arg16.IsWhole) (hc0 : ¬cond0_0 i) (x0 : Vec F S1024x2048 .bf16) (x1 : Vec F S1024x1024 .bf16) (x2 : Vec F S1024x512 .bf16) (x3 : Vec F S1024x512 .bf16) (x4 : Vec F S1x256x512 .bf16) (x5 : Vec F S1x256x512 .bf16) (x6 : Vec F S2048x512 .bf16) (x7 : Vec F S2048x512 .bf16) (x8 : Vec F S2048x512 .bf16) (x9 : Vec F S3x512 .f32) (x10 : Vec F S1024x512 .bf16) (x11 : Vec F S512x512 .bf16) (x12 : Vec F S512x512 .bf16) (xs0 : Vec F S1024x512 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xs0
      = body x0 x1 x2 xs0 x6 x7 x8
          (View.ld x9 (row 0)) (View.ld x9 (row 1)) (View.ld x9 (row 2)) x10 x11 x12 := by
  unfold out0_B_13
  rw [View.read_writes_junk_eq_canon]
  unfold kernelRun0_B
  dsimp only
  rw [View.canon_cons_unit_lit _ _ _ (by decide)]
  simp only [kernelRun0_B.sl.r, kernelRun0_B.sl.r_1, kernelRun0_B.sl.r_2, kernelRun0_B.sl.r_3, kernelRun0_B.sl.r_4, kernelRun0_B.sl.cst_23, View.readAt_eq_ld,
    harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread]
  simp (disch := decide) only [View.ld_unit_lit']
  rfl

end Cert.MergeBlock

end
-- ==== Proof.MergeWindows.lean ====
/- The merge's windows at an index: which rows and columns of each argument a grid point's blocks hold. -/
module

public import proofs.«01_k».proof.Proof.MergeBlock

@[expose] public section

set_option maxRecDepth 16384

noncomputable section

namespace Cert.MergeWindows

open Cert.MergeIdeal Cert.MergeIdeal.Gen Idealize.ShloMosaic Idealize.ShloMosaic.TcCoe Idealize.SL.Sem

/-- The block index of every window at every point: row block `t / 4`, column block `t % 4`. -/
theorem index : ∀ t : Fin cfg0.N,
    (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_3.index t (0 : Fin 2) = t.val / 4 ∧ win0_3.index t (1 : Fin 2) = 6)
    ∧ (win0_4.index t (0 : Fin 3) = t.val / 32 ∧ win0_4.index t (1 : Fin 3) = 0 ∧ win0_4.index t (2 : Fin 3) = 0)
    ∧ (win0_5.index t (0 : Fin 3) = t.val / 32 ∧ win0_5.index t (1 : Fin 3) = 0 ∧ win0_5.index t (2 : Fin 3) = 0)
    ∧ (win0_6.index t (0 : Fin 2) = 0 ∧ win0_6.index t (1 : Fin 2) = t.val % 4)
    ∧ (win0_7.index t (0 : Fin 2) = 0 ∧ win0_7.index t (1 : Fin 2) = 4 + t.val % 4)
    ∧ (win0_8.index t (0 : Fin 2) = 0 ∧ win0_8.index t (1 : Fin 2) = 8 + t.val % 4)
    ∧ (win0_9.index t (0 : Fin 2) = 0 ∧ win0_9.index t (1 : Fin 2) = t.val % 4)
    ∧ (win0_10.index t (0 : Fin 2) = 0 ∧ win0_10.index t (1 : Fin 2) = t.val % 4)
    ∧ (win0_11.index t (0 : Fin 2) = 2 ∧ win0_11.index t (1 : Fin 2) = t.val % 4)
    ∧ (win0_12.index t (0 : Fin 2) = 3 ∧ win0_12.index t (1 : Fin 2) = t.val % 4)
    ∧ (win0_13.index t (0 : Fin 2) = t.val / 4 ∧ win0_13.index t (1 : Fin 2) = t.val % 4) :=
  (by decide +kernel : ∀ t : Fin grid0.N, _)

/-- An element of a block sits in the array at the block's offset plus its own place. -/
theorem place (w : Pipeline.Window sig grid0) (hk : w.kind = .blocked) (t : Fin cfg0.N) (y : (w.xblock (grid0.coords t)).Idx)
    (z : w.shape.Idx) (h : ∀ a, (z a).val = w.index t a * w.size a + (y a).val) : (w.rect t).emb y = z :=
  funext fun a => Fin.ext ((w.rect_emb_val t y a hk).trans (h a).symm)

variable {F : FTy → Type} [FloatOps F] [Named F]
variable (m : (ℓ : Loc nD τ sig) → Buf (Elt F) ℓ) (c : Dev nD)

abbrev arg0 : Vec F S16384x2048 .bf16 := m ((c : Thread nD τ).loc main_arg0)
abbrev arg1 : Vec F S16384x1024 .bf16 := m ((c : Thread nD τ).loc main_arg1)
abbrev arg2 : Vec F S16384x512 .bf16 := m ((c : Thread nD τ).loc main_arg2)
abbrev arg3 : Vec F S16384x3584 .bf16 := m ((c : Thread nD τ).loc main_arg3)
abbrev arg4 : Vec F S2x256x512 .bf16 := m ((c : Thread nD τ).loc main_arg4)
abbrev arg5 : Vec F S2x256x512 .bf16 := m ((c : Thread nD τ).loc main_arg5)
abbrev arg6 : Vec F S2048x6144 .f32 := m ((c : Thread nD τ).loc main_arg6)
abbrev arg7 : Vec F S6144 .f32 := m ((c : Thread nD τ).loc main_arg7)
abbrev arg8 : Vec F S2048x2048 .f32 := m ((c : Thread nD τ).loc main_arg8)

/-- The grid point of row block `i` and column block `j`. -/
abbrev pt (i : Fin 16) (j : Fin 4) : Fin cfg0.N :=
  ⟨4 * i.val + j.val, Nat.lt_of_lt_of_eq (by have := i.isLt; have := j.isLt; omega : _ < 64) (by decide)⟩

/-- Row `r` of row block `i`. -/
abbrev R (i : Fin 16) (r : Fin 1024) : Fin 16384 := ⟨1024 * i.val + r.val, by have := i.isLt; have := r.isLt; omega⟩
/-- Column `k` of column block `j`. -/
abbrev C (j : Fin 4) (k : Fin 512) : Fin 2048 := ⟨512 * j.val + k.val, by have := j.isLt; have := k.isLt; omega⟩
/-- The batch a row block is in. -/
abbrev B (i : Fin 16) : Fin 2 := ⟨i.val / 8, by have := i.isLt; omega⟩

theorem read_0 (i : Fin 16) (j : Fin 4) (r : Fin 1024) (k : Fin 2048) :
    iblk m c 0 (pt i j) (ix2 r k) = arg0 m c (ix2 (R i r) k) := by
  have e := (index (pt i j)).1
  have hj := j.isLt
  refine (congrArg (V m c main_arg0) (place win0_0 rfl (pt i j) (ix2 r k) (ix2 (R i r) k) ?_)).trans (congrFun (V_main_arg0 m c) _)
  intro a
  match a with
  | ⟨0, _⟩ => show 1024 * i.val + r.val = win0_0.index (pt i j) (0 : Fin 2) * 1024 + r.val; rw [e.1]; (try dsimp only); omega
  | ⟨1, _⟩ => show k.val = win0_0.index (pt i j) (1 : Fin 2) * 2048 + k.val; rw [e.2]; (try dsimp only); omega

theorem read_1 (i : Fin 16) (j : Fin 4) (r : Fin 1024) (k : Fin 1024) :
    iblk m c 1 (pt i j) (ix2 r k) = arg1 m c (ix2 (R i r) k) := by
  have e := (index (pt i j)).2.1
  have hj := j.isLt
  refine (congrArg (V m c main_arg1) (place win0_1 rfl (pt i j) (ix2 r k) (ix2 (R i r) k) ?_)).trans (congrFun (V_main_arg1 m c) _)
  intro a
  match a with
  | ⟨0, _⟩ => show 1024 * i.val + r.val = win0_1.index (pt i j) (0 : Fin 2) * 1024 + r.val; rw [e.1]; (try dsimp only); omega
  | ⟨1, _⟩ => show k.val = win0_1.index (pt i j) (1 : Fin 2) * 1024 + k.val; rw [e.2]; (try dsimp only); omega

theorem read_2 (i : Fin 16) (j : Fin 4) (r : Fin 1024) (k : Fin 512) :
    iblk m c 2 (pt i j) (ix2 r k) = arg2 m c (ix2 (R i r) k) := by
  have e := (index (pt i j)).2.2.1
  have hj := j.isLt
  refine (congrArg (V m c main_arg2) (place win0_2 rfl (pt i j) (ix2 r k) (ix2 (R i r) k) ?_)).trans (congrFun (V_main_arg2 m c) _)
  intro a
  match a with
  | ⟨0, _⟩ => show 1024 * i.val + r.val = win0_2.index (pt i j) (0 : Fin 2) * 1024 + r.val; rw [e.1]; (try dsimp only); omega
  | ⟨1, _⟩ => show k.val = win0_2.index (pt i j) (1 : Fin 2) * 512 + k.val; rw [e.2]; (try dsimp only); omega

theorem read_3 (i : Fin 16) (j : Fin 4) (r : Fin 1024) (k : Fin 512) :
    iblk m c 3 (pt i j) (ix2 r k) = arg3 m c (ix2 (R i r) ⟨3072 + k.val, by have := k.isLt; omega⟩) := by
  have e := (index (pt i j)).2.2.2.1
  have hj := j.isLt
  refine (congrArg (V m c main_arg3) (place win0_3 rfl (pt i j) (ix2 r k) (ix2 (R i r) ⟨3072 + k.val, by have := k.isLt; omega⟩) ?_)).trans (congrFun (V_main_arg3 m c) _)
  intro a
  match a with
  | ⟨0, _⟩ => show 1024 * i.val + r.val = win0_3.index (pt i j) (0 : Fin 2) * 1024 + r.val; rw [e.1]; (try dsimp only); omega
  | ⟨1, _⟩ => show 3072 + k.val = win0_3.index (pt i j) (1 : Fin 2) * 512 + k.val; rw [e.2]; (try dsimp only)

theorem read_4 (i : Fin 16) (j : Fin 4) (r : Fin 256) (k : Fin 512) :
    iblk m c 4 (pt i j) (ix3 0 r k) = arg4 m c (ix3 (B i) r k) := by
  have e := (index (pt i j)).2.2.2.2.1
  have hj := j.isLt
  refine (congrArg (V m c main_arg4) (place win0_4 rfl (pt i j) (ix3 0 r k) (ix3 (B i) r k) ?_)).trans (congrFun (V_main_arg4 m c) _)
  intro a
  match a with
  | ⟨0, _⟩ => show i.val / 8 = win0_4.index (pt i j) (0 : Fin 3) * 1 + 0; rw [e.1]; (try dsimp only); omega
  | ⟨1, _⟩ => show r.val = win0_4.index (pt i j) (1 : Fin 3) * 256 + r.val; rw [e.2.1]; omega
  | ⟨2, _⟩ => show k.val = win0_4.index (pt i j) (2 : Fin 3) * 512 + k.val; rw [e.2.2]; omega

theorem read_5 (i : Fin 16) (j : Fin 4) (r : Fin 256) (k : Fin 512) :
    iblk m c 5 (pt i j) (ix3 0 r k) = arg5 m c (ix3 (B i) r k) := by
  have e := (index (pt i j)).2.2.2.2.2.1
  have hj := j.isLt
  refine (congrArg (V m c main_arg5) (place win0_5 rfl (pt i j) (ix3 0 r k) (ix3 (B i) r k) ?_)).trans (congrFun (V_main_arg5 m c) _)
  intro a
  match a with
  | ⟨0, _⟩ => show i.val / 8 = win0_5.index (pt i j) (0 : Fin 3) * 1 + 0; rw [e.1]; (try dsimp only); omega
  | ⟨1, _⟩ => show r.val = win0_5.index (pt i j) (1 : Fin 3) * 256 + r.val; rw [e.2.1]; omega
  | ⟨2, _⟩ => show k.val = win0_5.index (pt i j) (2 : Fin 3) * 512 + k.val; rw [e.2.2]; omega

theorem read_6 (i : Fin 16) (j : Fin 4) (r : Fin 2048) (k : Fin 512) :
    iblk m c 6 (pt i j) (ix2 r k) = V m c main_v0 (ix2 r ⟨512 * j.val + k.val, by have := j.isLt; have := k.isLt; omega⟩) := by
  have e := (index (pt i j)).2.2.2.2.2.2.1
  have hj := j.isLt
  refine (congrArg (V m c main_v0) (place win0_6 rfl (pt i j) (ix2 r k) (ix2 r ⟨512 * j.val + k.val, by have := j.isLt; have := k.isLt; omega⟩) ?_))
  intro a
  match a with
  | ⟨0, _⟩ => show r.val = win0_6.index (pt i j) (0 : Fin 2) * 2048 + r.val; rw [e.1]; (try dsimp only); omega
  | ⟨1, _⟩ => show 512 * j.val + k.val = win0_6.index (pt i j) (1 : Fin 2) * 512 + k.val; rw [e.2]; (try dsimp only); omega

theorem read_7 (i : Fin 16) (j : Fin 4) (r : Fin 2048) (k : Fin 512) :
    iblk m c 7 (pt i j) (ix2 r k) = V m c main_v0 (ix2 r ⟨2048 + (512 * j.val + k.val), by have := j.isLt; have := k.isLt; omega⟩) := by
  have e := (index (pt i j)).2.2.2.2.2.2.2.1
  have hj := j.isLt
  refine (congrArg (V m c main_v0) (place win0_7 rfl (pt i j) (ix2 r k) (ix2 r ⟨2048 + (512 * j.val + k.val), by have := j.isLt; have := k.isLt; omega⟩) ?_))
  intro a
  match a with
  | ⟨0, _⟩ => show r.val = win0_7.index (pt i j) (0 : Fin 2) * 2048 + r.val; rw [e.1]; (try dsimp only); omega
  | ⟨1, _⟩ => show 2048 + (512 * j.val + k.val) = win0_7.index (pt i j) (1 : Fin 2) * 512 + k.val; rw [e.2]; (try dsimp only); omega

theorem read_8 (i : Fin 16) (j : Fin 4) (r : Fin 2048) (k : Fin 512) :
    iblk m c 8 (pt i j) (ix2 r k) = V m c main_v0 (ix2 r ⟨4096 + (512 * j.val + k.val), by have := j.isLt; have := k.isLt; omega⟩) := by
  have e := (index (pt i j)).2.2.2.2.2.2.2.2.1
  have hj := j.isLt
  refine (congrArg (V m c main_v0) (place win0_8 rfl (pt i j) (ix2 r k) (ix2 r ⟨4096 + (512 * j.val + k.val), by have := j.isLt; have := k.isLt; omega⟩) ?_))
  intro a
  match a with
  | ⟨0, _⟩ => show r.val = win0_8.index (pt i j) (0 : Fin 2) * 2048 + r.val; rw [e.1]; (try dsimp only); omega
  | ⟨1, _⟩ => show 4096 + (512 * j.val + k.val) = win0_8.index (pt i j) (1 : Fin 2) * 512 + k.val; rw [e.2]; (try dsimp only); omega

theorem read_9 (i : Fin 16) (j : Fin 4) (r : Fin 3) (k : Fin 512) :
    iblk m c 9 (pt i j) (ix2 r k) = V m c main_v1 (ix2 r (C j k)) := by
  have e := (index (pt i j)).2.2.2.2.2.2.2.2.2.1
  have hj := j.isLt
  refine (congrArg (V m c main_v1) (place win0_9 rfl (pt i j) (ix2 r k) (ix2 r (C j k)) ?_))
  intro a
  match a with
  | ⟨0, _⟩ => show r.val = win0_9.index (pt i j) (0 : Fin 2) * 3 + r.val; rw [e.1]; (try dsimp only); omega
  | ⟨1, _⟩ => show 512 * j.val + k.val = win0_9.index (pt i j) (1 : Fin 2) * 512 + k.val; rw [e.2]; (try dsimp only); omega

theorem read_10 (i : Fin 16) (j : Fin 4) (r : Fin 1024) (k : Fin 512) :
    iblk m c 10 (pt i j) (ix2 r k) = V m c main_v2 (ix2 ⟨r.val, by have := r.isLt; omega⟩ (C j k)) := by
  have e := (index (pt i j)).2.2.2.2.2.2.2.2.2.2.1
  have hj := j.isLt
  refine (congrArg (V m c main_v2) (place win0_10 rfl (pt i j) (ix2 r k) (ix2 ⟨r.val, by have := r.isLt; omega⟩ (C j k)) ?_))
  intro a
  match a with
  | ⟨0, _⟩ => show r.val = win0_10.index (pt i j) (0 : Fin 2) * 1024 + r.val; rw [e.1]; (try dsimp only); omega
  | ⟨1, _⟩ => show 512 * j.val + k.val = win0_10.index (pt i j) (1 : Fin 2) * 512 + k.val; rw [e.2]; (try dsimp only); omega

theorem read_11 (i : Fin 16) (j : Fin 4) (r : Fin 512) (k : Fin 512) :
    iblk m c 11 (pt i j) (ix2 r k) = V m c main_v2 (ix2 ⟨1024 + r.val, by have := r.isLt; omega⟩ (C j k)) := by
  have e := (index (pt i j)).2.2.2.2.2.2.2.2.2.2.2.1
  have hj := j.isLt
  refine (congrArg (V m c main_v2) (place win0_11 rfl (pt i j) (ix2 r k) (ix2 ⟨1024 + r.val, by have := r.isLt; omega⟩ (C j k)) ?_))
  intro a
  match a with
  | ⟨0, _⟩ => show 1024 + r.val = win0_11.index (pt i j) (0 : Fin 2) * 512 + r.val; rw [e.1]; (try dsimp only)
  | ⟨1, _⟩ => show 512 * j.val + k.val = win0_11.index (pt i j) (1 : Fin 2) * 512 + k.val; rw [e.2]; (try dsimp only); omega

theorem read_12 (i : Fin 16) (j : Fin 4) (r : Fin 512) (k : Fin 512) :
    iblk m c 12 (pt i j) (ix2 r k) = V m c main_v2 (ix2 ⟨1536 + r.val, by have := r.isLt; omega⟩ (C j k)) := by
  have e := (index (pt i j)).2.2.2.2.2.2.2.2.2.2.2.2.1
  have hj := j.isLt
  refine (congrArg (V m c main_v2) (place win0_12 rfl (pt i j) (ix2 r k) (ix2 ⟨1536 + r.val, by have := r.isLt; omega⟩ (C j k)) ?_))
  intro a
  match a with
  | ⟨0, _⟩ => show 1536 + r.val = win0_12.index (pt i j) (0 : Fin 2) * 512 + r.val; rw [e.1]; (try dsimp only)
  | ⟨1, _⟩ => show 512 * j.val + k.val = win0_12.index (pt i j) (1 : Fin 2) * 512 + k.val; rw [e.2]; (try dsimp only); omega

/-- The gates' weights and the branches' weights as the kernel takes them. -/
theorem weights : V m c main_v0 = (truncf .bf16 (arg6 m c) bitsLt_bf16_f32 : FVec F S2048x6144 .bf16)
    ∧ V m c main_v1 = (shapeCast S3x2048 (arg7 m c) shapeCasts_S6144_S3x2048 : FVec F S3x2048 .f32)
    ∧ V m c main_v2 = (truncf .bf16 (arg8 m c) bitsLt_bf16_f32 : FVec F S2048x2048 .bf16) := by
  refine ⟨?_, ?_, ?_⟩ <;>
  (unfold_abbrev_sides
   simp only [hostOps0, List.flatten_cons, List.flatten_nil, List.append_nil, List.cons_append, List.nil_append]
   after_results_simp <;> rfl)

end Cert.MergeWindows

end
-- ==== Proof.MergeSpec.lean ====
/- The merge in plain numbers: the gates, and the attention over the memory. -/
module

public import proofs.«01_k».proof.Proof.MergeHead

@[expose] public section

set_option maxRecDepth 16384

noncomputable section

namespace Cert.MergeSpec

open Cert.MergeHead Cert.MergeIdeal Idealize.ShloMosaic

/-- A row's batch. -/
abbrev bt (n : Fin 16384) : Fin 2 := ⟨n.val / 8192, by have := n.isLt; omega⟩
/-- Column `d` of head `h`. -/
abbrev H (h : Fin 4) (d : Fin 128) : Fin 512 := ⟨h.val * 128 + d.val, by have := h.isLt; have := d.isLt; omega⟩
/-- The same column among the packed projection's, where the memory's queries come last. -/
abbrev Q (h : Fin 4) (d : Fin 128) : Fin 3584 := ⟨3072 + (h.val * 128 + d.val), by have := h.isLt; have := d.isLt; omega⟩
/-- Column `c` of the `q`-th of three blocks of 2048. -/
abbrev G (q : Fin 3) (c : Fin 2048) : Fin 6144 := ⟨q.val * 2048 + c.val, by have := q.isLt; have := c.isLt; omega⟩
/-- Row `k` of the rows from `1024` on, and of those from `1536` on. -/
abbrev mid (k : Fin 512) : Fin 2048 := ⟨1024 + k.val, by have := k.isLt; omega⟩
abbrev low (k : Fin 512) : Fin 2048 := ⟨1536 + k.val, by have := k.isLt; omega⟩
abbrev top (k : Fin 1024) : Fin 2048 := ⟨k.val, by have := k.isLt; omega⟩
/-- A row's place in its batch. -/
abbrev pos (n : Fin 16384) : Fin 8192 := ⟨n.val % 8192, by omega⟩
/-- The head of a column, and its place there. -/
abbrev hd (k : Fin 512) : Fin 4 := ⟨k.val / 128, by have := k.isLt; omega⟩
abbrev di (k : Fin 512) : Fin 128 := ⟨k.val % 128, by omega⟩

/-- Row `n`'s score against memory row `j`, in head `h`. -/
def sc (p : Vec Ideal S16384x3584 .bf16) (k : Vec Ideal S2x256x512 .bf16) (n : Fin 16384) (h : Fin 4) (j : Fin 256) : EReal :=
  (∑ d : Fin 128, p (ix2 n (Q h d)) * k (ix3 (bt n) j (H h d))) * (((Real.sqrt 128)⁻¹ : ℝ) : EReal)

/-- A row's scores' exponentials weigh the values, over their sum. -/
def quot (S V : Fin 256 → EReal) : EReal :=
  Ideal.div (∑ j, Ideal.exp (S j - Finset.univ.sup S) * V j) (∑ j, Ideal.exp (S j - Finset.univ.sup S))

/-- Gate `q` of row `n` at column `c`. -/
def gate (x : Vec Ideal S16384x2048 .bf16) (w : Vec Ideal S2048x6144 .f32) (b : Vec Ideal S6144 .f32) (q : Fin 3) (n : Fin 16384) (c : Fin 2048) : EReal :=
  logistic ((∑ k : Fin 2048, x (ix2 n k) * w (ix2 k (G q c))) + b (ix1 (G q c)))

/-- The gated sum, the attention over the memory given. -/
def merged (x : Vec Ideal S16384x2048 .bf16) (a : Vec Ideal S16384x1024 .bf16) (b : Vec Ideal S16384x512 .bf16) (o : Fin 16384 → Fin 512 → EReal)
    (w : Vec Ideal S2048x6144 .f32) (g : Vec Ideal S6144 .f32) (u : Vec Ideal S2048x2048 .f32) (n : Fin 16384) (c : Fin 2048) : EReal :=
  gate x w g 0 n c * (∑ k : Fin 1024, a (ix2 n k) * u (ix2 (top k) c))
    + gate x w g 1 n c * (∑ k : Fin 512, b (ix2 n k) * u (ix2 (mid k) c))
    + gate x w g 2 n c * (∑ k : Fin 512, o n k * u (ix2 (low k) c))

end Cert.MergeSpec

end
-- ==== Proof.MergeValue.lean ====
/- The merge kernel's result at an index, in plain numbers. -/
module

public import proofs.«01_k».proof.Proof.MergeWindows
public import proofs.«01_k».proof.Proof.MergeSpec
public import Idealize.ShloMosaic.Lib.Pipeline.ValueKit.Held

@[expose] public section

set_option maxRecDepth 16384

noncomputable section

namespace Cert.MergeValue

open Cert.MergeHead Cert.MergeBlock Cert.MergeWindows Cert.MergeSpec Cert.MergeIdeal Cert.MergeIdeal.Gen Cert.MergeIdeal.Value
open Idealize.ShloMosaic Idealize.ShloMosaic.TcCoe Idealize.SL.Sem

section Carried
variable {F : FTy → Type} [FloatOps F] [Named F]
variable (m : (ℓ : Loc nD τ sig) → Buf (Elt F) ℓ) (c : Dev nD)

/-- The four heads' results side by side, from a point's blocks. -/
def heads (t : Fin cfg0.N) : Vec F S1024x512 .bf16 := fun y =>
  headOut ⟨(y 1).val / 128, by have : (y 1).val < 512 := (y 1).isLt; omega⟩ (iblk m c 3 t) (iblk m c 4 t) (iblk m c 5 t)
    (ix2 ⟨(y 0).val, (y 0).isLt⟩ ⟨(y 1).val % 128, by omega⟩)

/-- The scratch holds the heads of the row block's first point. -/
theorem scratch (t : Fin cfg0.N) :
    (outsAt0 m c t.val t.isLt).2 = heads m c ⟨4 * (t.val / 4), Pipeline.run_start_lt t⟩ := by
  refine Pipeline.eq_of_write_hold (fun n h => (outsAt0 m c n h).2) 4 (heads m c) (fun t h0 => ?_) (fun t h0 => ?_) t
  · show (outsAt0 m c t.val t.isLt).2 = _
    rw [outsAt0_A m c t h0]
    funext y
    dsimp only
    unfold heads
    have hy : (y 1).val < 512 := (y 1).isLt
    rw [scratch_apply (h := ⟨(y 1).val / 128, by omega⟩) (r := ⟨(y 0).val, (y 0).isLt⟩) (d := ⟨(y 1).val % 128, by omega⟩) (hy0 := rfl)
      (hy1 := by dsimp only; omega)]
  · show (outsAt0 m c t.val t.isLt).2 = _
    rw [outsAt0_B m c t h0]
    rfl

/-- What every point stores: the gated sum over what the scratch holds. -/
theorem stored (t : Fin cfg0.N) :
    (outsAt0 m c t.val t.isLt).1
      = body (iblk m c 0 t) (iblk m c 1 t) (iblk m c 2 t) (heads m c ⟨4 * (t.val / 4), Pipeline.run_start_lt t⟩) (iblk m c 6 t) (iblk m c 7 t)
          (iblk m c 8 t) (View.ld (iblk m c 9 t) (row 0)) (View.ld (iblk m c 9 t) (row 1)) (View.ld (iblk m c 9 t) (row 2)) (iblk m c 10 t)
          (iblk m c 11 t) (iblk m c 12 t) := by
  have s := scratch m c t
  by_cases h0 : t.val % 4 = 0
  · rw [outsAt0_A m c t h0] at s ⊢
    dsimp only at s ⊢
    rw [store_A, s]
    rfl
  · have hc : 4 * (t.val / 4) = 4 * ((t.val - 1) / 4) := by omega
    have s' := scratch m c ⟨t.val - 1, Nat.lt_of_le_of_lt (Nat.sub_le _ _) t.isLt⟩
    rw [outsAt0_B m c t h0]
    dsimp only at s' ⊢
    rw [store_B, s']
    simp only [hc]
    rfl

end Carried

variable (m : (ℓ : Loc nD τ sig) → Buf (Elt Ideal) ℓ) (c : Dev nD)

/-- The attention over the memory, as the kernel forms it. -/
def cross (n : Fin 16384) (k : Fin 512) : EReal :=
  quot (sc (arg3 m c) (arg4 m c) n (hd k)) fun j => arg5 m c (ix3 (bt n) j k)

theorem batch (i : Fin 16) (r : Fin 1024) : bt (R i r) = B i :=
  Fin.ext (by show (1024 * i.val + r.val) / 8192 = i.val / 8; have := r.isLt; omega)

theorem score_eq (i : Fin 16) (r : Fin 1024) (h : Fin 4) (j : Fin 256) :
    score (View.ld (iblk m c 3 (pt i 0)) (cols h)) (View.ld (iblk m c 4 (pt i 0)) (mem h)) r j = sc (arg3 m c) (arg4 m c) (R i r) h j := by
  unfold score sc
  refine congrArg (fun s : EReal => s * _) (Finset.sum_congr rfl fun d _ => congrArg₂ (fun a b : EReal => a * b) ?_ ?_)
  · refine Eq.trans ?_ (read_3 m c i 0 r (H h d))
    refine congrArg (iblk m c 3 (pt i 0)) (funext fun a => Fin.ext ?_)
    match a with
    | ⟨0, _⟩ => show 0 + 1 * r.val = r.val; omega
    | ⟨1, _⟩ => show 128 * h.val + 1 * d.val = h.val * 128 + d.val; omega
  · rw [batch]
    refine Eq.trans ?_ (read_4 m c i 0 j (H h d))
    refine congrArg (iblk m c 4 (pt i 0)) (funext fun a => Fin.ext ?_)
    match a with
    | ⟨0, _⟩ => rfl
    | ⟨1, _⟩ => show 0 + 1 * j.val = j.val; omega
    | ⟨2, _⟩ => show 128 * h.val + 1 * d.val = h.val * 128 + d.val; omega

theorem heads_eq (i : Fin 16) (r : Fin 1024) (k : Fin 512) : heads m c (pt i 0) (ix2 r k) = cross m c (R i r) k := by
  show headOut (hd k) (iblk m c 3 (pt i 0)) (iblk m c 4 (pt i 0)) (iblk m c 5 (pt i 0)) (ix2 r (di k)) = _
  unfold headOut cross
  rw [head_apply]
  have v : ∀ j : Fin 256, View.ld (iblk m c 5 (pt i 0)) (mem (hd k)) (ix3 0 j (di k)) = arg5 m c (ix3 (bt (R i r)) j k) := by
    intro j
    rw [batch]
    refine Eq.trans ?_ (read_5 m c i 0 j k)
    refine congrArg (iblk m c 5 (pt i 0)) (funext fun a => Fin.ext ?_)
    match a with
    | ⟨0, _⟩ => rfl
    | ⟨1, _⟩ => show 0 + 1 * j.val = j.val; omega
    | ⟨2, _⟩ => show 128 * (k.val / 128) + 1 * (k.val % 128) = k.val; omega
  have s : score (View.ld (iblk m c 3 (pt i 0)) (cols (hd k))) (View.ld (iblk m c 4 (pt i 0)) (mem (hd k))) r = sc (arg3 m c) (arg4 m c) (R i r) (hd k) :=
    funext fun j => score_eq m c i r (hd k) j
  exact congrArg₂ quot s (funext v)

/-- A gate from the blocks that hold its operands. -/
theorem gate_eq (i : Fin 16) (j : Fin 4) (r : Fin 1024) (k : Fin 512) (q : Fin 3) (x : Vec Ideal S1024x2048 .bf16) (w : Vec Ideal S2048x512 .bf16)
    (b : Vec Ideal S3x512 .f32) (hx : ∀ p, x (ix2 r p) = arg0 m c (ix2 (R i r) p)) (hw : ∀ p, w (ix2 p k) = V m c main_v0 (ix2 p (G q (C j k))))
    (hb : b (ix2 q k) = V m c main_v1 (ix2 q (C j k))) :
    logistic ((∑ p : Fin 2048, x (ix2 r p) * w (ix2 p k)) + View.ld b (row q) (ix2 0 k))
      = gate (arg0 m c) (arg6 m c) (arg7 m c) q (R i r) (C j k) := by
  obtain ⟨w0, w1, -⟩ := weights m c
  refine congrArg logistic (congrArg₂ (fun a b : EReal => a + b) (Finset.sum_congr rfl fun p _ => ?_) ?_)
  · rw [hx, hw, w0]
    rfl
  · have g : View.ld b (row q) (ix2 0 k) = b (ix2 q k) := by
      refine congrArg b (funext fun a => Fin.ext ?_)
      match a with
      | ⟨0, _⟩ => show q.val + 1 * 0 = q.val; omega
      | ⟨1, _⟩ => show 0 + 1 * k.val = k.val; omega
    rw [g, hb, w1]
    generalize C j k = z
    pointwise

/-- The result array at a row and a column. -/
theorem value (i : Fin 16) (j : Fin 4) (r : Fin 1024) (k : Fin 512) :
    (dats m 0 c).arrAt 13 cfg0.N (ix2 (R i r) (C j k))
      = merged (arg0 m c) (arg1 m c) (arg2 m c) (cross m c) (arg6 m c) (arg7 m c) (arg8 m c) (R i r) (C j k) := by
  have e := (index (pt i j)).2.2.2.2.2.2.2.2.2.2.2.2.2
  have hj := j.isLt
  have b := congrFun (blocks13 m c (pt i j) (flush0_13 (pt i j))) (ix2 r k)
  rw [flushed13] at b
  have z : ((cfg0.win 13).blk (pt i j)).view.emb (ix2 r k) = ix2 (R i r) (C j k) := by
    refine place win0_13 rfl (pt i j) (ix2 r k) (ix2 (R i r) (C j k)) ?_
    intro a
    match a with
    | ⟨0, _⟩ => show 1024 * i.val + r.val = win0_13.index (pt i j) (0 : Fin 2) * 1024 + r.val; rw [e.1]; dsimp only; omega
    | ⟨1, _⟩ => show 512 * j.val + k.val = win0_13.index (pt i j) (1 : Fin 2) * 512 + k.val; rw [e.2]; dsimp only; omega
  have b' : (dats m 0 c).arrAt 13 cfg0.N (((cfg0.win 13).blk (pt i j)).view.emb (ix2 r k)) = (outsAt0 m c (pt i j).val (pt i j).isLt).1 (ix2 r k) := b
  rw [z] at b'
  refine b'.trans ?_
  have f : (⟨4 * ((pt i j).val / 4), Pipeline.run_start_lt (pt i j)⟩ : Fin cfg0.N) = pt i 0 :=
    Fin.ext (by show 4 * ((4 * i.val + j.val) / 4) = 4 * i.val + 0; omega)
  have w2 := (weights m c).2.2
  rw [stored, body_apply, f]
  unfold merged
  refine congrArg₂ (fun a b : EReal => a + b) (congrArg₂ (fun a b : EReal => a + b) ?_ ?_) ?_ <;>
    refine congrArg₂ (fun a b : EReal => a * b) (gate_eq m c i j r k _ _ _ _ (read_0 m c i j r) (fun p => ?_) (read_9 m c i j _ k))
      (Finset.sum_congr rfl fun p _ => congrArg₂ (fun a b : EReal => a * b) ?_ ?_)
  · exact (read_6 m c i j p k).trans (congrArg (fun z => V m c main_v0 (ix2 p z)) (Fin.ext (by show 512 * j.val + k.val = 0 * 2048 + (512 * j.val + k.val); omega)))
  · exact read_1 m c i j r p
  · exact (read_10 m c i j p k).trans (congrFun w2 _)
  · exact (read_7 m c i j p k).trans (congrArg (fun z => V m c main_v0 (ix2 p z)) (Fin.ext (by show 2048 + (512 * j.val + k.val) = 1 * 2048 + (512 * j.val + k.val); omega)))
  · exact read_2 m c i j r p
  · exact (read_11 m c i j p k).trans (congrFun w2 _)
  · exact (read_8 m c i j p k).trans (congrArg (fun z => V m c main_v0 (ix2 p z)) (Fin.ext (by show 4096 + (512 * j.val + k.val) = 2 * 2048 + (512 * j.val + k.val); omega)))
  · exact heads_eq m c i r p
  · exact (read_12 m c i j p k).trans (congrFun w2 _)

end Cert.MergeValue

end
-- ==== Proof.MergeReference.lean ====
/- The merge's reference at an index, in plain numbers. -/
module

public import proofs.«01_k».proof.Proof.Gen.MergeReferenceIdeal.Read
public import proofs.«01_k».proof.Proof.MergeSpec

@[expose] public section

set_option maxRecDepth 16384

noncomputable section

namespace Cert.MergeReference

open Cert.Soft Cert.MergeHead Cert.MergeSpec Cert.MergeReferenceIdeal Cert.MergeReferenceIdeal.Gen Cert.MergeReferenceIdeal.Read Idealize.ShloMosaic

/-- The logistic function of an array. -/
theorem logistic_gen (z : FVec Ideal S16384x6144 .f32) (n : Fin 16384) (c : Fin 6144) :
    (Host.divf (broadcastInDim S16384x6144 ![] bcast_S_S16384x6144 (constant (F := Ideal) S_ .f32 0x3F800000#32))
      (addf (broadcastInDim S16384x6144 ![] bcast_S_S16384x6144 (constant (F := Ideal) S_ .f32 0x3F800000#32)) (Host.exp (Host.negf z)))
        : FVec Ideal S16384x6144 .f32) (ix2 n c) = logistic (z (ix2 n c)) := by
  pointwise
  rfl

/-- The gates' sums. -/
theorem linear_gen (x : FVec Ideal S16384x2048 .f32) (w : FVec Ideal S2048x6144 .f32) (b : FVec Ideal S6144 .f32) (n : Fin 16384) (c : Fin 6144) :
    (addf (Host.dotGeneral dot_S16384x2048_S2048x6144_S16384x6144_1_0_0_1_n_n none x w)
      (broadcastInDim S16384x6144 ![0, 1] bcast_S1x6144_S16384x6144_0_1 (broadcastInDim S1x6144 ![1] bcast_S6144_S1x6144_1 b))
        : FVec Ideal S16384x6144 .f32) (ix2 n c)
      = (∑ k : Fin 2048, (x (ix2 n k) : EReal) * w (ix2 k c)) + b (ix1 c) := by
  pointwise

/-- The three gates, each times its branch. -/
theorem merged_gen (g : FVec Ideal S16384x6144 .f32) (u v w : FVec Ideal S16384x2048 .f32) (n : Fin 16384) (c : Fin 2048) :
    (truncf .bf16 (addf (addf
        (mulf (shapeCast S16384x2048 (extractStridedSlice S16384x1x2048 ![0, 0, 0] (shapeCast S16384x3x2048 g shapeCasts_S16384x6144_S16384x3x2048)
          slices_S16384x3x2048_S16384x1x2048_0_0_0) shapeCasts_S16384x1x2048_S16384x2048) u)
        (mulf (shapeCast S16384x2048 (extractStridedSlice S16384x1x2048 ![0, 1, 0] (shapeCast S16384x3x2048 g shapeCasts_S16384x6144_S16384x3x2048)
          slices_S16384x3x2048_S16384x1x2048_0_1_0) shapeCasts_S16384x1x2048_S16384x2048) v))
        (mulf (shapeCast S16384x2048 (extractStridedSlice S16384x1x2048 ![0, 2, 0] (shapeCast S16384x3x2048 g shapeCasts_S16384x6144_S16384x3x2048)
          slices_S16384x3x2048_S16384x1x2048_0_2_0) shapeCasts_S16384x1x2048_S16384x2048) w)) bitsLt_bf16_f32 : FVec Ideal S16384x2048 .bf16) (ix2 n c)
      = (g (ix2 n (G 0 c)) : EReal) * u (ix2 n c) + (g (ix2 n (G 1 c)) : EReal) * v (ix2 n c) + (g (ix2 n (G 2 c)) : EReal) * w (ix2 n c) := by
  have e0 : G 0 c = ⟨c.val, by omega⟩ := Fin.ext (by show 0 * 2048 + c.val = c.val; omega)
  pointwise
  rw [e0]
  rfl

theorem branch_a (x : Vec Ideal S16384x1024 .bf16) (u : Vec Ideal S2048x2048 .f32) (n : Fin 16384) (c : Fin 2048) :
    val_main_v27 (F := Ideal) x u (ix2 n c) = ∑ k : Fin 1024, (x (ix2 n k) : EReal) * u (ix2 (top k) c) := by
  unfold val_main_v27 val_main_v26 val_main_v25
  pointwise

theorem branch_b (x : Vec Ideal S16384x512 .bf16) (u : Vec Ideal S2048x2048 .f32) (n : Fin 16384) (c : Fin 2048) :
    val_main_v30 (F := Ideal) x u (ix2 n c) = ∑ k : Fin 512, (x (ix2 n k) : EReal) * u (ix2 (mid k) c) := by
  unfold val_main_v30 val_main_v29 val_main_v28
  pointwise

theorem branch_c (o : FVec Ideal S16384x512 .f32) (u : Vec Ideal S2048x2048 .f32) (n : Fin 16384) (c : Fin 2048) :
    (Host.dotGeneral (φ₁ := .f32) (φ₂ := .f32) dot_S16384x512_S512x2048_S16384x2048_1_0_0_1_n_n none o (val_main_v31 (F := Ideal) u : FVec Ideal S512x2048 .f32) : FVec Ideal S16384x2048 .f32) (ix2 n c)
      = ∑ k : Fin 512, (o (ix2 n k) : EReal) * u (ix2 (low k) c) := by
  unfold val_main_v31
  pointwise

/-- A row's maximum, in any scores. -/
theorem max_gen (s : FVec Ideal S2x4x8192x256 .f32) (b : Fin 2) (h : Fin 4) (i : Fin 8192) :
    (Host.reduce FloatOps.maximumf s (constant (F := Ideal) S_ .f32 0xFF800000#32) reducesTo_S2x4x8192x256_S2x4x8192_d3 h_S_ : FVec Ideal S2x4x8192 .f32) (ix3 b h i)
      = Finset.univ.sup fun k => (s (ix4 b h i k) : EReal) := by
  pointwise
  rw [minus_infinity]
  exact fold_max_eq_sup _ _

/-- The maximum against −∞ changes nothing. -/
theorem clip_gen (s : FVec Ideal S2x4x8192 .f32) (b : Fin 2) (h : Fin 4) (i : Fin 8192) :
    (maximumf (broadcastInDim S2x4x8192 ![] bcast_S_S2x4x8192 (constant (F := Ideal) S_ .f32 0xFF800000#32)) s : FVec Ideal S2x4x8192 .f32) (ix3 b h i)
      = s (ix3 b h i) := by
  pointwise
  rw [minus_infinity]
  exact max_eq_right bot_le

/-- The exponential of the scores less a number for each row. -/
theorem exp_gen (s : FVec Ideal S2x4x8192x256 .f32) (t : FVec Ideal S2x4x8192 .f32) (b : Fin 2) (h : Fin 4) (i : Fin 8192) (k : Fin 256) :
    (Host.exp (subf s (broadcastInDim S2x4x8192x256 ![0, 1, 2, 3] bcast_S2x4x8192x1_S2x4x8192x256_0_1_2_3
      (broadcastInDim S2x4x8192x1 ![0, 1, 2] bcast_S2x4x8192_S2x4x8192x1_0_1_2 t))) : FVec Ideal S2x4x8192x256 .f32) (ix4 b h i k)
      = Ideal.exp (s (ix4 b h i k) - t (ix3 b h i)) := by
  pointwise

/-- The weights over their row's sum. -/
theorem div_gen (w : FVec Ideal S2x4x8192x256 .f32) (b : Fin 2) (h : Fin 4) (i : Fin 8192) (k : Fin 256) :
    (Host.divf w (broadcastInDim S2x4x8192x256 ![0, 1, 2, 3] bcast_S2x4x8192x1_S2x4x8192x256_0_1_2_3
      (broadcastInDim S2x4x8192x1 ![0, 1, 2] bcast_S2x4x8192_S2x4x8192x1_0_1_2
        (Host.reduceAdd w (constant (F := Ideal) S_ .f32 0x00000000#32) reducesTo_S2x4x8192x256_S2x4x8192_d3 h_S_))) : FVec Ideal S2x4x8192x256 .f32) (ix4 b h i k)
      = Ideal.div (w (ix4 b h i k)) (∑ k : Fin 256, (w (ix4 b h i k) : EReal)) := by
  pointwise

/-- The weighted values, laid out as rows and columns. -/
theorem out_gen (v : Vec Ideal S2x256x512 .bf16) (w : FVec Ideal S2x4x8192x256 .f32) (n : Fin 16384) (k : Fin 512) :
    (shapeCast S16384x512 (transpose S2x8192x4x128 [0, 3, 1, 2]
      (Host.dotGeneral (φ₁ := .f32) (φ₂ := .f32) dot_S2x256x4x128_S2x4x8192x256_S2x4x128x8192_1_3_3_2_02_01 none (val_main_v6 (F := Ideal) v : FVec Ideal S2x256x4x128 .f32) w : FVec Ideal S2x4x128x8192 .f32)
      transposes_S2x4x128x8192_S2x8192x4x128_0_3_1_2) shapeCasts_S2x8192x4x128_S16384x512 : FVec Ideal S16384x512 .f32) (ix2 n k)
      = ∑ j : Fin 256, (v (ix3 (bt n) j k) : EReal) * w (ix4 (bt n) (hd k) (pos n) j) := by
  have e : (⟨k.val / 128 * 128 + k.val % 128, by omega⟩ : Fin 512) = k := Fin.ext (by dsimp only; omega)
  unfold val_main_v6 val_main_v5
  pointwise

/-- The scores before they are scaled. -/
theorem dot_apply (p : Vec Ideal S16384x3584 .bf16) (k : Vec Ideal S2x256x512 .bf16) (n : Fin 16384) (h : Fin 4) (j : Fin 256) :
    val_main_v7 (F := Ideal) p k (ix4 (bt n) h (pos n) j)
      = ∑ d : Fin 128, (p (ix2 n (Q h d)) : EReal) * k (ix3 (bt n) j (H h d)) := by
  have e : (⟨n.val / 8192 * 8192 + n.val % 8192, by omega⟩ : Fin 16384) = n := Fin.ext (by dsimp only; omega)
  unfold val_main_v7 val_main_v4 val_main_v3 val_main_v2 val_main_v1 val_main_v0
  pointwise
  simp only [e]

theorem word_128 : (Ideal.ofBits .f32 1124073472#32 : EReal) = ((128 : ℝ) : EReal) := by
  simp [Ideal.ofBits, Ideal.ieee, -EReal.coe_mul]; norm_num

theorem scale_gen (s : FVec Ideal S2x4x8192x256 .f32) (b : Fin 2) (h : Fin 4) (i : Fin 8192) (j : Fin 256) :
    (Host.divf s (val_main_v9 (F := Ideal)) : FVec Ideal S2x4x8192x256 .f32) (ix4 b h i j) = (s (ix4 b h i j) : EReal) * (((Real.sqrt 128)⁻¹ : ℝ) : EReal) := by
  have ne : Real.sqrt 128 ≠ 0 := (Real.sqrt_pos.2 (by norm_num)).ne'
  unfold val_main_v9 val_main_v8 val_main_cst
  pointwise
  rw [word_128, Ideal.sqrt_coe, if_neg (by norm_num), Ideal.div_coe ne, one_div]

theorem score_apply (p : Vec Ideal S16384x3584 .bf16) (k : Vec Ideal S2x256x512 .bf16) (n : Fin 16384) (h : Fin 4) (j : Fin 256) :
    val_main_v10 (F := Ideal) p k (ix4 (bt n) h (pos n) j) = sc p k n h j := by
  unfold val_main_v10
  rw [scale_gen, dot_apply]
  rfl

theorem weight_apply (p : Vec Ideal S16384x3584 .bf16) (k : Vec Ideal S2x256x512 .bf16) (n : Fin 16384) (h : Fin 4) (j : Fin 256) :
    val_main_v17 (F := Ideal) p k (ix4 (bt n) h (pos n) j) = Ideal.exp (sc p k n h j - Finset.univ.sup (sc p k n h)) := by
  unfold val_main_v17 val_main_v16 val_main_v15 val_main_v14 val_main_v13 val_main_v12 val_main_v11 val_main_cst_0 val_main_cst_1
  rw [exp_gen, clip_gen, max_gen, score_apply]
  exact congrArg (fun s : EReal => Ideal.exp (sc p k n h j - s)) (congrArg _ (funext fun j => score_apply p k n h j))

/-- The attention over the memory, as the reference forms it. -/
def cross (p : Vec Ideal S16384x3584 .bf16) (k v : Vec Ideal S2x256x512 .bf16) (n : Fin 16384) (q : Fin 512) : EReal :=
  ∑ j : Fin 256, v (ix3 (bt n) j q)
    * Ideal.div (Ideal.exp (sc p k n (hd q) j - Finset.univ.sup (sc p k n (hd q)))) (∑ j, Ideal.exp (sc p k n (hd q) j - Finset.univ.sup (sc p k n (hd q))))

theorem cross_apply (p : Vec Ideal S16384x3584 .bf16) (k v : Vec Ideal S2x256x512 .bf16) (n : Fin 16384) (q : Fin 512) :
    val_main_v24 (F := Ideal) p k v (ix2 n q) = cross p k v n q := by
  unfold val_main_v24 val_main_v23 val_main_v22
  rw [out_gen]
  unfold cross
  refine Finset.sum_congr rfl fun j _ => congrArg (fun s : EReal => (v (ix3 (bt n) j q) : EReal) * s) ?_
  unfold val_main_v21 val_main_v20 val_main_v19 val_main_v18 val_main_cst_2
  rw [div_gen]
  simp only [weight_apply]

theorem gate_apply (x : Vec Ideal S16384x2048 .bf16) (w : Vec Ideal S2048x6144 .f32) (b : Vec Ideal S6144 .f32) (q : Fin 3) (n : Fin 16384) (c : Fin 2048) :
    val_main_v43 (F := Ideal) x w b (ix2 n (G q c)) = gate x w b q n c := by
  unfold val_main_v43 val_main_v42 val_main_v41 val_main_v40 val_main_v39 val_main_v38 val_main_cst_3 val_main_cst_4
  rw [logistic_gen]
  unfold val_main_v37 val_main_v36 val_main_v35 val_main_v34 val_main_v33
  rw [linear_gen]
  rfl

theorem value (x0 : Vec Ideal S16384x2048 .bf16) (x1 : Vec Ideal S16384x1024 .bf16) (x2 : Vec Ideal S16384x512 .bf16) (x3 : Vec Ideal S16384x3584 .bf16)
    (x4 x5 : Vec Ideal S2x256x512 .bf16) (x6 : Vec Ideal S2048x6144 .f32) (x7 : Vec Ideal S6144 .f32) (x8 : Vec Ideal S2048x2048 .f32)
    (n : Fin 16384) (c : Fin 2048) :
    val_main_v56 (F := Ideal) x0 x1 x2 x3 x4 x5 x6 x7 x8 (ix2 n c) = merged x0 x1 x2 (cross x3 x4 x5) x6 x7 x8 n c := by
  unfold val_main_v56 val_main_v55 val_main_v54 val_main_v53 val_main_v52 val_main_v51 val_main_v50 val_main_v49 val_main_v48 val_main_v47 val_main_v46
    val_main_v45 val_main_v44
  rw [merged_gen, gate_apply, gate_apply, gate_apply, branch_a, branch_b]
  unfold val_main_v32
  rw [branch_c]
  simp only [cross_apply]
  rfl

end Cert.MergeReference

end
-- ==== Proof.MergeFinite.lean ====
/- What the merge's precondition says of a query and of a memory row. -/
module

public import proofs.«01_k».proof.Pre_finite_cross_scores
public import proofs.«01_k».proof.Proof.Finite
public import proofs.«01_k».proof.Proof.MergeSpec
public import proofs.«01_k».proof.Proof.Soft

@[expose] public section

set_option maxRecDepth 16384

noncomputable section

namespace Cert.MergeFinite

open Cert.Pre_finite_cross_scores Cert.Finite Cert.MergeSpec Idealize.ShloMosaic

/-- The side conditions of the precondition's operations. -/
theorem facts : Cert.Pre_finite_cross_scores.Facts where
  slices_S16384x3584_S16384x512_0_3072 := by decide
  bitsLt_bf16_f32 := by decide
  bcast_S_S16384x512 := by decide
  reducesTo_S16384x512_S_d0_1 := by decide
  h_S_ := by decide
  bcast_S_S2x256x512 := by decide
  reducesTo_S2x256x512_S_d0_1_2 := by decide

instance : Cert.Pre_finite_cross_scores.Facts := facts

theorem query_real (p : FVec Ideal S16384x3584 .bf16)
    (h : Host.reduce IntOp.andi (cmpf .olt (Host.absf (extf .f32 (extractStridedSlice S16384x512 ![0, 3072] p Facts.slices_S16384x3584_S16384x512_0_3072) Facts.bitsLt_bf16_f32))
        (broadcastInDim S16384x512 ![] Facts.bcast_S_S16384x512 (constant (F := Ideal) S_ .f32 0x7F800000#32)) : IVec S16384x512 1)
      (constantI S_ 1 1#1) Facts.reducesTo_S16384x512_S_d0_1 Facts.h_S_ ix0 = 1#1) (n : Fin 16384) (a : Fin 4) (d : Fin 128) :
    (p (ix2 n (Q a d)) : EReal) ≠ ⊤ ∧ (p (ix2 n (Q a d)) : EReal) ≠ ⊥ := by
  haveI : Subsingleton S_.Idx := ⟨fun a b => funext fun z => z.elim0⟩
  have g := real_of_abs _ (Host.reduce_andi_all _ _ _ _ _ h (ix2 n (H a d)))
  have e : (extf .f32 (extractStridedSlice S16384x512 ![0, 3072] p Facts.slices_S16384x3584_S16384x512_0_3072) Facts.bitsLt_bf16_f32 : FVec Ideal S16384x512 .f32)
      (ix2 n (H a d)) = p (ix2 n (Q a d)) := by
    pointwise
  rw [e] at g
  exact g

theorem memory_real (k : FVec Ideal S2x256x512 .bf16)
    (h : Host.reduce IntOp.andi (cmpf .olt (Host.absf (extf .f32 k Facts.bitsLt_bf16_f32))
        (broadcastInDim S2x256x512 ![] Facts.bcast_S_S2x256x512 (constant (F := Ideal) S_ .f32 0x7F800000#32)) : IVec S2x256x512 1)
      (constantI S_ 1 1#1) Facts.reducesTo_S2x256x512_S_d0_1_2 Facts.h_S_ ix0 = 1#1) (b : Fin 2) (j : Fin 256) (z : Fin 512) :
    (k (ix3 b j z) : EReal) ≠ ⊤ ∧ (k (ix3 b j z) : EReal) ≠ ⊥ := by
  haveI : Subsingleton S_.Idx := ⟨fun a b => funext fun z => z.elim0⟩
  exact real_of_abs _ (Host.reduce_andi_all _ _ _ _ _ h (ix3 b j z))

/-- Under the precondition a score is a real number. -/
theorem sc_real (x0 : FVec Ideal S16384x2048 .bf16) (x1 : FVec Ideal S16384x1024 .bf16) (x2 : FVec Ideal S16384x512 .bf16) (p : FVec Ideal S16384x3584 .bf16)
    (k v : FVec Ideal S2x256x512 .bf16) (x6 : FVec Ideal S2048x6144 .f32) (x7 : FVec Ideal S6144 .f32) (x8 : FVec Ideal S2048x2048 .f32)
    (hpre : fn (F := Ideal) x0 x1 x2 p k v x6 x7 x8 = fun _ => 1#1) (n : Fin 16384) (a : Fin 4) (j : Fin 256) :
    sc p k n a j ≠ ⊤ ∧ sc p k n a j ≠ ⊥ := by
  have h0 := congrFun hpre ix0
  unfold fn at h0
  obtain ⟨hq, hk⟩ := andi_one _ _ h0
  have q : ∀ d : Fin 128, ∃ s : ℝ, p (ix2 n (Q a d)) * k (ix3 (bt n) j (H a d)) = (s : EReal) := fun d => by
    have q := query_real p hq n a d
    have m := memory_real k hk (bt n) j (H a d)
    lift (p (ix2 n (Q a d)) : EReal) to ℝ using q with u
    lift (k (ix3 (bt n) j (H a d)) : EReal) to ℝ using m with w
    exact ⟨u * w, (EReal.coe_mul u w).symm⟩
  choose s hs using q
  unfold sc
  simp only [hs]
  rw [Cert.Soft.sum_coe, ← EReal.coe_mul]
  exact ⟨EReal.coe_ne_top _, EReal.coe_ne_bot _⟩

end Cert.MergeFinite

end
-- ==== Proof.MergeEquation.lean ====
/- The merge kernel and its reference compute the same array, wherever the scores are real numbers. -/
module

public import proofs.«01_k».proof.Proof.MergeValue
public import proofs.«01_k».proof.Proof.MergeReference
public import proofs.«01_k».proof.Proof.MergeFinite
public import proofs.«01_k».proof.Proof.Soft

@[expose] public section

set_option maxRecDepth 16384

noncomputable section

namespace Cert.MergeEquation

open Cert.MergeSpec Cert.MergeWindows Idealize.ShloMosaic Idealize.ShloMosaic.TcCoe Idealize.SL.Sem

variable (m : (ℓ : Loc Cert.MergeIdeal.nD Cert.MergeIdeal.τ Cert.MergeIdeal.sig) → Buf (Elt Ideal) ℓ) (c : Dev Cert.MergeIdeal.nD)

/-- Dividing once is dividing every weight, the scores being real. -/
theorem cross_eq (hs : ∀ n a j, sc (arg3 m c) (arg4 m c) n a j ≠ ⊤ ∧ sc (arg3 m c) (arg4 m c) n a j ≠ ⊥) :
    Cert.MergeValue.cross m c = Cert.MergeReference.cross (arg3 m c) (arg4 m c) (arg5 m c) := by
  funext n q
  exact Cert.Soft.attend_eq id Function.injective_id _ _ _ _ (fun j h => absurd ⟨j, rfl⟩ h) (fun _ => rfl) (fun _ _ => rfl)
    (fun j => (hs n (hd q) j).1) 0 (hs n (hd q) 0).2

theorem agree
    (hpre : Cert.Pre_finite_cross_scores.fn (F := Ideal) (arg0 m c) (arg1 m c) (arg2 m c) (arg3 m c) (arg4 m c) (arg5 m c) (arg6 m c) (arg7 m c)
      (arg8 m c) = fun _ => 1#1) :
    (Cert.MergeIdeal.Gen.dats m 0 c).arrAt 13 Cert.MergeIdeal.cfg0.N
      = Cert.MergeReferenceIdeal.Read.val_main_v56 (F := Ideal) (arg0 m c) (arg1 m c) (arg2 m c) (arg3 m c) (arg4 m c) (arg5 m c) (arg6 m c) (arg7 m c)
        (arg8 m c) := by
  funext z
  have z0 : (z 0).val < 16384 := (z 0).isLt
  have z1 : (z 1).val < 2048 := (z 1).isLt
  have e : z = ix2 (R ⟨(z 0).val / 1024, by omega⟩ ⟨(z 0).val % 1024, by omega⟩) (C ⟨(z 1).val / 512, by omega⟩ ⟨(z 1).val % 512, by omega⟩) := by
    funext a; apply Fin.ext
    match a with
    | ⟨0, _⟩ => show (z 0).val = 1024 * ((z 0).val / 1024) + (z 0).val % 1024; omega
    | ⟨1, _⟩ => show (z 1).val = 512 * ((z 1).val / 512) + (z 1).val % 512; omega
  rw [e, Cert.MergeValue.value, Cert.MergeReference.value,
    cross_eq m c (Cert.MergeFinite.sc_real _ _ _ _ _ _ _ _ _ hpre)]

end Cert.MergeEquation

end
-- ==== Proof.Place.lean ====
/- Where an element of a window's block sits in the window's array, and a row's norm. -/
module

public import Idealize.ShloMosaic.Lib.Pipeline.Value
public import Idealize.ShloMosaic.Lib.Pointwise

@[expose] public section

noncomputable section

namespace Cert.Place

open Idealize.ShloMosaic

/-- An element of a block sits in the array at the block's offset plus its own place. -/
theorem place {sig : RefSig} {G : Pipeline.Grid} (w : Pipeline.Window sig G) (hk : w.kind = .blocked) (t : Fin G.N) (y : (w.xblock (G.coords t)).Idx)
    (z : w.shape.Idx) (h : ∀ a, (z a).val = w.index t a * w.size a + (y a).val) : (w.rect t).emb y = z :=
  funext fun a => Fin.ext ((w.rect_emb_val t y a hk).trans (h a).symm)

/-- An entry of a row over the root of the row's mean square: `count` is the word that holds the row's length. -/
def unit {n : ℕ} (count : BitVec 32) (y : Fin n → EReal) (k : Fin n) : EReal :=
  y k * Ideal.rsqrt (Ideal.div (∑ j, y j * y j) (Ideal.ofBits .f32 count) + Ideal.ofBits .f32 0x358637BD#32)

end Cert.Place

end
-- ==== Proof.OutBlock.lean ====
/- What a block of the output projection holds, at an index. -/
module

public import proofs.«01_k».proof.Proof.Gen.OutProjIdeal.Value
public import proofs.«01_k».proof.Proof.Place
public import Idealize.ShloMosaic.Lib.Pipeline.ValueKit.Tiles

@[expose] public section

set_option maxRecDepth 16384

noncomputable section

namespace Cert.OutBlock

open Cert.Place Cert.OutProjIdeal Cert.OutProjIdeal.Gen Idealize.ShloMosaic

/-- The residual sum: a row of `x` plus the row's product with the weights. -/
theorem sum_apply (x : Vec Ideal S512x2048 .f32) (y : Vec Ideal S512x2048 .bf16) (w : Vec Ideal S2048x2048 .bf16) (r : Fin 512) (k : Fin 2048) :
    k0_pay1 (F := Ideal) x y w (ix2 r k) = x (ix2 r k) + ∑ p : Fin 2048, y (ix2 r p) * w (ix2 p k) := by
  pointwise [k0_pay1]

/-- The sum's norm, transposed. -/
theorem norm_apply (x : Vec Ideal S512x2048 .f32) (y : Vec Ideal S512x2048 .bf16) (w : Vec Ideal S2048x2048 .bf16) (g : Vec Ideal S1x2048 .f32)
    (k : Fin 2048) (r : Fin 512) :
    k0_pay2 (F := Ideal) x y w g (ix2 k r)
      = unit 0x45000000#32 (fun j => k0_pay1 (F := Ideal) x y w (ix2 r j)) k * g (ix2 0 k) := by
  unfold k0_pay2
  generalize k0_pay1 (F := Ideal) x y w = z
  unfold unit
  pointwise

theorem left_sum (x : Vec Ideal S512x2048 .f32) (y : Vec Ideal S512x2048 .bf16) (w : Vec Ideal S2048x2048 .bf16) (g : Vec Ideal S1x2048 .f32) :
    out0_4 x y w g = k0_pay1 x y w := by
  unfold out0_4
  rw [View.canon_cons_unit_lit _ _ _ (by decide)]
  simp (disch := decide) only [View.ld_unit_lit']

theorem left_norm (x : Vec Ideal S512x2048 .f32) (y : Vec Ideal S512x2048 .bf16) (w : Vec Ideal S2048x2048 .bf16) (g : Vec Ideal S1x2048 .f32) :
    out0_5 x y w g = k0_pay2 x y w g := by
  unfold out0_5
  rw [View.canon_cons_unit_lit _ _ _ (by decide)]
  simp (disch := decide) only [View.ld_unit_lit']

end Cert.OutBlock

end
-- ==== Proof.OutValue.lean ====
/- The output projection's two results at an index, in plain numbers. -/
module

public import proofs.«01_k».proof.Proof.OutBlock

@[expose] public section

set_option maxRecDepth 16384

noncomputable section

namespace Cert.OutValue

open Cert.Place Cert.OutBlock Cert.OutProjIdeal Cert.OutProjIdeal.Gen Cert.OutProjIdeal.Value
open Idealize.ShloMosaic Idealize.ShloMosaic.TcCoe Idealize.SL.Sem

/-- The block index of every window at every point. -/
theorem index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = t.val) :=
  (by decide +kernel : ∀ t : Fin grid0.N, _)

variable (m : (ℓ : Loc nD τ sig) → Buf (Elt Ideal) ℓ) (c : Dev nD)

abbrev arg0 : Vec Ideal S16384x2048 .f32 := m ((c : Thread nD τ).loc main_arg0)
abbrev arg1 : Vec Ideal S16384x2048 .bf16 := m ((c : Thread nD τ).loc main_arg1)
abbrev arg2 : Vec Ideal S2048x2048 .f32 := m ((c : Thread nD τ).loc main_arg2)
abbrev arg3 : Vec Ideal S2048 .f32 := m ((c : Thread nD τ).loc main_arg3)

/-- The grid point of row block `i`. -/
abbrev pt (i : Fin 32) : Fin cfg0.N := ⟨i.val, Nat.lt_of_lt_of_eq i.isLt (by decide)⟩
/-- Row `r` of row block `i`. -/
abbrev R (i : Fin 32) (r : Fin 512) : Fin 16384 := ⟨512 * i.val + r.val, by have := i.isLt; have := r.isLt; omega⟩

theorem weights : V m c main_v0 = (truncf .bf16 (arg2 m c) bitsLt_bf16_f32 : FVec Ideal S2048x2048 .bf16)
    ∧ V m c main_v1 = (shapeCast S1x2048 (arg3 m c) shapeCasts_S2048_S1x2048 : FVec Ideal S1x2048 .f32) := by
  refine ⟨?_, ?_⟩ <;>
  (unfold_abbrev_sides
   simp only [hostOps0, List.flatten_cons, List.flatten_nil, List.append_nil, List.cons_append, List.nil_append]
   after_results_simp <;> rfl)

theorem read_x (i : Fin 32) (r : Fin 512) (k : Fin 2048) : iblk m c 0 (pt i) (ix2 r k) = arg0 m c (ix2 (R i r) k) := by
  have e := (index (pt i)).1
  refine (congrArg (V m c main_arg0) (place win0_0 rfl (pt i) (ix2 r k) (ix2 (R i r) k) fun a => ?_)).trans (congrFun (V_main_arg0 m c) _)
  match a with
  | ⟨0, _⟩ => show 512 * i.val + r.val = win0_0.index (pt i) (0 : Fin 2) * 512 + r.val; rw [e.1]; dsimp only; omega
  | ⟨1, _⟩ => show k.val = win0_0.index (pt i) (1 : Fin 2) * 2048 + k.val; rw [e.2]; omega

theorem read_y (i : Fin 32) (r : Fin 512) (k : Fin 2048) : iblk m c 1 (pt i) (ix2 r k) = arg1 m c (ix2 (R i r) k) := by
  have e := (index (pt i)).2.1
  refine (congrArg (V m c main_arg1) (place win0_1 rfl (pt i) (ix2 r k) (ix2 (R i r) k) fun a => ?_)).trans (congrFun (V_main_arg1 m c) _)
  match a with
  | ⟨0, _⟩ => show 512 * i.val + r.val = win0_1.index (pt i) (0 : Fin 2) * 512 + r.val; rw [e.1]; dsimp only; omega
  | ⟨1, _⟩ => show k.val = win0_1.index (pt i) (1 : Fin 2) * 2048 + k.val; rw [e.2]; omega

theorem read_w (i : Fin 32) (p k : Fin 2048) : iblk m c 2 (pt i) (ix2 p k) = arg2 m c (ix2 p k) := by
  have e := (index (pt i)).2.2.1
  refine (congrArg (V m c main_v0) (place win0_2 rfl (pt i) (ix2 p k) (ix2 p k) fun a => ?_)).trans (congrFun (weights m c).1 _)
  match a with
  | ⟨0, _⟩ => show p.val = win0_2.index (pt i) (0 : Fin 2) * 2048 + p.val; rw [e.1]; omega
  | ⟨1, _⟩ => show k.val = win0_2.index (pt i) (1 : Fin 2) * 2048 + k.val; rw [e.2]; omega

theorem read_g (i : Fin 32) (k : Fin 2048) : iblk m c 3 (pt i) (ix2 0 k) = arg3 m c (ix1 k) := by
  have e := (index (pt i)).2.2.2.1
  refine ((congrArg (V m c main_v1) (place win0_3 rfl (pt i) (ix2 0 k) (ix2 0 k) fun a => ?_)).trans (congrFun (weights m c).2 _)).trans ?_
  · match a with
    | ⟨0, _⟩ => show 0 = win0_3.index (pt i) (0 : Fin 2) * 1 + 0; rw [e.1]
    | ⟨1, _⟩ => show k.val = win0_3.index (pt i) (1 : Fin 2) * 2048 + k.val; rw [e.2]; omega
  · pointwise

/-- The residual sum at a row and a column. -/
def total (x : Vec Ideal S16384x2048 .f32) (y : Vec Ideal S16384x2048 .bf16) (w : Vec Ideal S2048x2048 .f32) (n : Fin 16384) (k : Fin 2048) : EReal :=
  x (ix2 n k) + ∑ p : Fin 2048, y (ix2 n p) * w (ix2 p k)

theorem block_sum (i : Fin 32) (r : Fin 512) (k : Fin 2048) :
    k0_pay1 (F := Ideal) (iblk m c 0 (pt i)) (iblk m c 1 (pt i)) (iblk m c 2 (pt i)) (ix2 r k) = total (arg0 m c) (arg1 m c) (arg2 m c) (R i r) k := by
  rw [sum_apply, read_x]
  exact congrArg (fun s : EReal => _ + s) (Finset.sum_congr rfl fun p _ => congrArg₂ (fun a b : EReal => a * b) (read_y m c i r p) (read_w m c i p k))

theorem value_sum (i : Fin 32) (r : Fin 512) (k : Fin 2048) :
    (dats m 0 c).arrAt 4 cfg0.N (ix2 (R i r) k) = total (arg0 m c) (arg1 m c) (arg2 m c) (R i r) k := by
  have e := (index (pt i)).2.2.2.2.1
  have b := congrFun (blocks4 m c (pt i) (flush0_4 (pt i))) (ix2 r k)
  rw [flushed4, left_sum] at b
  have z : ((cfg0.win 4).blk (pt i)).view.emb (ix2 r k) = ix2 (R i r) k := by
    refine place win0_4 rfl (pt i) (ix2 r k) (ix2 (R i r) k) fun a => ?_
    match a with
    | ⟨0, _⟩ => show 512 * i.val + r.val = win0_4.index (pt i) (0 : Fin 2) * 512 + r.val; rw [e.1]; dsimp only; omega
    | ⟨1, _⟩ => show k.val = win0_4.index (pt i) (1 : Fin 2) * 2048 + k.val; rw [e.2]; omega
  have b' : (dats m 0 c).arrAt 4 cfg0.N (((cfg0.win 4).blk (pt i)).view.emb (ix2 r k))
      = k0_pay1 (F := Ideal) (iblk m c 0 (pt i)) (iblk m c 1 (pt i)) (iblk m c 2 (pt i)) (ix2 r k) := b
  rw [z] at b'
  exact b'.trans (block_sum m c i r k)

theorem value_norm (i : Fin 32) (r : Fin 512) (k : Fin 2048) :
    (dats m 0 c).arrAt 5 cfg0.N (ix2 k (R i r))
      = unit 0x45000000#32 (total (arg0 m c) (arg1 m c) (arg2 m c) (R i r)) k * arg3 m c (ix1 k) := by
  have e := (index (pt i)).2.2.2.2.2
  have b := congrFun (blocks5 m c (pt i) (flush0_5 (pt i))) (ix2 k r)
  rw [flushed5, left_norm] at b
  have z : ((cfg0.win 5).blk (pt i)).view.emb (ix2 k r) = ix2 k (R i r) := by
    refine place win0_5 rfl (pt i) (ix2 k r) (ix2 k (R i r)) fun a => ?_
    match a with
    | ⟨0, _⟩ => show k.val = win0_5.index (pt i) (0 : Fin 2) * 2048 + k.val; rw [e.1]; omega
    | ⟨1, _⟩ => show 512 * i.val + r.val = win0_5.index (pt i) (1 : Fin 2) * 512 + r.val; rw [e.2]; dsimp only; omega
  have b' : (dats m 0 c).arrAt 5 cfg0.N (((cfg0.win 5).blk (pt i)).view.emb (ix2 k r))
      = k0_pay2 (F := Ideal) (iblk m c 0 (pt i)) (iblk m c 1 (pt i)) (iblk m c 2 (pt i)) (iblk m c 3 (pt i)) (ix2 k r) := b
  rw [z] at b'
  rw [b', norm_apply]
  exact congrArg₂ (fun a b : EReal => a * b) (congrArg (fun y => unit 0x45000000#32 y k) (funext fun j => block_sum m c i r j)) (read_g m c i k)

end Cert.OutValue

end
-- ==== Proof.OutEquation.lean ====
/- The output projection and its reference compute the same two arrays. -/
module

public import proofs.«01_k».proof.Proof.OutValue
public import proofs.«01_k».proof.Proof.Gen.OutReferenceIdeal.Run
public import proofs.«01_k».proof.Proof.Gen.OutReferenceIdeal.Read

@[expose] public section

set_option maxRecDepth 16384

noncomputable section

namespace Cert.OutEquation

open Cert.Place Cert.OutValue Cert.OutReferenceIdeal Cert.OutReferenceIdeal.Gen Cert.OutReferenceIdeal.Read Idealize.ShloMosaic Idealize.ShloMosaic.TcCoe Idealize.SL.Sem

theorem reference_sum (x : Vec Ideal S16384x2048 .f32) (y : Vec Ideal S16384x2048 .bf16) (w : Vec Ideal S2048x2048 .f32) (n : Fin 16384) (k : Fin 2048) :
    val_main_v2 (F := Ideal) x y w (ix2 n k) = total x y w n k := by
  unfold total
  pointwise [val_main_v2, val_main_v1, val_main_v0]

/-- A row's norm times the gain, transposed, of any array. -/
theorem norm_gen (z : FVec Ideal S16384x2048 .f32) (g : Vec Ideal S2048 .f32) (n : Fin 16384) (k : Fin 2048) :
    (transpose S2048x16384 [1, 0] (truncf .bf16 (mulf (mulf z (broadcastInDim S16384x2048 ![0, 1] bcast_S16384x1_S16384x2048_0_1 (Host.rsqrt (addf (Host.divf
      (broadcastInDim S16384x1 ![0] bcast_S16384_S16384x1_0 (Host.reduceAdd (mulf z z) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1 g))) bitsLt_bf16_f32)
      transposes_S16384x2048_S2048x16384_1_0 : FVec Ideal S2048x16384 .bf16) (ix2 k n)
      = unit 0x45000000#32 (fun j => z (ix2 n j)) k * g (ix1 k) := by
  unfold unit
  pointwise

theorem reference_norm (x : Vec Ideal S16384x2048 .f32) (y : Vec Ideal S16384x2048 .bf16) (w : Vec Ideal S2048x2048 .f32) (g : Vec Ideal S2048 .f32)
    (n : Fin 16384) (k : Fin 2048) :
    val_main_v17 (F := Ideal) x y w g (ix2 k n) = unit 0x45000000#32 (total x y w n) k * g (ix1 k) := by
  refine (norm_gen (val_main_v2 (F := Ideal) x y w) g n k).trans ?_
  exact congrArg (fun y => unit 0x45000000#32 y k * g (ix1 k)) (funext fun j => reference_sum x y w n j)

variable (m : (ℓ : Loc Cert.OutProjIdeal.nD Cert.OutProjIdeal.τ Cert.OutProjIdeal.sig) → Buf (Elt Ideal) ℓ) (c : Dev Cert.OutProjIdeal.nD)

theorem agree_sum : (Cert.OutProjIdeal.Gen.dats m 0 c).arrAt 4 Cert.OutProjIdeal.cfg0.N
    = val_main_v2 (F := Ideal) (arg0 m c) (arg1 m c) (arg2 m c) := by
  funext z
  have z0 : (z 0).val < 16384 := (z 0).isLt
  have e : z = ix2 (R ⟨(z 0).val / 512, by omega⟩ ⟨(z 0).val % 512, by omega⟩) (z 1) := by
    funext a; apply Fin.ext
    match a with
    | ⟨0, _⟩ => show (z 0).val = 512 * ((z 0).val / 512) + (z 0).val % 512; omega
    | ⟨1, _⟩ => rfl
  rw [e]
  exact (value_sum m c _ _ _).trans (reference_sum _ _ _ _ _).symm

theorem agree_norm : (Cert.OutProjIdeal.Gen.dats m 0 c).arrAt 5 Cert.OutProjIdeal.cfg0.N
    = val_main_v17 (F := Ideal) (arg0 m c) (arg1 m c) (arg2 m c) (arg3 m c) := by
  funext z
  have z1 : (z 1).val < 16384 := (z 1).isLt
  have e : z = ix2 (z 0) (R ⟨(z 1).val / 512, by omega⟩ ⟨(z 1).val % 512, by omega⟩) := by
    funext a; apply Fin.ext
    match a with
    | ⟨0, _⟩ => rfl
    | ⟨1, _⟩ => show (z 1).val = 512 * ((z 1).val / 512) + (z 1).val % 512; omega
  rw [e]
  exact (value_norm m c _ _ _).trans (reference_norm _ _ _ _ _ _).symm

end Cert.OutEquation

end
-- ==== Proof.QkvBlock.lean ====
/- What a block of the attention's projection holds, at an index: four heads of 128 columns, each over its root mean square
   and times its gain, or the plain product. -/
module

public import proofs.«01_k».proof.Proof.Gen.QkvProjIdeal.Value
public import proofs.«01_k».proof.Proof.Place
public import Idealize.ShloMosaic.Lib.Pipeline.ValueKit.Tiles

@[expose] public section

set_option maxRecDepth 16384

noncomputable section

namespace Cert.QkvBlock

open Cert.Place Cert.QkvProjIdeal Cert.QkvProjIdeal.Gen Idealize.ShloMosaic Idealize.ShloMosaic.TcCoe

/-- The product at a row and a column. -/
theorem product (h : Vec Ideal S2048x2048 .bf16) (w : Vec Ideal S2048x512 .bf16) (r : Fin 2048) (k : Fin 512) :
    k0_pay1 (F := Ideal) h w (ix2 r k) = ∑ p : Fin 2048, h (ix2 r p) * w (ix2 p k) := by
  pointwise [k0_pay1]

/-- Column `d` of head `h` of a block. -/
abbrev col (h : Fin 4) (d : Fin 128) : Fin 512 := ⟨128 * h.val + d.val, by have := h.isLt; have := d.isLt; omega⟩

/-- The columns of head `h` of a block. -/
def part (h : Fin 4) (z : FVec Ideal S2048x512 .f32) : FVec Ideal S2048x128 .f32 :=
  match h with
  | 0 => extractStridedSlice S2048x128 ![0, 0] z slices_S2048x512_o0_0_S2048x128
  | 1 => extractStridedSlice S2048x128 ![0, 128] z slices_S2048x512_o0_128_S2048x128
  | 2 => extractStridedSlice S2048x128 ![0, 256] z slices_S2048x512_o0_256_S2048x128
  | 3 => extractStridedSlice S2048x128 ![0, 384] z slices_S2048x512_o0_384_S2048x128

theorem part_apply (h : Fin 4) (z : FVec Ideal S2048x512 .f32) (r : Fin 2048) (d : Fin 128) : part h z (ix2 r d) = z (ix2 r (col h d)) := by
  fin_cases h <;> unfold part <;> dsimp only <;> pointwise <;>
    exact congrArg (fun q => z (ix2 r q)) (Fin.ext (by simp [col]))

/-- The gains of head `h` of a block. -/
abbrev gains (h : Fin 4) : Rect S1x512 :=
  Rect.unit ![0, 128 * h.val] S1x128.size fun a => match a with
    | ⟨0, _⟩ => by show 0 + 1 ≤ 1; omega
    | ⟨1, _⟩ => by have := h.isLt; show 128 * h.val + 128 ≤ 512; omega

/-- A head over its root mean square, times its gain. -/
def norm (y : FVec Ideal S2048x128 .f32) (g : Vec Ideal S1x128 .f32) : FVec Ideal S2048x128 .bf16 :=
  truncf .bf16 (mulf (mulf y (broadcastTo S2048x128 (rsqrt (addf (divf
      (shapeCast S2048x1 (multiReduction .add [1] S2048 (mulf y y) 0x00000000#32 reduces_S2048x128_S2048 (.inl rfl) rfl : FVec Ideal S2048 .f32) shapeCasts_S2048_S2048x1)
      (broadcast S2048x1 (Scalar.ofBits (F := Ideal) .f32 0x43000000#32)))
      (broadcast S2048x1 (Scalar.ofBits (F := Ideal) .f32 0x358637BD#32)))) broadcasts_S2048x1_S2048x128))
    (broadcastTo S2048x128 (shapeCast S1x128 g shapeCasts_S1x128_S1x128 : FVec Ideal S1x128 .f32) broadcasts_S1x128_S2048x128)) bitsLt_bf16_f32

theorem norm_apply (y : FVec Ideal S2048x128 .f32) (g : Vec Ideal S1x128 .f32) (r : Fin 2048) (d : Fin 128) :
    norm y g (ix2 r d) = unit 0x43000000#32 (fun j => y (ix2 r j)) d * g (ix2 0 d) := by
  unfold unit
  pointwise [norm]

variable (c : Dev nD) (i : grid0.Coords) (arg2 : Memref sig .tc .vmem S2048x2048 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x512 .bf16) (harg5 : arg5.IsWhole)
  (x0 : Vec Ideal S2048x2048 .bf16) (x1 : Vec Ideal S2048x512 .bf16) (x2 : Vec Ideal S1x512 .f32)

/-- The blocks of queries and keys. -/
theorem left_norm (hc0 : cond0_0 i) (hc1 : ¬cond0_1 i) (h : Fin 4) (r : Fin 2048) (d : Fin 128) (y : S2048x512.Idx)
    (hy0 : (y 0).val = r.val) (hy1 : (y 1).val = 128 * h.val + d.val) :
    out0_A_3 c i arg2 harg2 arg3 harg3 arg4 harg4 arg5 harg5 hc0 hc1 x0 x1 x2 y
      = norm (part h (k0_pay1 x0 x1)) (View.ld x2 (gains h)) (ix2 r d) := by
  unfold out0_A_3
  rw [View.read_writes_junk_eq_canon]
  unfold kernelRun0_A
  dsimp only
  canon_tiles x e using cover0_A_3 c i arg2 harg2 arg3 harg3 arg4 harg4 arg5 harg5 hc0 hc1 x0 x1 x2 y
  all_goals
    obtain ⟨hv, hh⟩ := h
    dsimp only at hy1
    have hx1 : (x 1).val < 128 := (x 1).isLt
    obtain rfl : x = ix2 r d := funext fun a => Fin.ext (match a with
      | ⟨0, _⟩ => by show (x 0).val = r.val; omega
      | ⟨1, _⟩ => by show (x 1).val = d.val; omega)
    change (y 1).val = _ at e1
    simp only [ix2] at e1
    interval_cases hv <;> first
      | omega
      | (simp only [kernelRun0_A.sl.r, kernelRun0_A.sl.r_1, View.readAt_eq_ld, harg2.read_unread, harg3.read_unread, harg4.read_unread]
         simp (disch := decide) only [View.ld_unit_lit']
         rfl)

/-- The blocks of values. -/
theorem left_plain (hc0 : ¬cond0_0 i) (hc1 : cond0_1 i) :
    out0_B_3 c i arg2 harg2 arg3 harg3 arg4 harg4 arg5 harg5 hc0 hc1 x0 x1 x2
      = (truncf .bf16 (k0_pay1 (F := Ideal) x0 x1) bitsLt_bf16_f32 : FVec Ideal S2048x512 .bf16) := by
  unfold out0_B_3
  rw [View.read_writes_junk_eq_canon]
  unfold kernelRun0_B
  dsimp only
  rw [View.canon_cons_unit_lit _ _ _ (by decide)]
  simp only [View.readAt_eq_ld, harg2.read_unread, harg3.read_unread]
  simp (disch := decide) only [View.ld_unit_lit']
  rfl

end Cert.QkvBlock

end
-- ==== Proof.QkvHost.lean ====
/- The weights and the gains as the attention's pipeline reads them: columns laid side by side. -/
module

public import proofs.«01_k».proof.Proof.Gen.QkvProjIdeal.Value
public import proofs.«01_k».proof.Proof.Place

@[expose] public section

set_option maxRecDepth 16384

noncomputable section

namespace Cert.QkvHost

open Cert.Place Cert.QkvProjIdeal Cert.QkvProjIdeal.Gen Cert.QkvProjIdeal.Value
open Idealize.ShloMosaic Idealize.ShloMosaic.TcCoe Idealize.SL.Sem

/-- The column of the projection's weights that a column of the result reads: the recurrent branch's 1024 are left out. -/
abbrev W (n : Fin 3584) : Fin 4608 := ⟨if n.val < 3072 then n.val else n.val + 1024, by have := n.isLt; split <;> omega⟩
/-- The place in its head of a column. -/
abbrev din (n : Fin 3584) : Fin 128 := ⟨n.val % 128, Nat.mod_lt _ (by decide)⟩

/-- The weights: the columns of queries, keys, values and memory queries side by side. -/
def columns (w : Vec Ideal S2048x4608 .f32) : FVec Ideal S2048x3584 .bf16 :=
  truncf .bf16 (concatenate S2048x3584 1 [⟨S2048x1024, extractStridedSlice S2048x1024 ![0, 0] w slices_S2048x4608_S2048x1024_0_0⟩,
    ⟨S2048x1024, extractStridedSlice S2048x1024 ![0, 1024] w slices_S2048x4608_S2048x1024_0_1024⟩,
    ⟨S2048x1024, extractStridedSlice S2048x1024 ![0, 2048] w slices_S2048x4608_S2048x1024_0_2048⟩,
    ⟨S2048x512, extractStridedSlice S2048x512 ![0, 4096] w slices_S2048x4608_S2048x512_0_4096⟩] concatenates_S2048x1024_S2048x1024_S2048x1024_S2048x512_S2048x3584_d1) bitsLt_bf16_f32

theorem columns_apply (w : Vec Ideal S2048x4608 .f32) (p : Fin 2048) (n : Fin 3584) : columns w (ix2 p n) = w (ix2 p (W n)) := by
  pointwise [columns]
  split_ifs <;> exact congrArg (fun q => w (ix2 p q)) (Fin.ext (by dsimp only [W]; split <;> omega))

/-- The gains' word: one over the root of 128, rounded. -/
abbrev root : EReal := Ideal.ofBits .f32 0x3DB504F3#32

/-- The gain of a column: the queries' carries the scores' scale, the values' is one. -/
def gain (q k x : Vec Ideal S128 .f32) (n : Fin 3584) : EReal :=
  if n.val < 1024 then q (ix1 (din n)) * root else if n.val < 2048 then k (ix1 (din n)) else if n.val < 3072 then 1 else x (ix1 (din n))

/-- A gain for each of eight heads. -/
def eight (g : FVec Ideal S128 .f32) : FVec Ideal S1024 .f32 :=
  shapeCast S1024 (broadcastInDim S8x128 ![0, 1] bcast_S1x128_S8x128_0_1 (shapeCast S1x128 g shapeCasts_S128_S1x128 : FVec Ideal S1x128 .f32) : FVec Ideal S8x128 .f32) shapeCasts_S8x128_S1024

/-- A gain for each of four heads. -/
def four (g : FVec Ideal S128 .f32) : FVec Ideal S512 .f32 :=
  shapeCast S512 (broadcastInDim S4x128 ![0, 1] bcast_S1x128_S4x128_0_1 (shapeCast S1x128 g shapeCasts_S128_S1x128 : FVec Ideal S1x128 .f32) : FVec Ideal S4x128 .f32) shapeCasts_S4x128_S512

theorem eight_apply (g : FVec Ideal S128 .f32) (k : Fin 1024) : eight g (ix1 k) = g (ix1 ⟨k.val % 128, Nat.mod_lt _ (by decide)⟩) := by
  pointwise [eight]

theorem four_apply (g : FVec Ideal S128 .f32) (k : Fin 512) : four g (ix1 k) = g (ix1 ⟨k.val % 128, Nat.mod_lt _ (by decide)⟩) := by
  pointwise [four]

/-- The gains side by side. -/
def row (q k x : Vec Ideal S128 .f32) : FVec Ideal S1x3584 .f32 :=
  shapeCast S1x3584 (concatenate S3584 0
    [⟨S1024, eight (mulf q (broadcastInDim S128 ![] bcast_S_S128 (constant S_ .f32 0x3DB504F3#32) : FVec Ideal S128 .f32))⟩, ⟨S1024, eight k⟩,
      ⟨S1024, (broadcastInDim S1024 ![] bcast_S_S1024 (constant S_ .f32 0x3F800000#32) : FVec Ideal S1024 .f32)⟩, ⟨S512, four x⟩]
    concatenates_S1024_S1024_S1024_S512_S3584_d0 : FVec Ideal S3584 .f32) shapeCasts_S3584_S1x3584

theorem beside (a b c : FVec Ideal S1024 .f32) (e : FVec Ideal S512 .f32) (n : Fin 3584) :
    (shapeCast S1x3584 (concatenate S3584 0 [⟨S1024, a⟩, ⟨S1024, b⟩, ⟨S1024, c⟩, ⟨S512, e⟩] concatenates_S1024_S1024_S1024_S512_S3584_d0 : FVec Ideal S3584 .f32)
        shapeCasts_S3584_S1x3584 : FVec Ideal S1x3584 .f32) (ix2 0 n)
      = if h : n.val < 1024 then a (ix1 ⟨n.val, h⟩) else if h : n.val - 1024 < 1024 then b (ix1 ⟨n.val - 1024, h⟩)
        else if h : n.val - 1024 - 1024 < 1024 then c (ix1 ⟨n.val - 1024 - 1024, h⟩) else e (ix1 ⟨n.val - 1024 - 1024 - 1024, by have := n.isLt; omega⟩) := by
  pointwise

theorem row_apply (q k x : Vec Ideal S128 .f32) (n : Fin 3584) : row q k x (ix2 0 n) = gain q k x n := by
  have f (g : FVec Ideal S128 .f32) (a b : ℕ) (ha : a < 128) (hb : b < 128) (h : a = b) : g (ix1 ⟨a, ha⟩) = g (ix1 ⟨b, hb⟩) := by subst h; rfl
  have i := n.isLt
  unfold row gain
  rw [beside]
  by_cases h1 : n.val < 1024
  · rw [dif_pos h1, if_pos h1, eight_apply]
    pointwise
  rw [dif_neg h1, if_neg h1]
  by_cases h2 : n.val < 2048
  · rw [dif_pos (by omega), if_pos h2, eight_apply]
    exact f _ _ _ _ _ (by dsimp only; omega)
  rw [dif_neg (by omega), if_neg h2]
  by_cases h3 : n.val < 3072
  · rw [dif_pos (by omega), if_pos h3]
    pointwise
  rw [dif_neg (by omega), if_neg h3, four_apply]
  exact f _ _ _ _ _ (by dsimp only; omega)

variable (m : (ℓ : Loc nD τ sig) → Buf (Elt Ideal) ℓ) (c : Dev nD)

abbrev arg0 : Vec Ideal S16384x2048 .bf16 := m ((c : Thread nD τ).loc main_arg0)
abbrev arg1 : Vec Ideal S2048x4608 .f32 := m ((c : Thread nD τ).loc main_arg1)
abbrev arg2 : Vec Ideal S128 .f32 := m ((c : Thread nD τ).loc main_arg2)
abbrev arg3 : Vec Ideal S128 .f32 := m ((c : Thread nD τ).loc main_arg3)
abbrev arg4 : Vec Ideal S128 .f32 := m ((c : Thread nD τ).loc main_arg4)

theorem weights : V m c main_v7 = columns (arg1 m c) ∧ V m c main_v21 = row (arg2 m c) (arg3 m c) (arg4 m c) := by
  refine ⟨?_, ?_⟩ <;>
  (unfold_abbrev_sides
   simp only [hostOps0, List.flatten_cons, List.flatten_nil, List.append_nil, List.cons_append, List.nil_append]
   after_results_simp <;> (try dsimp only [Matrix.cons_val]) <;> (try after_results_simp) <;> rfl)

end Cert.QkvHost

end
-- ==== Proof.QkvReference.lean ====
/- The attention's projection in plain numbers, and its reference's value at an index. -/
module

public import proofs.«01_k».proof.Proof.QkvHost
public import proofs.«01_k».proof.Proof.Gen.QkvReferenceIdeal.Run
public import proofs.«01_k».proof.Proof.Gen.QkvReferenceIdeal.Read

@[expose] public section

set_option maxRecDepth 16384

noncomputable section

namespace Cert.QkvReference

open Cert.Place Cert.QkvReferenceIdeal Cert.QkvReferenceIdeal.Gen Cert.QkvReferenceIdeal.Read Idealize.ShloMosaic
open Cert.QkvHost (W din root gain)

/-- The projection at a row and a column. -/
def total (h : Vec Ideal S16384x2048 .bf16) (w : Vec Ideal S2048x4608 .f32) (n : Fin 16384) (k : Fin 3584) : EReal :=
  ∑ p : Fin 2048, h (ix2 n p) * w (ix2 p (W k))

/-- Place `j` of the head that column `k` is in. -/
abbrev mate (k : Fin 3584) (j : Fin 128) : Fin 3584 := ⟨128 * (k.val / 128) + j.val, by have := k.isLt; have := j.isLt; omega⟩

/-- The result at a row and a column: a value column is the projection, any other is over its head's root mean square and times its gain. -/
def result (h : Vec Ideal S16384x2048 .bf16) (w : Vec Ideal S2048x4608 .f32) (q k x : Vec Ideal S128 .f32) (n : Fin 16384) (i : Fin 3584) : EReal :=
  if 2048 ≤ i.val ∧ i.val < 3072 then total h w n i else unit 0x43000000#32 (fun j => total h w n (mate i j)) (din i) * gain q k x i

/-- Eight heads of a row, each over its root mean square and times the gain. -/
def eight (z : FVec Ideal S16384x1024 .f32) (g : FVec Ideal S128 .f32) : FVec Ideal S16384x8x128 .f32 :=
  mulf (mulf (shapeCast S16384x8x128 z shapeCasts_S16384x1024_S16384x8x128) (broadcastInDim S16384x8x128 ![0, 1, 2] bcast_S16384x8x1_S16384x8x128_0_1_2 (Host.rsqrt (addf (Host.divf
      (broadcastInDim S16384x8x1 ![0, 1] bcast_S16384x8_S16384x8x1_0_1 (Host.reduceAdd (mulf (shapeCast S16384x8x128 z shapeCasts_S16384x1024_S16384x8x128)
        (shapeCast S16384x8x128 z shapeCasts_S16384x1024_S16384x8x128)) (constant S_ .f32 0x00000000#32) reducesTo_S16384x8x128_S16384x8_d2 h_S_))
      (broadcastInDim S16384x8x1 ![] bcast_S_S16384x8x1 (constant S_ .f32 0x43000000#32)))
      (broadcastInDim S16384x8x1 ![] bcast_S_S16384x8x1 (constant S_ .f32 0x358637BD#32))))))
    (broadcastInDim S16384x8x128 ![0, 1, 2] bcast_S1x1x128_S16384x8x128_0_1_2 (broadcastInDim S1x1x128 ![2] bcast_S128_S1x1x128_2 g))

/-- Four heads, so. -/
def four (z : FVec Ideal S16384x512 .f32) (g : FVec Ideal S128 .f32) : FVec Ideal S16384x4x128 .f32 :=
  mulf (mulf (shapeCast S16384x4x128 z shapeCasts_S16384x512_S16384x4x128) (broadcastInDim S16384x4x128 ![0, 1, 2] bcast_S16384x4x1_S16384x4x128_0_1_2 (Host.rsqrt (addf (Host.divf
      (broadcastInDim S16384x4x1 ![0, 1] bcast_S16384x4_S16384x4x1_0_1 (Host.reduceAdd (mulf (shapeCast S16384x4x128 z shapeCasts_S16384x512_S16384x4x128)
        (shapeCast S16384x4x128 z shapeCasts_S16384x512_S16384x4x128)) (constant S_ .f32 0x00000000#32) reducesTo_S16384x4x128_S16384x4_d2 h_S_))
      (broadcastInDim S16384x4x1 ![] bcast_S_S16384x4x1 (constant S_ .f32 0x43000000#32)))
      (broadcastInDim S16384x4x1 ![] bcast_S_S16384x4x1 (constant S_ .f32 0x358637BD#32))))))
    (broadcastInDim S16384x4x128 ![0, 1, 2] bcast_S1x1x128_S16384x4x128_0_1_2 (broadcastInDim S1x1x128 ![2] bcast_S128_S1x1x128_2 g))

theorem eight_apply (z : FVec Ideal S16384x1024 .f32) (g : FVec Ideal S128 .f32) (n : Fin 16384) (a : Fin 8) (d : Fin 128) :
    eight z g (ix3 n a d) = unit 0x43000000#32 (fun j => z (ix2 n ⟨a.val * 128 + j.val, by have := a.isLt; have := j.isLt; omega⟩)) d * g (ix1 d) := by
  unfold unit eight
  pointwise

theorem four_apply (z : FVec Ideal S16384x512 .f32) (g : FVec Ideal S128 .f32) (n : Fin 16384) (a : Fin 4) (d : Fin 128) :
    four z g (ix3 n a d) = unit 0x43000000#32 (fun j => z (ix2 n ⟨a.val * 128 + j.val, by have := a.isLt; have := j.isLt; omega⟩)) d * g (ix1 d) := by
  unfold unit four
  pointwise

theorem flat8 (y : FVec Ideal S16384x8x128 .f32) (n : Fin 16384) (k : Fin 1024) :
    (shapeCast S16384x1024 y shapeCasts_S16384x8x128_S16384x1024 : FVec Ideal S16384x1024 .f32) (ix2 n k)
      = y (ix3 n ⟨k.val / 128, by have := k.isLt; omega⟩ ⟨k.val % 128, Nat.mod_lt _ (by decide)⟩) := by
  pointwise

theorem flat4 (y : FVec Ideal S16384x4x128 .f32) (n : Fin 16384) (k : Fin 512) :
    (shapeCast S16384x512 y shapeCasts_S16384x4x128_S16384x512 : FVec Ideal S16384x512 .f32) (ix2 n k)
      = y (ix3 n ⟨k.val / 128, by have := k.isLt; omega⟩ ⟨k.val % 128, Nat.mod_lt _ (by decide)⟩) := by
  pointwise

theorem beside (a b c : FVec Ideal S16384x1024 .f32) (e : FVec Ideal S16384x512 .f32) (n : Fin 16384) (k : Fin 3584) :
    (truncf .bf16 (concatenate S16384x3584 1 [⟨S16384x1024, a⟩, ⟨S16384x1024, b⟩, ⟨S16384x1024, c⟩, ⟨S16384x512, e⟩]
        concatenates_S16384x1024_S16384x1024_S16384x1024_S16384x512_S16384x3584_d1) bitsLt_bf16_f32 : FVec Ideal S16384x3584 .bf16) (ix2 n k)
      = if h : k.val < 1024 then a (ix2 n ⟨k.val, h⟩) else if h : k.val - 1024 < 1024 then b (ix2 n ⟨k.val - 1024, h⟩)
        else if h : k.val - 1024 - 1024 < 1024 then c (ix2 n ⟨k.val - 1024 - 1024, h⟩) else e (ix2 n ⟨k.val - 1024 - 1024 - 1024, by have := k.isLt; omega⟩) := by
  pointwise

variable (h : Vec Ideal S16384x2048 .bf16) (w : Vec Ideal S2048x4608 .f32) (q k x : Vec Ideal S128 .f32)

theorem product (n : Fin 16384) (k : Fin 4608) :
    val_main_v1 (F := Ideal) h w (ix2 n k) = ∑ p : Fin 2048, h (ix2 n p) * w (ix2 p k) := by
  pointwise [val_main_v1, val_main_v0]

/-- A column of the whole product is a column of the result's projection. -/
theorem product_total (n : Fin 16384) (k : Fin 4608) (i : Fin 3584) (e : k.val = (W i).val) : val_main_v1 (F := Ideal) h w (ix2 n k) = total h w n i := by
  obtain rfl : k = W i := Fin.ext e
  exact product h w n _

/-- The four slices of the whole product that the result is made of. -/
theorem slices (y : FVec Ideal S16384x4608 .f32) (n : Fin 16384) :
    (∀ j : Fin 1024, (extractStridedSlice S16384x1024 ![0, 0] y slices_S16384x4608_S16384x1024_0_0 : FVec Ideal S16384x1024 .f32) (ix2 n j) = y (ix2 n ⟨j.val, by have := j.isLt; omega⟩))
    ∧ (∀ j : Fin 1024, (extractStridedSlice S16384x1024 ![0, 1024] y slices_S16384x4608_S16384x1024_0_1024 : FVec Ideal S16384x1024 .f32) (ix2 n j) = y (ix2 n ⟨1024 + j.val, by have := j.isLt; omega⟩))
    ∧ (∀ j : Fin 1024, (extractStridedSlice S16384x1024 ![0, 2048] y slices_S16384x4608_S16384x1024_0_2048 : FVec Ideal S16384x1024 .f32) (ix2 n j) = y (ix2 n ⟨2048 + j.val, by have := j.isLt; omega⟩))
    ∧ (∀ j : Fin 512, (extractStridedSlice S16384x512 ![0, 4096] y slices_S16384x4608_S16384x512_0_4096 : FVec Ideal S16384x512 .f32) (ix2 n j) = y (ix2 n ⟨4096 + j.val, by have := j.isLt; omega⟩)) := by
  refine ⟨fun j => ?_, fun j => ?_, fun j => ?_, fun j => ?_⟩ <;> pointwise

/-- The word of one over the root of 128, at every place. -/
theorem scaled (y : FVec Ideal S16384x8x128 .f32) (n : Fin 16384) (a : Fin 8) (d : Fin 128) :
    (mulf y (broadcastInDim S16384x8x128 ![] bcast_S_S16384x8x128 (constant S_ .f32 0x3DB504F3#32)) : FVec Ideal S16384x8x128 .f32) (ix3 n a d) = y (ix3 n a d) * root := by
  pointwise

theorem parts : val_main_v54 (F := Ideal) h w q k x = truncf .bf16 (concatenate S16384x3584 1
      [⟨S16384x1024, shapeCast S16384x1024 (mulf (eight (val_main_v2 (F := Ideal) h w) q) (broadcastInDim S16384x8x128 ![] bcast_S_S16384x8x128 (constant S_ .f32 0x3DB504F3#32))) shapeCasts_S16384x8x128_S16384x1024⟩,
        ⟨S16384x1024, shapeCast S16384x1024 (eight (val_main_v3 (F := Ideal) h w) k) shapeCasts_S16384x8x128_S16384x1024⟩,
        ⟨S16384x1024, val_main_v4 (F := Ideal) h w⟩,
        ⟨S16384x512, shapeCast S16384x512 (four (val_main_v5 (F := Ideal) h w) x) shapeCasts_S16384x4x128_S16384x512⟩]
      concatenates_S16384x1024_S16384x1024_S16384x1024_S16384x512_S16384x3584_d1) bitsLt_bf16_f32 := rfl

/-- One head's value is the result's, if its columns and its place are. -/
theorem same (a b : Fin 128 → EReal) (d e : Fin 128) (hab : ∀ j, a j = b j) (hde : d = e) : unit 0x43000000#32 a d = unit 0x43000000#32 b e := by
  rw [funext hab, hde]

/-- The reference at a row and a column. -/
theorem reference (n : Fin 16384) (i : Fin 3584) : val_main_v54 (F := Ideal) h w q k x (ix2 n i) = result h w q k x n i := by
  have lt := i.isLt
  obtain ⟨s2, s3, s4, s5⟩ := slices (val_main_v1 (F := Ideal) h w) n
  refine (congrFun (parts h w q k x) _).trans ((beside _ _ _ _ n i).trans ?_)
  unfold result gain
  by_cases h1 : i.val < 1024
  · rw [dif_pos h1, if_neg (by omega), if_pos h1, flat8, scaled, eight_apply, mul_assoc]
    exact congrArg (fun u : EReal => u * _) (same _ _ _ _ (fun j => (s2 _).trans (product_total h w n _ _ (by dsimp only [W]; have := j.isLt; split <;> omega))) rfl)
  rw [dif_neg h1]
  by_cases h2 : i.val < 2048
  · rw [dif_pos (by omega), if_neg (by omega), if_neg h1, if_pos h2, flat8, eight_apply]
    have e : (⟨(i.val - 1024) % 128, Nat.mod_lt _ (by decide)⟩ : Fin 128) = din i := Fin.ext (by dsimp only; omega)
    refine congrArg₂ (fun u v : EReal => u * v) (same _ _ _ _ (fun j => (s3 _).trans (product_total h w n _ _ (by dsimp only [W]; have := j.isLt; split <;> omega))) e) (congrArg (fun d => k (ix1 d)) e)
  rw [dif_neg (by omega)]
  by_cases h3 : i.val < 3072
  · rw [dif_pos (by omega), if_pos (by omega)]
    exact (s4 _).trans (product_total h w n _ _ (by dsimp only [W]; split <;> omega))
  rw [dif_neg (by omega), if_neg (by omega), if_neg h1, if_neg h2, if_neg h3, flat4, four_apply]
  have e : (⟨(i.val - 1024 - 1024 - 1024) % 128, Nat.mod_lt _ (by decide)⟩ : Fin 128) = din i := Fin.ext (by dsimp only; omega)
  refine congrArg₂ (fun u v : EReal => u * v) (same _ _ _ _ (fun j => (s5 _).trans (product_total h w n _ _ (by dsimp only [W]; have := j.isLt; split <;> omega))) e) (congrArg (fun d => x (ix1 d)) e)

end Cert.QkvReference

end
-- ==== Proof.QkvValue.lean ====
/- The attention's projection as the pipeline leaves it, at an index, and the equation with its reference. -/
module

public import proofs.«01_k».proof.Proof.QkvBlock
public import proofs.«01_k».proof.Proof.QkvReference

@[expose] public section

set_option maxRecDepth 16384

noncomputable section

namespace Cert.QkvValue

open Cert.Place Cert.QkvBlock Cert.QkvHost Cert.QkvProjIdeal Cert.QkvProjIdeal.Gen Cert.QkvProjIdeal.Value
open Idealize.ShloMosaic Idealize.ShloMosaic.TcCoe Idealize.SL.Sem
open Cert.QkvReference (total mate result reference)

/-- The block index of every window at every point. -/
theorem index : ∀ t : Fin cfg0.N,
    (win0_0.index t (0 : Fin 2) = t.val / 7 ∧ win0_0.index t (1 : Fin 2) = 0)
    ∧ (win0_1.index t (0 : Fin 2) = 0 ∧ win0_1.index t (1 : Fin 2) = t.val % 7)
    ∧ (win0_2.index t (0 : Fin 2) = 0 ∧ win0_2.index t (1 : Fin 2) = t.val % 7)
    ∧ (win0_3.index t (0 : Fin 2) = t.val / 7 ∧ win0_3.index t (1 : Fin 2) = t.val % 7) :=
  (by decide +kernel : ∀ t : Fin grid0.N, _)

variable (m : (ℓ : Loc nD τ sig) → Buf (Elt Ideal) ℓ) (c : Dev nD)

/-- The grid point of row block `i` and column block `j`. -/
abbrev pt (i : Fin 8) (j : Fin 7) : Fin cfg0.N := ⟨7 * i.val + j.val, Nat.lt_of_lt_of_eq (by have := i.isLt; have := j.isLt; omega : 7 * i.val + j.val < 56) (by decide)⟩
/-- Row `r` of row block `i`. -/
abbrev R (i : Fin 8) (r : Fin 2048) : Fin 16384 := ⟨2048 * i.val + r.val, by have := i.isLt; have := r.isLt; omega⟩
/-- Column `k` of column block `j`. -/
abbrev C (j : Fin 7) (k : Fin 512) : Fin 3584 := ⟨512 * j.val + k.val, by have := j.isLt; have := k.isLt; omega⟩

theorem read_h (i : Fin 8) (j : Fin 7) (r p : Fin 2048) : iblk m c 0 (pt i j) (ix2 r p) = arg0 m c (ix2 (R i r) p) := by
  have e := (index (pt i j)).1
  refine (congrArg (V m c main_arg0) (place win0_0 rfl (pt i j) (ix2 r p) (ix2 (R i r) p) fun a => ?_)).trans (congrFun (V_main_arg0 m c) _)
  match a with
  | ⟨0, _⟩ => show 2048 * i.val + r.val = win0_0.index (pt i j) (0 : Fin 2) * 2048 + r.val; rw [e.1]; dsimp only; omega
  | ⟨1, _⟩ => show p.val = win0_0.index (pt i j) (1 : Fin 2) * 2048 + p.val; rw [e.2]; omega

theorem read_w (i : Fin 8) (j : Fin 7) (p : Fin 2048) (k : Fin 512) : iblk m c 1 (pt i j) (ix2 p k) = arg1 m c (ix2 p (W (C j k))) := by
  have e := (index (pt i j)).2.1
  refine ((congrArg (V m c main_v7) (place win0_1 rfl (pt i j) (ix2 p k) (ix2 p (C j k)) fun a => ?_)).trans (congrFun (weights m c).1 _)).trans
    (columns_apply (arg1 m c) p (C j k))
  match a with
  | ⟨0, _⟩ => show p.val = win0_1.index (pt i j) (0 : Fin 2) * 2048 + p.val; rw [e.1]; omega
  | ⟨1, _⟩ => show 512 * j.val + k.val = win0_1.index (pt i j) (1 : Fin 2) * 512 + k.val; rw [e.2]; dsimp only; omega

theorem read_g (i : Fin 8) (j : Fin 7) (k : Fin 512) : iblk m c 2 (pt i j) (ix2 0 k) = gain (arg2 m c) (arg3 m c) (arg4 m c) (C j k) := by
  have e := (index (pt i j)).2.2.1
  refine ((congrArg (V m c main_v21) (place win0_2 rfl (pt i j) (ix2 0 k) (ix2 0 (C j k)) fun a => ?_)).trans (congrFun (weights m c).2 _)).trans
    (row_apply (arg2 m c) (arg3 m c) (arg4 m c) (C j k))
  match a with
  | ⟨0, _⟩ => show 0 = win0_2.index (pt i j) (0 : Fin 2) * 1 + 0; rw [e.1]
  | ⟨1, _⟩ => show 512 * j.val + k.val = win0_2.index (pt i j) (1 : Fin 2) * 512 + k.val; rw [e.2]; dsimp only; omega

/-- The block's product is the projection. -/
theorem block (i : Fin 8) (j : Fin 7) (r : Fin 2048) (k : Fin 512) :
    k0_pay1 (F := Ideal) (iblk m c 0 (pt i j)) (iblk m c 1 (pt i j)) (ix2 r k) = total (arg0 m c) (arg1 m c) (R i r) (C j k) :=
  (product _ _ r k).trans (Finset.sum_congr rfl fun p _ => congrArg₂ (fun a b : EReal => a * b) (read_h m c i j r p) (read_w m c i j p k))

/-- What a point leaves in its block. -/
theorem left (i : Fin 8) (j : Fin 7) (r : Fin 2048) (k : Fin 512) :
    outsAt0 m c (pt i j).val (pt i j).isLt (ix2 r k) = result (arg0 m c) (arg1 m c) (arg2 m c) (arg3 m c) (arg4 m c) (R i r) (C j k) := by
  have lj := j.isLt
  have lk := k.isLt
  unfold result
  by_cases hj : 4 ≤ j.val ∧ j.val ≤ 5
  · have g : 4 ≤ (pt i j).val % 7 ∧ (pt i j).val % 7 ≤ 5 := by dsimp only; omega
    rw [if_pos (by dsimp only; omega), outsAt0_B m c (pt i j) (not_not.mpr g) g, left_plain]
    exact block m c i j r k
  · have g : ¬(4 ≤ (pt i j).val % 7 ∧ (pt i j).val % 7 ≤ 5) := by dsimp only; omega
    rw [if_neg (by dsimp only; omega), outsAt0_A m c (pt i j) g g,
      left_norm (h := ⟨k.val / 128, by omega⟩) (r := r) (d := ⟨k.val % 128, by omega⟩) (hy0 := rfl) (hy1 := by show k.val = 128 * (k.val / 128) + k.val % 128; omega),
      norm_apply]
    refine congrArg₂ (fun a b : EReal => a * b) ?_ ?_
    · have e : (⟨k.val % 128, by omega⟩ : Fin 128) = din (C j k) := Fin.ext (by dsimp only; omega)
      rw [e]
      refine congrArg (fun y => unit 0x43000000#32 y (din (C j k))) (funext fun d => ?_)
      have ld := d.isLt
      rw [part_apply]
      refine (block m c i j r _).trans (congrArg (total (arg0 m c) (arg1 m c) (R i r)) (Fin.ext ?_))
      show 512 * j.val + (128 * (k.val / 128) + d.val) = 128 * ((512 * j.val + k.val) / 128) + d.val
      omega
    · refine Eq.trans ?_ (read_g m c i j k)
      refine congrArg (iblk m c 2 (pt i j)) (funext fun a => Fin.ext ?_)
      match a with
      | ⟨0, _⟩ => rfl
      | ⟨1, _⟩ => show 128 * (k.val / 128) + 1 * (k.val % 128) = k.val; omega

/-- The result array at a row and a column. -/
theorem value (i : Fin 8) (j : Fin 7) (r : Fin 2048) (k : Fin 512) :
    (dats m 0 c).arrAt 3 cfg0.N (ix2 (R i r) (C j k)) = result (arg0 m c) (arg1 m c) (arg2 m c) (arg3 m c) (arg4 m c) (R i r) (C j k) := by
  have e := (index (pt i j)).2.2.2
  have b := congrFun (blocks3 m c (pt i j) (flush0_3 (pt i j))) (ix2 r k)
  rw [flushed3] at b
  have z : ((cfg0.win 3).blk (pt i j)).view.emb (ix2 r k) = ix2 (R i r) (C j k) := by
    refine place win0_3 rfl (pt i j) (ix2 r k) (ix2 (R i r) (C j k)) fun a => ?_
    match a with
    | ⟨0, _⟩ => show 2048 * i.val + r.val = win0_3.index (pt i j) (0 : Fin 2) * 2048 + r.val; rw [e.1]; dsimp only; omega
    | ⟨1, _⟩ => show 512 * j.val + k.val = win0_3.index (pt i j) (1 : Fin 2) * 512 + k.val; rw [e.2]; dsimp only; omega
  have b' : (dats m 0 c).arrAt 3 cfg0.N (((cfg0.win 3).blk (pt i j)).view.emb (ix2 r k)) = outsAt0 m c (pt i j).val (pt i j).isLt (ix2 r k) := b
  rw [z] at b'
  exact b'.trans (left m c i j r k)

/-- The projection and its reference compute one array. -/
theorem agree : (dats m 0 c).arrAt 3 cfg0.N
    = Cert.QkvReferenceIdeal.Read.val_main_v54 (F := Ideal) (arg0 m c) (arg1 m c) (arg2 m c) (arg3 m c) (arg4 m c) := by
  funext z
  have z0 : (z 0).val < 16384 := (z 0).isLt
  have z1 : (z 1).val < 3584 := (z 1).isLt
  have e : z = ix2 (R ⟨(z 0).val / 2048, by omega⟩ ⟨(z 0).val % 2048, by omega⟩) (C ⟨(z 1).val / 512, by omega⟩ ⟨(z 1).val % 512, by omega⟩) := by
    funext a; apply Fin.ext
    match a with
    | ⟨0, _⟩ => show (z 0).val = 2048 * ((z 0).val / 2048) + (z 0).val % 2048; omega
    | ⟨1, _⟩ => show (z 1).val = 512 * ((z 1).val / 512) + (z 1).val % 512; omega
  rw [e]
  exact (value m c _ _ _ _).trans (reference _ _ _ _ _ _ _).symm

end Cert.QkvValue

end
-- ==== Proof.LruValue.lean ====
/- The recurrent branch's projection at an index, and its reference's. -/
module

public import proofs.«01_k».proof.Proof.Gen.LruProjIdeal.Value
public import proofs.«01_k».proof.Proof.Gen.LruReferenceIdeal.Run
public import proofs.«01_k».proof.Proof.Gen.LruReferenceIdeal.Read
public import proofs.«01_k».proof.Proof.Place
public import Idealize.ShloMosaic.Lib.Pipeline.ValueKit.Tiles

@[expose] public section

set_option maxRecDepth 16384

noncomputable section

namespace Cert.LruValue

open Cert.Place Cert.LruProjIdeal Cert.LruProjIdeal.Gen Cert.LruProjIdeal.Value
open Idealize.ShloMosaic Idealize.ShloMosaic.TcCoe Idealize.SL.Sem

/-- The block index of the windows the body reads and writes, at every point. -/
theorem index : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_3.index t (0 : Fin 2) = t.val / 2 ∧ win0_3.index t (1 : Fin 2) = t.val % 2) :=
  (by decide +kernel : ∀ t : Fin grid0.N, _)

/-- The product at a row and a column. -/
theorem product (h : Vec Ideal S2048x2048 .bf16) (w : Vec Ideal S2048x512 .bf16) (r : Fin 2048) (k : Fin 512) :
    k0_pay1 (F := Ideal) h w (ix2 r k) = ∑ p : Fin 2048, h (ix2 r p) * w (ix2 p k) := by
  pointwise [k0_pay1]

variable (m : (ℓ : Loc nD τ sig) → Buf (Elt Ideal) ℓ) (c : Dev nD)

/-- Every point leaves the product in its block. -/
theorem left (t : Fin cfg0.N) : outsAt0 m c t = k0_pay1 (F := Ideal) (iblk m c 0 t) (iblk m c 1 t) := by
  unfold outsAt0 out0_A_3
  rw [View.read_writes_junk_eq_canon]
  unfold kernelRun0_A
  dsimp only
  rw [View.canon_cons_unit_lit _ _ _ (by decide)]
  simp only [View.readAt_eq_ld, (hs0_0 t).read_unread, (hs0_1 t).read_unread]
  simp (disch := decide) only [View.ld_unit_lit']

abbrev arg0 : Vec Ideal S16384x2048 .bf16 := m ((c : Thread nD τ).loc main_arg0)
abbrev arg1 : Vec Ideal S2048x4608 .f32 := m ((c : Thread nD τ).loc main_arg1)

/-- The grid point of row block `i` and column block `j`. -/
abbrev pt (i : Fin 8) (j : Fin 2) : Fin cfg0.N := ⟨2 * i.val + j.val, Nat.lt_of_lt_of_eq (by have := i.isLt; have := j.isLt; omega : 2 * i.val + j.val < 16) (by decide)⟩
/-- Row `r` of row block `i`. -/
abbrev R (i : Fin 8) (r : Fin 2048) : Fin 16384 := ⟨2048 * i.val + r.val, by have := i.isLt; have := r.isLt; omega⟩
/-- Column `k` of column block `j`. -/
abbrev C (j : Fin 2) (k : Fin 512) : Fin 1024 := ⟨512 * j.val + k.val, by have := j.isLt; have := k.isLt; omega⟩
/-- The column of the projection's weights that a column of the result reads. -/
abbrev W (k : Fin 1024) : Fin 4608 := ⟨3072 + k.val, by have := k.isLt; omega⟩

/-- The projection at a row and a column. -/
def total (h : Vec Ideal S16384x2048 .bf16) (w : Vec Ideal S2048x4608 .f32) (n : Fin 16384) (k : Fin 1024) : EReal :=
  ∑ p : Fin 2048, h (ix2 n p) * w (ix2 p (W k))

/-- The weights the pipeline reads: two slices side by side. -/
def columns (w : Vec Ideal S2048x4608 .f32) : FVec Ideal S2048x1024 .bf16 :=
  truncf .bf16 (concatenate S2048x1024 1 [⟨S2048x512, extractStridedSlice S2048x512 ![0, 3072] w slices_S2048x4608_S2048x512_0_3072⟩,
    ⟨S2048x512, extractStridedSlice S2048x512 ![0, 3584] w slices_S2048x4608_S2048x512_0_3584⟩] concatenates_S2048x512_S2048x512_S2048x1024_d1) bitsLt_bf16_f32

theorem weights : V m c main_v7 = columns (arg1 m c) := by
  unfold_abbrev_sides
  simp only [hostOps0, List.flatten_cons, List.flatten_nil, List.append_nil, List.cons_append, List.nil_append]
  after_results_simp <;> rfl

theorem columns_apply (w : Vec Ideal S2048x4608 .f32) (p : Fin 2048) (j : Fin 2) (k : Fin 512) :
    columns w (ix2 p (C j k)) = w (ix2 p (W (C j k))) := by
  match j with
  | 0 => pointwise [columns]; exact congrArg (fun q => w (ix2 p q)) (Fin.ext (by show 3072 + k.val = 3072 + (512 * 0 + k.val); omega))
  | 1 => pointwise [columns]; exact congrArg (fun q => w (ix2 p q)) (Fin.ext (by show 3584 + k.val = 3072 + (512 * 1 + k.val); omega))

theorem read_h (i : Fin 8) (j : Fin 2) (r p : Fin 2048) : iblk m c 0 (pt i j) (ix2 r p) = arg0 m c (ix2 (R i r) p) := by
  have e := (index (pt i j)).1
  refine (congrArg (V m c main_arg0) (place win0_0 rfl (pt i j) (ix2 r p) (ix2 (R i r) p) fun a => ?_)).trans (congrFun (V_main_arg0 m c) _)
  match a with
  | ⟨0, _⟩ => show 2048 * i.val + r.val = win0_0.index (pt i j) (0 : Fin 2) * 2048 + r.val; rw [e.1]; dsimp only; omega
  | ⟨1, _⟩ => show p.val = win0_0.index (pt i j) (1 : Fin 2) * 2048 + p.val; rw [e.2]; omega

theorem read_w (i : Fin 8) (j : Fin 2) (p : Fin 2048) (k : Fin 512) : iblk m c 1 (pt i j) (ix2 p k) = arg1 m c (ix2 p (W (C j k))) := by
  have e := (index (pt i j)).2.1
  refine ((congrArg (V m c main_v7) (place win0_1 rfl (pt i j) (ix2 p k) (ix2 p (C j k)) fun a => ?_)).trans (congrFun (weights m c) _)).trans
    (columns_apply (arg1 m c) p j k)
  match a with
  | ⟨0, _⟩ => show p.val = win0_1.index (pt i j) (0 : Fin 2) * 2048 + p.val; rw [e.1]; omega
  | ⟨1, _⟩ => show 512 * j.val + k.val = win0_1.index (pt i j) (1 : Fin 2) * 512 + k.val; rw [e.2]; dsimp only; omega

theorem value (i : Fin 8) (j : Fin 2) (r : Fin 2048) (k : Fin 512) :
    (dats m 0 c).arrAt 3 cfg0.N (ix2 (R i r) (C j k)) = total (arg0 m c) (arg1 m c) (R i r) (C j k) := by
  have e := (index (pt i j)).2.2
  have b := congrFun (blocks3 m c (pt i j) (flush0_3 (pt i j))) (ix2 r k)
  rw [flushed3, left] at b
  have z : ((cfg0.win 3).blk (pt i j)).view.emb (ix2 r k) = ix2 (R i r) (C j k) := by
    refine place win0_3 rfl (pt i j) (ix2 r k) (ix2 (R i r) (C j k)) fun a => ?_
    match a with
    | ⟨0, _⟩ => show 2048 * i.val + r.val = win0_3.index (pt i j) (0 : Fin 2) * 2048 + r.val; rw [e.1]; dsimp only; omega
    | ⟨1, _⟩ => show 512 * j.val + k.val = win0_3.index (pt i j) (1 : Fin 2) * 512 + k.val; rw [e.2]; dsimp only; omega
  have b' : (dats m 0 c).arrAt 3 cfg0.N (((cfg0.win 3).blk (pt i j)).view.emb (ix2 r k))
      = k0_pay1 (F := Ideal) (iblk m c 0 (pt i j)) (iblk m c 1 (pt i j)) (ix2 r k) := b
  rw [z] at b'
  exact b'.trans ((product _ _ r k).trans
    (Finset.sum_congr rfl fun p _ => congrArg₂ (fun a b : EReal => a * b) (read_h m c i j r p) (read_w m c i j p k)))

theorem reference (h : Vec Ideal S16384x2048 .bf16) (w : Vec Ideal S2048x4608 .f32) (n : Fin 16384) (k : Fin 1024) :
    Cert.LruReferenceIdeal.Read.val_main_v2 (F := Ideal) h w (ix2 n k) = total h w n k := by
  unfold total
  pointwise [Cert.LruReferenceIdeal.Read.val_main_v2, Cert.LruReferenceIdeal.Read.val_main_v1, Cert.LruReferenceIdeal.Read.val_main_v0]

/-- The projection and its reference compute one array. -/
theorem agree : (dats m 0 c).arrAt 3 cfg0.N = Cert.LruReferenceIdeal.Read.val_main_v2 (F := Ideal) (arg0 m c) (arg1 m c) := by
  funext z
  have z0 : (z 0).val < 16384 := (z 0).isLt
  have z1 : (z 1).val < 1024 := (z 1).isLt
  have e : z = ix2 (R ⟨(z 0).val / 2048, by omega⟩ ⟨(z 0).val % 2048, by omega⟩) (C ⟨(z 1).val / 512, by omega⟩ ⟨(z 1).val % 512, by omega⟩) := by
    funext a; apply Fin.ext
    match a with
    | ⟨0, _⟩ => show (z 0).val = 2048 * ((z 0).val / 2048) + (z 0).val % 2048; omega
    | ⟨1, _⟩ => show (z 1).val = 512 * ((z 1).val / 512) + (z 1).val % 512; omega
  rw [e]
  exact (value m c _ _ _ _).trans (reference _ _ _ _).symm

end Cert.LruValue

end
-- ==== Proof.NormValue.lean ====
/- The first norm and its reference compute the same array. -/
module

public import proofs.«01_k».proof.Proof.Gen.FirstNormIdeal.Value
public import proofs.«01_k».proof.Proof.Gen.NormReferenceIdeal.Run
public import proofs.«01_k».proof.Proof.Gen.NormReferenceIdeal.Read
public import proofs.«01_k».proof.Proof.Place
public import Idealize.ShloMosaic.Lib.Pipeline.ValueKit.Tiles

@[expose] public section

set_option maxRecDepth 16384

noncomputable section

namespace Cert.NormValue

open Cert.Place Cert.FirstNormIdeal Cert.FirstNormIdeal.Gen Cert.FirstNormIdeal.Value
open Cert.NormReferenceIdeal.Read (val_main_v0 val_main_cst val_main_v1 val_main_v2 val_main_cst_0 val_main_v3 val_main_v4 val_main_cst_1 val_main_v5 val_main_v6 val_main_v7 val_main_v8 val_main_v9 val_main_v10 val_main_v11 val_main_v12 val_main_v13 val_main_v14)
open Idealize.ShloMosaic Idealize.ShloMosaic.TcCoe Idealize.SL.Sem

/-- The block index of every window at every point. -/
theorem index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem left (x : Vec Ideal S512x2048 .f32) (g : Vec Ideal S1x2048 .f32) : out0_2 x g = k0_pay1 (F := Ideal) x g := by
  unfold out0_2
  rw [View.canon_cons_unit_lit _ _ _ (by decide)]
  simp (disch := decide) only [View.ld_unit_lit']

/-- A row of a block over its root mean square, times the gain. -/
theorem left_apply (x : Vec Ideal S512x2048 .f32) (g : Vec Ideal S1x2048 .f32) (r : Fin 512) (k : Fin 2048) :
    k0_pay1 (F := Ideal) x g (ix2 r k) = unit 0x45000000#32 (fun j => x (ix2 r j)) k * g (ix2 0 k) := by
  unfold unit
  pointwise [k0_pay1]

/-- The two sequences' rows, one after the other. -/
abbrev seq (n : Fin 16384) : Fin 2 := ⟨n.val / 8192, by have := n.isLt; omega⟩
abbrev pos (n : Fin 16384) : Fin 8192 := ⟨n.val % 8192, Nat.mod_lt _ (by decide)⟩

theorem rows (x : FVec Ideal S2x8192x2048 .f32) (n : Fin 16384) (k : Fin 2048) :
    (shapeCast S16384x2048 x shapeCasts_S2x8192x2048_S16384x2048 : FVec Ideal S16384x2048 .f32) (ix2 n k) = x (ix3 (seq n) (pos n) k) := by
  pointwise

theorem reference (x : Vec Ideal S2x8192x2048 .f32) (g : Vec Ideal S2048 .f32) (s : Fin 2) (p : Fin 8192) (k : Fin 2048) :
    val_main_v12 (F := Ideal) x g (ix3 s p k) = unit 0x45000000#32 (fun j => x (ix3 s p j)) k * g (ix1 k) := by
  unfold unit
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem reference_flat (x : Vec Ideal S2x8192x2048 .f32) (g : Vec Ideal S2048 .f32) (n : Fin 16384) (k : Fin 2048) :
    val_main_v14 (F := Ideal) x g (ix2 n k) = unit 0x45000000#32 (fun j => x (ix3 (seq n) (pos n) j)) k * g (ix1 k) :=
  (rows (val_main_v12 (F := Ideal) x g) n k).trans (reference x g _ _ k)

variable (m : (ℓ : Loc nD τ sig) → Buf (Elt Ideal) ℓ) (c : Dev nD)

abbrev arg0 : Vec Ideal S2x8192x2048 .f32 := m ((c : Thread nD τ).loc main_arg0)
abbrev arg1 : Vec Ideal S2048 .f32 := m ((c : Thread nD τ).loc main_arg1)

/-- The grid point of row block `i`. -/
abbrev pt (i : Fin 32) : Fin cfg0.N := ⟨i.val, Nat.lt_of_lt_of_eq i.isLt (by decide)⟩
/-- Row `r` of row block `i`. -/
abbrev R (i : Fin 32) (r : Fin 512) : Fin 16384 := ⟨512 * i.val + r.val, by have := i.isLt; have := r.isLt; omega⟩

theorem host : V m c main_v0 = (shapeCast S16384x2048 (arg0 m c) shapeCasts_S2x8192x2048_S16384x2048 : FVec Ideal S16384x2048 .f32)
    ∧ V m c main_v1 = (shapeCast S1x2048 (arg1 m c) shapeCasts_S2048_S1x2048 : FVec Ideal S1x2048 .f32) := by
  refine ⟨?_, ?_⟩ <;>
  (unfold_abbrev_sides
   simp only [hostOps0, List.flatten_cons, List.flatten_nil, List.append_nil, List.cons_append, List.nil_append]
   after_results_simp <;> rfl)

theorem read_x (i : Fin 32) (r : Fin 512) (k : Fin 2048) : iblk m c 0 (pt i) (ix2 r k) = arg0 m c (ix3 (seq (R i r)) (pos (R i r)) k) := by
  have e := (index (pt i)).1
  refine ((congrArg (V m c main_v0) (place win0_0 rfl (pt i) (ix2 r k) (ix2 (R i r) k) fun a => ?_)).trans (congrFun (host m c).1 _)).trans (rows _ _ _)
  match a with
  | ⟨0, _⟩ => show 512 * i.val + r.val = win0_0.index (pt i) (0 : Fin 2) * 512 + r.val; rw [e.1]; dsimp only; omega
  | ⟨1, _⟩ => show k.val = win0_0.index (pt i) (1 : Fin 2) * 2048 + k.val; rw [e.2]; omega

theorem read_g (i : Fin 32) (k : Fin 2048) : iblk m c 1 (pt i) (ix2 0 k) = arg1 m c (ix1 k) := by
  have e := (index (pt i)).2.1
  refine ((congrArg (V m c main_v1) (place win0_1 rfl (pt i) (ix2 0 k) (ix2 0 k) fun a => ?_)).trans (congrFun (host m c).2 _)).trans ?_
  · match a with
    | ⟨0, _⟩ => show 0 = win0_1.index (pt i) (0 : Fin 2) * 1 + 0; rw [e.1]
    | ⟨1, _⟩ => show k.val = win0_1.index (pt i) (1 : Fin 2) * 2048 + k.val; rw [e.2]; omega
  · pointwise

theorem value (i : Fin 32) (r : Fin 512) (k : Fin 2048) :
    (dats m 0 c).arrAt 2 cfg0.N (ix2 (R i r) k)
      = unit 0x45000000#32 (fun j => arg0 m c (ix3 (seq (R i r)) (pos (R i r)) j)) k * arg1 m c (ix1 k) := by
  have e := (index (pt i)).2.2
  have b := congrFun (blocks2 m c (pt i) (flush0_2 (pt i))) (ix2 r k)
  rw [flushed2, left] at b
  have z : ((cfg0.win 2).blk (pt i)).view.emb (ix2 r k) = ix2 (R i r) k := by
    refine place win0_2 rfl (pt i) (ix2 r k) (ix2 (R i r) k) fun a => ?_
    match a with
    | ⟨0, _⟩ => show 512 * i.val + r.val = win0_2.index (pt i) (0 : Fin 2) * 512 + r.val; rw [e.1]; dsimp only; omega
    | ⟨1, _⟩ => show k.val = win0_2.index (pt i) (1 : Fin 2) * 2048 + k.val; rw [e.2]; omega
  have b' : (dats m 0 c).arrAt 2 cfg0.N (((cfg0.win 2).blk (pt i)).view.emb (ix2 r k))
      = k0_pay1 (F := Ideal) (iblk m c 0 (pt i)) (iblk m c 1 (pt i)) (ix2 r k) := b
  rw [z] at b'
  refine b'.trans ((left_apply _ _ r k).trans ?_)
  exact congrArg₂ (fun a b : EReal => a * b) (congrArg (fun y => unit 0x45000000#32 y k) (funext fun j => read_x m c i r j)) (read_g m c i k)

theorem agree : (dats m 0 c).arrAt 2 cfg0.N = val_main_v14 (F := Ideal) (arg0 m c) (arg1 m c) := by
  funext z
  have z0 : (z 0).val < 16384 := (z 0).isLt
  have e : z = ix2 (R ⟨(z 0).val / 512, by omega⟩ ⟨(z 0).val % 512, by omega⟩) (z 1) := by
    funext a; apply Fin.ext
    match a with
    | ⟨0, _⟩ => show (z 0).val = 512 * ((z 0).val / 512) + (z 0).val % 512; omega
    | ⟨1, _⟩ => rfl
  rw [e]
  exact (value m c _ _ _).trans (reference_flat _ _ _ _).symm

end Cert.NormValue

end
-- ==== Proof.MemBlock.lean ====
/- What the memory's two blocks hold, at an index: the keys' four heads, each over its root mean square and times the gain, and the values. -/
module

public import proofs.«01_k».proof.Proof.Gen.MemKvIdeal.Value
public import proofs.«01_k».proof.Proof.Place
public import Idealize.ShloMosaic.Lib.Pipeline.ValueKit.Tiles

@[expose] public section

set_option maxRecDepth 16384

noncomputable section

namespace Cert.MemBlock

open Cert.Place Cert.MemKvIdeal Cert.MemKvIdeal.Gen Idealize.ShloMosaic

/-- A token over its root mean square, times the gain. -/
def normed (x : Fin 2048 → EReal) (g : Fin 2048 → EReal) (p : Fin 2048) : EReal := unit 0x45000000#32 x p * g p

/-- The normed tokens' product with the weights. -/
theorem product (x : Vec Ideal S1x256x2048 .f32) (g : Vec Ideal S1x2048 .f32) (w : Vec Ideal S2048x1024 .bf16) (r : Fin 256) (k : Fin 1024) :
    k0_pay3 (F := Ideal) x g w (ix2 r k) = ∑ p : Fin 2048, normed (fun j => x (ix3 0 r j)) (fun j => g (ix2 0 j)) p * w (ix2 p k) := by
  unfold normed unit
  pointwise [k0_pay3]

/-- Column `d` of head `h` of the keys. -/
abbrev col (h : Fin 4) (d : Fin 128) : Fin 1024 := ⟨128 * h.val + d.val, by have := h.isLt; have := d.isLt; omega⟩

/-- The columns of head `h`. -/
def part (h : Fin 4) (z : FVec Ideal S256x1024 .f32) : FVec Ideal S256x128 .f32 :=
  match h with
  | 0 => extractStridedSlice S256x128 ![0, 0] z slices_S256x1024_o0_0_S256x128
  | 1 => extractStridedSlice S256x128 ![0, 128] z slices_S256x1024_o0_128_S256x128
  | 2 => extractStridedSlice S256x128 ![0, 256] z slices_S256x1024_o0_256_S256x128
  | 3 => extractStridedSlice S256x128 ![0, 384] z slices_S256x1024_o0_384_S256x128

theorem part_apply (h : Fin 4) (z : FVec Ideal S256x1024 .f32) (r : Fin 256) (d : Fin 128) : part h z (ix2 r d) = z (ix2 r (col h d)) := by
  fin_cases h <;> unfold part <;> dsimp only <;> pointwise <;>
    exact congrArg (fun q => z (ix2 r q)) (Fin.ext (by simp [col]))

theorem norm_apply (y : FVec Ideal S256x128 .f32) (g : Vec Ideal S1x128 .f32) (r : Fin 256) (d : Fin 128) :
    k0_pay1 (F := Ideal) y (multiReduction .add [1] S256 (mulf y y) 0x00000000#32 reduces_S256x128_S256 (.inl rfl) rfl : FVec Ideal S256 .f32) g (ix3 0 r d)
      = unit 0x43000000#32 (fun j => y (ix2 r j)) d * g (ix2 0 d) := by
  unfold unit
  pointwise [k0_pay1]

/-- A place of the keys' block. -/
theorem left_keys (x0 : Vec Ideal S1x256x2048 .f32) (x1 : Vec Ideal S1x2048 .f32) (x2 : Vec Ideal S2048x1024 .bf16) (x3 : Vec Ideal S1x128 .f32)
    (h : Fin 4) (r : Fin 256) (d : Fin 128) (y : S1x256x512.Idx) (hy0 : (y 1).val = r.val) (hy1 : (y 2).val = 128 * h.val + d.val) :
    out0_4 x0 x1 x2 x3 y = unit 0x43000000#32 (fun j => k0_pay3 (F := Ideal) x0 x1 x2 (ix2 r (col h j))) d * x3 (ix2 0 d) := by
  have key : out0_4 x0 x1 x2 x3 y = k0_pay1 (F := Ideal) (part h (k0_pay3 x0 x1 x2))
      (multiReduction .add [1] S256 (mulf (part h (k0_pay3 x0 x1 x2)) (part h (k0_pay3 x0 x1 x2))) 0x00000000#32 reduces_S256x128_S256 (.inl rfl) rfl : FVec Ideal S256 .f32) x3 (ix3 0 r d) := by
    unfold out0_4
    canon_tiles x e using cover0_4 _ _ _ _ y
    all_goals
      obtain ⟨hv, hh⟩ := h
      dsimp only at hy1
      have hx0 : (x 0).val < 1 := (x 0).isLt
      have hx2 : (x 2).val < 128 := (x 2).isLt
      obtain rfl : x = ix3 0 r d := funext fun a => Fin.ext (match a with
        | ⟨0, _⟩ => by show (x 0).val = 0; omega
        | ⟨1, _⟩ => by show (x 1).val = r.val; omega
        | ⟨2, _⟩ => by show (x 2).val = d.val; omega)
      change (y 2).val = _ at e2
      simp only [ix3] at e2
      interval_cases hv <;> first
        | omega
        | (simp only [k0_pay9]
           simp (disch := decide) only [View.ld_unit_lit']
           rfl)
  rw [key, norm_apply]
  exact congrArg (fun u => unit 0x43000000#32 u d * x3 (ix2 0 d)) (funext fun j => part_apply h _ r j)

/-- A place of the values' block. -/
theorem left_values (x0 : Vec Ideal S1x256x2048 .f32) (x1 : Vec Ideal S1x2048 .f32) (x2 : Vec Ideal S2048x1024 .bf16) (x3 : Vec Ideal S1x128 .f32)
    (r : Fin 256) (k : Fin 512) :
    out0_5 x0 x1 x2 x3 (ix3 0 r k) = k0_pay3 (F := Ideal) x0 x1 x2 (ix2 r ⟨512 + k.val, by have := k.isLt; omega⟩) := by
  have key : out0_5 x0 x1 x2 x3 = k0_pay2 (F := Ideal) (k0_pay3 x0 x1 x2) := by
    unfold out0_5
    rw [View.canon_cons_unit_lit _ _ _ (by decide)]
    simp only [k0_pay9]
    simp (disch := decide) only [View.ld_unit_lit']
  rw [key]
  generalize k0_pay3 (F := Ideal) x0 x1 x2 = z
  pointwise [k0_pay2]

end Cert.MemBlock

end
-- ==== Proof.MemReference.lean ====
/- The reference of the memory's keys and values, at an index. -/
module

public import proofs.«01_k».proof.Proof.MemBlock
public import proofs.«01_k».proof.Proof.Gen.MemReferenceIdeal.Run
public import proofs.«01_k».proof.Proof.Gen.MemReferenceIdeal.Read

@[expose] public section

set_option maxRecDepth 16384

noncomputable section

namespace Cert.MemReference

open Cert.Place Cert.MemReferenceIdeal Cert.MemReferenceIdeal.Gen Cert.MemReferenceIdeal.Read Idealize.ShloMosaic
open Cert.MemBlock (normed col)

/-- The projection of a normed token at a column. -/
def total (x : Vec Ideal S2x256x2048 .f32) (g : Vec Ideal S2048 .f32) (w : Vec Ideal S2048x1024 .f32) (b : Fin 2) (r : Fin 256) (k : Fin 1024) : EReal :=
  ∑ p : Fin 2048, normed (fun j => x (ix3 b r j)) (fun j => g (ix1 j)) p * w (ix2 p k)

variable (x : Vec Ideal S2x256x2048 .f32) (g : Vec Ideal S2048 .f32) (w : Vec Ideal S2048x1024 .f32) (q : Vec Ideal S128 .f32)

theorem tokens (b : Fin 2) (r : Fin 256) (k : Fin 2048) :
    val_main_v12 (F := Ideal) x g (ix3 b r k) = normed (fun j => x (ix3 b r j)) (fun j => g (ix1 j)) k := by
  unfold normed unit
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem product (b : Fin 2) (r : Fin 256) (k : Fin 1024) : val_main_v13 (F := Ideal) x g w (ix3 b r k) = total x g w b r k := by
  have e : val_main_v13 (F := Ideal) x g w (ix3 b r k) = ∑ p : Fin 2048, val_main_v12 (F := Ideal) x g (ix3 b r p) * w (ix2 p k) := by
    unfold val_main_v13
    generalize val_main_v12 (F := Ideal) x g = z
    pointwise
  exact e.trans (Finset.sum_congr rfl fun p _ => congrArg (fun u : EReal => u * w (ix2 p k)) (tokens x g b r p))

theorem values (b : Fin 2) (r : Fin 256) (k : Fin 512) :
    val_main_v32 (F := Ideal) x g w (ix3 b r k) = total x g w b r ⟨512 + k.val, by have := k.isLt; omega⟩ := by
  have e : val_main_v32 (F := Ideal) x g w (ix3 b r k) = val_main_v13 (F := Ideal) x g w (ix3 b r ⟨512 + k.val, by have := k.isLt; omega⟩) := by
    unfold val_main_v32 val_main_v31
    generalize val_main_v13 (F := Ideal) x g w = z
    pointwise
  exact e.trans (product x g w b r _)

/-- The heads' columns, apart. -/
theorem heads (b : Fin 2) (r : Fin 256) (h : Fin 4) (d : Fin 128) : val_main_v15 (F := Ideal) x g w (ix4 b r h d) = total x g w b r (col h d) := by
  have e : val_main_v15 (F := Ideal) x g w (ix4 b r h d) = val_main_v13 (F := Ideal) x g w (ix3 b r (col h d)) := by
    unfold val_main_v15 val_main_v14
    generalize val_main_v13 (F := Ideal) x g w = z
    pointwise
    exact congrArg (fun k => z (ix3 b r k)) (Fin.ext (by simp [col]; omega))
  exact e.trans (product x g w b r _)

theorem keys_apart (b : Fin 2) (r : Fin 256) (h : Fin 4) (d : Fin 128) :
    val_main_v28 (F := Ideal) x g w q (ix4 b r h d) = unit 0x43000000#32 (fun j => total x g w b r (col h j)) d * q (ix1 d) := by
  have e : val_main_v28 (F := Ideal) x g w q (ix4 b r h d)
      = unit 0x43000000#32 (fun j => val_main_v15 (F := Ideal) x g w (ix4 b r h j)) d * q (ix1 d) := by
    unfold val_main_v28 val_main_v25 val_main_v24 val_main_v23 val_main_v22 val_main_v20 val_main_v18 val_main_v17 val_main_v16
    generalize val_main_v15 (F := Ideal) x g w = z
    unfold unit
    pointwise [val_main_v27, val_main_v26, val_main_v21, val_main_cst_4, val_main_v19, val_main_cst_3, val_main_cst_2]
  exact e.trans (congrArg (fun u => unit 0x43000000#32 u d * q (ix1 d)) (funext fun j => heads x g w b r h j))

theorem keys (b : Fin 2) (r : Fin 256) (h : Fin 4) (d : Fin 128) (k : Fin 512) (e : k.val = 128 * h.val + d.val) :
    val_main_v30 (F := Ideal) x g w q (ix3 b r k) = unit 0x43000000#32 (fun j => total x g w b r (col h j)) d * q (ix1 d) := by
  have f : val_main_v30 (F := Ideal) x g w q (ix3 b r k)
      = val_main_v28 (F := Ideal) x g w q (ix4 b r ⟨k.val / 128, by have := k.isLt; omega⟩ ⟨k.val % 128, Nat.mod_lt _ (by decide)⟩) := by
    unfold val_main_v30 val_main_v29
    generalize val_main_v28 (F := Ideal) x g w q = z
    pointwise
  have hd := d.isLt
  have e1 : (⟨k.val / 128, by have := k.isLt; omega⟩ : Fin 4) = h := Fin.ext (by dsimp only; omega)
  have e2 : (⟨k.val % 128, Nat.mod_lt _ (by decide)⟩ : Fin 128) = d := Fin.ext (by dsimp only; omega)
  rw [f, e1, e2]
  exact keys_apart x g w q b r h d

end Cert.MemReference

end
-- ==== Proof.MemValue.lean ====
/- The memory's keys and values and their reference are the same two arrays. -/
module

public import proofs.«01_k».proof.Proof.MemReference

@[expose] public section

set_option maxRecDepth 16384

noncomputable section

namespace Cert.MemValue

open Cert.Place Cert.MemBlock Cert.MemKvIdeal Cert.MemKvIdeal.Gen Cert.MemKvIdeal.Value
open Cert.MemReference (total)
open Cert.MemReferenceIdeal.Read (val_main_v30 val_main_v32)
open Idealize.ShloMosaic Idealize.ShloMosaic.TcCoe Idealize.SL.Sem

/-- The block index of every window at every point. -/
theorem index : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

variable (m : (ℓ : Loc nD τ sig) → Buf (Elt Ideal) ℓ) (c : Dev nD)

abbrev arg0 : Vec Ideal S2x256x2048 .f32 := m ((c : Thread nD τ).loc main_arg0)
abbrev arg1 : Vec Ideal S2048 .f32 := m ((c : Thread nD τ).loc main_arg1)
abbrev arg2 : Vec Ideal S2048x1024 .f32 := m ((c : Thread nD τ).loc main_arg2)
abbrev arg3 : Vec Ideal S128 .f32 := m ((c : Thread nD τ).loc main_arg3)

/-- The grid point of sequence `b`. -/
abbrev pt (b : Fin 2) : Fin cfg0.N := ⟨b.val, Nat.lt_of_lt_of_eq b.isLt (by decide)⟩

theorem host : V m c main_v0 = (truncf .bf16 (arg2 m c) bitsLt_bf16_f32 : FVec Ideal S2048x1024 .bf16)
    ∧ V m c main_v1 = (shapeCast S1x2048 (arg1 m c) shapeCasts_S2048_S1x2048 : FVec Ideal S1x2048 .f32)
    ∧ V m c main_v2 = (shapeCast S1x128 (arg3 m c) shapeCasts_S128_S1x128 : FVec Ideal S1x128 .f32) := by
  refine ⟨?_, ?_, ?_⟩ <;>
  (unfold_abbrev_sides
   simp only [hostOps0, List.flatten_cons, List.flatten_nil, List.append_nil, List.cons_append, List.nil_append]
   after_results_simp <;> rfl)

theorem read_x (b : Fin 2) (r : Fin 256) (k : Fin 2048) : iblk m c 0 (pt b) (ix3 0 r k) = arg0 m c (ix3 b r k) := by
  have e := (index (pt b)).1
  refine (congrArg (V m c main_arg0) (place win0_0 rfl (pt b) (ix3 0 r k) (ix3 b r k) fun a => ?_)).trans (congrFun (V_main_arg0 m c) _)
  match a with
  | ⟨0, _⟩ => show b.val = win0_0.index (pt b) (0 : Fin 3) * 1 + 0; rw [e.1]; dsimp only; omega
  | ⟨1, _⟩ => show r.val = win0_0.index (pt b) (1 : Fin 3) * 256 + r.val; rw [e.2.1]; omega
  | ⟨2, _⟩ => show k.val = win0_0.index (pt b) (2 : Fin 3) * 2048 + k.val; rw [e.2.2]; omega

theorem read_g (b : Fin 2) (k : Fin 2048) : iblk m c 1 (pt b) (ix2 0 k) = arg1 m c (ix1 k) := by
  have e := (index (pt b)).2.1
  refine ((congrArg (V m c main_v1) (place win0_1 rfl (pt b) (ix2 0 k) (ix2 0 k) fun a => ?_)).trans (congrFun (host m c).2.1 _)).trans ?_
  · match a with
    | ⟨0, _⟩ => show 0 = win0_1.index (pt b) (0 : Fin 2) * 1 + 0; rw [e.1]
    | ⟨1, _⟩ => show k.val = win0_1.index (pt b) (1 : Fin 2) * 2048 + k.val; rw [e.2]; omega
  · pointwise

theorem read_w (b : Fin 2) (p : Fin 2048) (k : Fin 1024) : iblk m c 2 (pt b) (ix2 p k) = arg2 m c (ix2 p k) := by
  have e := (index (pt b)).2.2.1
  refine (congrArg (V m c main_v0) (place win0_2 rfl (pt b) (ix2 p k) (ix2 p k) fun a => ?_)).trans (congrFun (host m c).1 _)
  match a with
  | ⟨0, _⟩ => show p.val = win0_2.index (pt b) (0 : Fin 2) * 2048 + p.val; rw [e.1]; omega
  | ⟨1, _⟩ => show k.val = win0_2.index (pt b) (1 : Fin 2) * 1024 + k.val; rw [e.2]; omega

theorem read_q (b : Fin 2) (d : Fin 128) : iblk m c 3 (pt b) (ix2 0 d) = arg3 m c (ix1 d) := by
  have e := (index (pt b)).2.2.2.1
  refine ((congrArg (V m c main_v2) (place win0_3 rfl (pt b) (ix2 0 d) (ix2 0 d) fun a => ?_)).trans (congrFun (host m c).2.2 _)).trans ?_
  · match a with
    | ⟨0, _⟩ => show 0 = win0_3.index (pt b) (0 : Fin 2) * 1 + 0; rw [e.1]
    | ⟨1, _⟩ => show d.val = win0_3.index (pt b) (1 : Fin 2) * 128 + d.val; rw [e.2]; omega
  · pointwise

theorem block (b : Fin 2) (r : Fin 256) (k : Fin 1024) :
    k0_pay3 (F := Ideal) (iblk m c 0 (pt b)) (iblk m c 1 (pt b)) (iblk m c 2 (pt b)) (ix2 r k) = total (arg0 m c) (arg1 m c) (arg2 m c) b r k := by
  refine (product _ _ _ r k).trans (Finset.sum_congr rfl fun p _ => congrArg₂ (fun u v : EReal => u * v) ?_ (read_w m c b p k))
  exact congrArg₂ (fun u v => normed u v p) (funext fun j => read_x m c b r j) (funext fun j => read_g m c b j)

theorem value_keys (b : Fin 2) (r : Fin 256) (h : Fin 4) (d : Fin 128) (k : Fin 512) (hk : k.val = 128 * h.val + d.val) :
    (dats m 0 c).arrAt 4 cfg0.N (ix3 b r k)
      = unit 0x43000000#32 (fun j => total (arg0 m c) (arg1 m c) (arg2 m c) b r (col h j)) d * arg3 m c (ix1 d) := by
  have e := (index (pt b)).2.2.2.2.1
  have f := congrFun (blocks4 m c (pt b) (flush0_4 (pt b))) (ix3 0 r k)
  rw [flushed4] at f
  have z : ((cfg0.win 4).blk (pt b)).view.emb (ix3 0 r k) = ix3 b r k := by
    refine place win0_4 rfl (pt b) (ix3 0 r k) (ix3 b r k) fun a => ?_
    match a with
    | ⟨0, _⟩ => show b.val = win0_4.index (pt b) (0 : Fin 3) * 1 + 0; rw [e.1]; dsimp only; omega
    | ⟨1, _⟩ => show r.val = win0_4.index (pt b) (1 : Fin 3) * 256 + r.val; rw [e.2.1]; omega
    | ⟨2, _⟩ => show k.val = win0_4.index (pt b) (2 : Fin 3) * 512 + k.val; rw [e.2.2]; omega
  have f' : (dats m 0 c).arrAt 4 cfg0.N (((cfg0.win 4).blk (pt b)).view.emb (ix3 0 r k))
      = out0_4 (F := Ideal) (iblk m c 0 (pt b)) (iblk m c 1 (pt b)) (iblk m c 2 (pt b)) (iblk m c 3 (pt b)) (ix3 0 r k) := f
  rw [z] at f'
  refine f'.trans ((left_keys _ _ _ _ h r d (ix3 0 r k) rfl hk).trans ?_)
  exact congrArg₂ (fun u v : EReal => u * v) (congrArg (fun y => unit 0x43000000#32 y d) (funext fun j => block m c b r _)) (read_q m c b d)

theorem value_values (b : Fin 2) (r : Fin 256) (k : Fin 512) :
    (dats m 0 c).arrAt 5 cfg0.N (ix3 b r k) = total (arg0 m c) (arg1 m c) (arg2 m c) b r ⟨512 + k.val, by have := k.isLt; omega⟩ := by
  have e := (index (pt b)).2.2.2.2.2
  have f := congrFun (blocks5 m c (pt b) (flush0_5 (pt b))) (ix3 0 r k)
  rw [flushed5] at f
  have z : ((cfg0.win 5).blk (pt b)).view.emb (ix3 0 r k) = ix3 b r k := by
    refine place win0_5 rfl (pt b) (ix3 0 r k) (ix3 b r k) fun a => ?_
    match a with
    | ⟨0, _⟩ => show b.val = win0_5.index (pt b) (0 : Fin 3) * 1 + 0; rw [e.1]; dsimp only; omega
    | ⟨1, _⟩ => show r.val = win0_5.index (pt b) (1 : Fin 3) * 256 + r.val; rw [e.2.1]; omega
    | ⟨2, _⟩ => show k.val = win0_5.index (pt b) (2 : Fin 3) * 512 + k.val; rw [e.2.2]; omega
  have f' : (dats m 0 c).arrAt 5 cfg0.N (((cfg0.win 5).blk (pt b)).view.emb (ix3 0 r k))
      = out0_5 (F := Ideal) (iblk m c 0 (pt b)) (iblk m c 1 (pt b)) (iblk m c 2 (pt b)) (iblk m c 3 (pt b)) (ix3 0 r k) := f
  rw [z] at f'
  exact f'.trans ((left_values _ _ _ _ r k).trans (block m c b r _))

theorem agree_keys : (dats m 0 c).arrAt 4 cfg0.N = val_main_v30 (F := Ideal) (arg0 m c) (arg1 m c) (arg2 m c) (arg3 m c) := by
  funext z
  have z2 : (z 2).val < 512 := (z 2).isLt
  have s : (z 2).val = 128 * ((z 2).val / 128) + (z 2).val % 128 := by omega
  have e : z = ix3 (z 0) (z 1) (z 2) := funext fun a => match a with | ⟨0, _⟩ => rfl | ⟨1, _⟩ => rfl | ⟨2, _⟩ => rfl
  rw [e]
  exact (value_keys m c (z 0) (z 1) ⟨(z 2).val / 128, by omega⟩ ⟨(z 2).val % 128, by omega⟩ (z 2) s).trans
    (Cert.MemReference.keys _ _ _ _ (z 0) (z 1) ⟨(z 2).val / 128, by omega⟩ ⟨(z 2).val % 128, by omega⟩ (z 2) s).symm

theorem agree_values : (dats m 0 c).arrAt 5 cfg0.N = val_main_v32 (F := Ideal) (arg0 m c) (arg1 m c) (arg2 m c) := by
  funext z
  have e : z = ix3 (z 0) (z 1) (z 2) := funext fun a => match a with | ⟨0, _⟩ => rfl | ⟨1, _⟩ => rfl | ⟨2, _⟩ => rfl
  rw [e]
  exact (value_values m c (z 0) (z 1) (z 2)).trans (Cert.MemReference.values _ _ _ (z 0) (z 1) (z 2)).symm

end Cert.MemValue

end
-- ==== Proof.LastValue.lean ====
/- The last addition and its reference compute the same array. -/
module

public import proofs.«01_k».proof.Proof.Gen.LastAddIdeal.Value
public import proofs.«01_k».proof.Proof.Gen.LastReferenceIdeal.Run
public import proofs.«01_k».proof.Proof.Gen.LastReferenceIdeal.Read
public import proofs.«01_k».proof.Proof.Place
public import Idealize.ShloMosaic.Lib.Pipeline.ValueKit.Tiles

@[expose] public section

set_option maxRecDepth 16384

noncomputable section

namespace Cert.LastValue

open Cert.Place Cert.LastAddIdeal Cert.LastAddIdeal.Gen Cert.LastAddIdeal.Value
open Cert.LastReferenceIdeal.Read (val_main_v0 val_main_v1)
open Idealize.ShloMosaic Idealize.ShloMosaic.TcCoe Idealize.SL.Sem

/-- The block index of every window at every point. -/
theorem index : ∀ t : Fin cfg0.N,
    (win0_0.index t (0 : Fin 2) = t.val ∧ win0_0.index t (1 : Fin 2) = 0)
    ∧ (win0_1.index t (0 : Fin 2) = 0 ∧ win0_1.index t (1 : Fin 2) = t.val)
    ∧ (win0_2.index t (0 : Fin 2) = t.val ∧ win0_2.index t (1 : Fin 2) = 0) :=
  (by decide +kernel : ∀ t : Fin grid0.N, _)

/-- A block: its rows plus the other array's columns. -/
theorem left (x : Vec Ideal S512x2048 .f32) (y : Vec Ideal S2048x512 .f32) : out0_2 x y = k0_pay1 (F := Ideal) x y := by
  unfold out0_2
  rw [View.canon_cons_unit_lit _ _ _ (by decide)]
  simp (disch := decide) only [View.ld_unit_lit']

theorem left_apply (x : Vec Ideal S512x2048 .f32) (y : Vec Ideal S2048x512 .f32) (r : Fin 512) (k : Fin 2048) :
    k0_pay1 (F := Ideal) x y (ix2 r k) = x (ix2 r k) + y (ix2 k r) := by
  pointwise [k0_pay1]

theorem reference (x : Vec Ideal S16384x2048 .f32) (y : Vec Ideal S2048x16384 .f32) (n : Fin 16384) (k : Fin 2048) :
    val_main_v1 (F := Ideal) x y (ix2 n k) = x (ix2 n k) + y (ix2 k n) := by
  pointwise [val_main_v1, val_main_v0]

variable (m : (ℓ : Loc nD τ sig) → Buf (Elt Ideal) ℓ) (c : Dev nD)

abbrev arg0 : Vec Ideal S16384x2048 .f32 := m ((c : Thread nD τ).loc main_arg0)
abbrev arg1 : Vec Ideal S2048x16384 .f32 := m ((c : Thread nD τ).loc main_arg1)

/-- The grid point of row block `i`. -/
abbrev pt (i : Fin 32) : Fin cfg0.N := ⟨i.val, Nat.lt_of_lt_of_eq i.isLt (by decide)⟩
/-- Row `r` of row block `i`. -/
abbrev R (i : Fin 32) (r : Fin 512) : Fin 16384 := ⟨512 * i.val + r.val, by have := i.isLt; have := r.isLt; omega⟩

theorem read_x (i : Fin 32) (r : Fin 512) (k : Fin 2048) : iblk m c 0 (pt i) (ix2 r k) = arg0 m c (ix2 (R i r) k) := by
  have e := (index (pt i)).1
  refine (congrArg (V m c main_arg0) (place win0_0 rfl (pt i) (ix2 r k) (ix2 (R i r) k) fun a => ?_)).trans (congrFun (V_main_arg0 m c) _)
  match a with
  | ⟨0, _⟩ => show 512 * i.val + r.val = win0_0.index (pt i) (0 : Fin 2) * 512 + r.val; rw [e.1]; dsimp only; omega
  | ⟨1, _⟩ => show k.val = win0_0.index (pt i) (1 : Fin 2) * 2048 + k.val; rw [e.2]; omega

theorem read_y (i : Fin 32) (r : Fin 512) (k : Fin 2048) : iblk m c 1 (pt i) (ix2 k r) = arg1 m c (ix2 k (R i r)) := by
  have e := (index (pt i)).2.1
  refine (congrArg (V m c main_arg1) (place win0_1 rfl (pt i) (ix2 k r) (ix2 k (R i r)) fun a => ?_)).trans (congrFun (V_main_arg1 m c) _)
  match a with
  | ⟨0, _⟩ => show k.val = win0_1.index (pt i) (0 : Fin 2) * 2048 + k.val; rw [e.1]; omega
  | ⟨1, _⟩ => show 512 * i.val + r.val = win0_1.index (pt i) (1 : Fin 2) * 512 + r.val; rw [e.2]; dsimp only; omega

theorem value (i : Fin 32) (r : Fin 512) (k : Fin 2048) :
    (dats m 0 c).arrAt 2 cfg0.N (ix2 (R i r) k) = arg0 m c (ix2 (R i r) k) + arg1 m c (ix2 k (R i r)) := by
  have e := (index (pt i)).2.2
  have b := congrFun (blocks2 m c (pt i) (flush0_2 (pt i))) (ix2 r k)
  rw [flushed2, left] at b
  have z : ((cfg0.win 2).blk (pt i)).view.emb (ix2 r k) = ix2 (R i r) k := by
    refine place win0_2 rfl (pt i) (ix2 r k) (ix2 (R i r) k) fun a => ?_
    match a with
    | ⟨0, _⟩ => show 512 * i.val + r.val = win0_2.index (pt i) (0 : Fin 2) * 512 + r.val; rw [e.1]; dsimp only; omega
    | ⟨1, _⟩ => show k.val = win0_2.index (pt i) (1 : Fin 2) * 2048 + k.val; rw [e.2]; omega
  have b' : (dats m 0 c).arrAt 2 cfg0.N (((cfg0.win 2).blk (pt i)).view.emb (ix2 r k))
      = k0_pay1 (F := Ideal) (iblk m c 0 (pt i)) (iblk m c 1 (pt i)) (ix2 r k) := b
  rw [z] at b'
  exact b'.trans ((left_apply _ _ r k).trans (congrArg₂ (fun a b : EReal => a + b) (read_x m c i r k) (read_y m c i r k)))

theorem agree : (dats m 0 c).arrAt 2 cfg0.N = val_main_v1 (F := Ideal) (arg0 m c) (arg1 m c) := by
  funext z
  have z0 : (z 0).val < 16384 := (z 0).isLt
  have e : z = ix2 (R ⟨(z 0).val / 512, by omega⟩ ⟨(z 0).val % 512, by omega⟩) (z 1) := by
    funext a; apply Fin.ext
    match a with
    | ⟨0, _⟩ => show (z 0).val = 512 * ((z 0).val / 512) + (z 0).val % 512; omega
    | ⟨1, _⟩ => rfl
  rw [e]
  exact (value m c _ _ _).trans (reference _ _ _ _).symm

end Cert.LastValue

end
-- ==== Proof.RouteTrip.lean ====
/- What the routing kernel's loop leaves in its second result: the second half's scores, key by key for each head. -/
module

public import proofs.«01_k».proof.Proof.Gen.RouteIdeal.Loops
public import Idealize.ShloMosaic.Lib.Pipeline.FrameBody
public import Idealize.ShloMosaic.Lib.Pipeline.Value
public import Idealize.ShloMosaic.Lib.Pipeline.ReadBack
public import Idealize.ShloMosaic.Lib.Pointwise

@[expose] public section

set_option maxRecDepth 16384

noncomputable section

namespace Cert.RouteTrip

open Cert.RouteIdeal Cert.RouteIdeal.Gen Idealize.ShloMosaic Idealize.ShloMosaic.TcCoe Idealize.ShloMosaic.Tactic

variable {F : FTy → Type} [FloatOps F]

/-- The scores of 1024 rows, row `8 n + h` the head `h`'s key `n`, with the head's axis first. -/
def byHead (S : Vec F S1024x512 .f32) : Vec F S8x128x512 .f32 := fun y =>
  S (ix2 (⟨8 * (y 1).val + (y 0).val, by have h0 : (y 0).val < 8 := (y 0).isLt; have h1 : (y 1).val < 128 := (y 1).isLt; omega⟩ : Fin 1024) (y 2 : Fin 512))

/-- One store of the loop: head `h`'s keys over the 128 tokens from `o`, read out of the staged copy of those tokens' scores with stride eight. -/
theorem piece_eq (arg8 : Memref sig .tc .vmem S1024x512 .f32) (X8 : BufTy.Contents (Elt F) arg8.view.ty) (arg9 : Memref sig .tc .vmem S1024x128 .f32)
    (L : List (View.Piece (Elt F) S1024x128 .f32)) (o : ℕ) (o1 : Fin 2 → ℕ) (e1 : o1 = ![0, o]) (o2 : Fin 3 → ℕ) (h : ℕ) (e2 : o2 = ![h, 0, o])
    (inb1 : ∀ a, o1 a + (![1024, 128] : Fin 2 → ℕ) a ≤ S1024x512.size a) (inb2 : ∀ a, o2 a + (![1, 128, 128] : Fin 3 → ℕ) a ≤ S8x128x512.size a)
    (inb0 : ∀ a, (![0, 0] : Fin 2 → ℕ) a + (![1024, 128] : Fin 2 → ℕ) a ≤ S1024x128.size a) (inb3)
    (x : (Rect.unit (s := S8x128x512) o2 ![1, 128, 128] inb2).shape.Idx) :
    shapeCast S1x128x128 (arg9.view.readCov (Val := Elt F) (⟨Rect.unit (s := S1024x128) ![0, 0] ![1024, 128] inb0,
        shapeCast S1024x128 (View.readAt (Elt F) arg8.view (Rect.unit (s := S1024x512) o1 ![1024, 128] inb1).toLoadRect X8) shapeCasts_S1024x128_S1024x128⟩ :: L)
        (⟨![h, 0], ![128, 128], ![8, 1], inb3⟩ : LoadRect S1024x128)) shapeCasts_S128x128_S1x128x128 x
      = byHead (arg8.view.read (Elt F) X8) ((Rect.unit (s := S8x128x512) o2 ![1, 128, 128] inb2).emb x) := by
  subst e1 e2
  rw [View.readCov_eq_canon']
  refine (shapeCast_addUnit_apply ![128, 128] _ _ x).trans ?_
  refine (congrFun (View.canon_cons_unit_zero (S := S1024x128) (off := ![0, 0]) (by funext a; fin_cases a <;> rfl) inb0 _ L) _).trans ?_
  refine (congrFun (shapeCast_self (s := S1024x128) _ _) _).trans ?_
  have x0 : (x 0).val < 1 := (x 0).isLt
  refine congrArg (arg8.view.read (Elt F) X8) (funext fun a => Fin.ext ?_)
  match a with
  | ⟨0, _⟩ => show 0 + 1 * (h + 8 * (x 1).val) = 8 * (0 + 1 * (x 1).val) + (h + 1 * (x 0).val); omega
  | ⟨1, _⟩ => show o + 1 * (0 + 1 * (x 2).val) = o + 1 * (x 2).val; omega

/-- Where such a store reaches. -/
theorem mem_piece (o : ℕ) (o2 : Fin 3 → ℕ) (h : ℕ) (e2 : o2 = ![h, 0, o]) (inb2 : ∀ a, o2 a + (![1, 128, 128] : Fin 3 → ℕ) a ≤ S8x128x512.size a) (y : S8x128x512.Idx)
    (h0 : (y 0).val = h) (h2 : o ≤ (y 2).val) (h2' : (y 2).val < o + 128) : y ∈ (Rect.unit (s := S8x128x512) o2 ![1, 128, 128] inb2).set := by
  subst e2
  have h1 : (y 1).val < 128 := (y 1).isLt
  refine Rect.mem_set_unit.mpr fun a => ?_
  match a with
  | ⟨0, _⟩ => exact ⟨h0.ge, by show (y 0).val < h + 1; omega⟩
  | ⟨1, _⟩ => exact ⟨Nat.zero_le _, by show (y 1).val < 0 + 128; omega⟩
  | ⟨2, _⟩ => exact ⟨h2, h2'⟩

/-- Where the earlier 128 tokens of trip `k` start, -/
theorem off_early : ∀ k : Fin k0_t1_loop.trips, (Scalar.indexCast (Scalar.addi (Scalar.muli (Scf.iv 0#32 1#32 k) 256#32) 0#32)).toNat = 256 * k.val := by decide

/-- and the later. -/
theorem off_late : ∀ k : Fin k0_t1_loop.trips, (Scalar.indexCast (Scalar.addi (Scalar.muli (Scf.iv 0#32 1#32 k) 256#32) 128#32)).toNat = 256 * k.val + 128 := by decide

theorem early (h : ℕ) (k : Fin k0_t1_loop.trips) : (![h, 0, (Scalar.indexCast (Scalar.addi (Scalar.muli (Scf.iv 0#32 1#32 k) 256#32) 0#32)).toNat] : Fin 3 → ℕ) = ![h, 0, 256 * k.val] :=
  congrArg (fun n => ![h, 0, n]) (off_early k)

theorem late (h : ℕ) (k : Fin k0_t1_loop.trips) : (![h, 0, (Scalar.indexCast (Scalar.addi (Scalar.muli (Scf.iv 0#32 1#32 k) 256#32) 128#32)).toNat] : Fin 3 → ℕ) = ![h, 0, 256 * k.val + 128] :=
  congrArg (fun n => ![h, 0, n]) (off_late k)

/-- A place is reached by the store of its head, or else by another of the list. -/
theorem reach (o : ℕ) (o2 : Fin 3 → ℕ) (h : ℕ) (e2 : o2 = ![h, 0, o]) (inb2 : ∀ a, o2 a + (![1, 128, 128] : Fin 3 → ℕ) a ≤ S8x128x512.size a)
    (w : (Rect.unit (s := S8x128x512) o2 ![1, 128, 128] inb2).shape.Idx → Elt F .f32) (L : List (View.Piece (Elt F) S8x128x512 .f32)) (y : S8x128x512.Idx)
    (h2 : o ≤ (y 2).val) (h2' : (y 2).val < o + 128) (hL : (y 0).val ≠ h → ∃ q ∈ L, y ∈ q.1.set) :
    ∃ q ∈ (⟨Rect.unit (s := S8x128x512) o2 ![1, 128, 128] inb2, w⟩ :: L : List (View.Piece (Elt F) S8x128x512 .f32)), y ∈ q.1.set := by
  by_cases h0 : (y 0).val = h
  · exact ⟨_, List.mem_cons_self, mem_piece o o2 h e2 inb2 y h0 h2 h2'⟩
  · obtain ⟨q, hq, hy⟩ := hL h0
    exact ⟨q, List.mem_cons_of_mem _ hq, hy⟩

theorem skip {p : View.Piece (Elt F) S8x128x512 .f32} {L : List (View.Piece (Elt F) S8x128x512 .f32)} {y : S8x128x512.Idx} (h : ∃ q ∈ L, y ∈ q.1.set) : ∃ q ∈ p :: L, y ∈ q.1.set := by
  obtain ⟨q, hq, hy⟩ := h
  exact ⟨q, List.mem_cons_of_mem _ hq, hy⟩

section Loop

variable (𝒱 : Variants) (c : Dev nD) (bd : Option 𝒱.V) (i : grid0.Coords) (arg1 : Memref sig .tc .vmem S2048x512 .bf16) (harg1 : arg1.IsWhole) (arg2 : Memref sig .tc .vmem S2048x2048 .bf16) (harg2 : arg2.IsWhole) (arg3 : Memref sig .tc .vmem S1024x1024 .bf16) (harg3 : arg3.IsWhole) (arg4 : Memref sig .tc .vmem S1024x1024 .bf16) (harg4 : arg4.IsWhole)
  (arg5 : Memref sig .tc .vmem S1024x512 .f32) (harg5 : arg5.IsWhole) (arg6 : Memref sig .tc .vmem S8x128x512 .f32) (harg6 : arg6.IsWhole) (arg7 : Memref sig .tc .vmem S4x8x512 .f32) (harg7 : arg7.IsWhole) (arg8 : Memref sig .tc .vmem S1024x512 .f32) (harg8 : arg8.IsWhole) (arg9 : Memref sig .tc .vmem S1024x128 .f32) (harg9 : arg9.IsWhole)
  (X5 : BufTy.Contents (Elt F) arg5.view.ty) (X8 : BufTy.Contents (Elt F) arg8.view.ty) (k : Fin k0_t1_loop.trips)
  (f6 : BufTy.Contents (Elt F) arg6.view.ty) (f7 : BufTy.Contents (Elt F) arg7.view.ty) (f9 : BufTy.Contents (Elt F) arg9.view.ty)

set_option maxHeartbeats 4000000 in
/-- A trip's sixteen stores are blocks of the scores by head. -/
theorem trip_pieces : View.PiecesOf (byHead (arg8.view.read (Elt F) X8)) ((tripL_k0_t1 (F := F) 𝒱 c bd i arg1 harg1 arg2 harg2 arg3 harg3 arg4 harg4 arg5 harg5 arg6 harg6 arg7 harg7 arg8 harg8 arg9 harg9 X5 X8 k f6 f7 f9).1) := by
  unfold tripL_k0_t1 trip_k0_t1
  dsimp only
  sl_unfold_words
  iterate 8
    refine ⟨fun x => ?_, ?_⟩
    · dsimp only
      refine piece_eq arg8 X8 arg9 _ (256 * k.val + 128) _ ?_ _ _ ?_ _ _ _ _ x
      · exact congrArg (fun n => ![0, n]) (off_late k)
      · exact late _ k
  iterate 8
    refine ⟨fun x => ?_, ?_⟩
    · dsimp only
      refine piece_eq arg8 X8 arg9 _ (256 * k.val) _ ?_ _ _ ?_ _ _ _ _ x
      · exact congrArg (fun n => ![0, n]) (off_early k)
      · exact early _ k
  trivial

set_option maxHeartbeats 4000000 in
/-- A trip's stores reach all 256 of its tokens. -/
theorem trip_cover (y : S8x128x512.Idx) (h : 256 * k.val ≤ (y 2).val) (h' : (y 2).val < 256 * k.val + 256) :
    ∃ p ∈ (tripL_k0_t1 (F := F) 𝒱 c bd i arg1 harg1 arg2 harg2 arg3 harg3 arg4 harg4 arg5 harg5 arg6 harg6 arg7 harg7 arg8 harg8 arg9 harg9 X5 X8 k f6 f7 f9).1, y ∈ p.1.set := by
  have h0 : (y 0).val < 8 := (y 0).isLt
  unfold tripL_k0_t1 trip_k0_t1
  dsimp only
  sl_unfold_words
  by_cases hs : 256 * k.val + 128 ≤ (y 2).val
  · iterate 8 refine reach (256 * k.val + 128) _ _ (late _ k) _ _ _ y hs (by omega) fun _ => ?_
    omega
  · iterate 8 refine skip ?_
    iterate 8 refine reach (256 * k.val) _ _ (early _ k) _ _ _ y h (by omega) fun _ => ?_
    omega

/-- The stores of the first `n` trips are blocks of the scores by head and reach those trips' tokens. -/
theorem trips_blocks : ∀ n : ℕ, n ≤ k0_t1_loop.trips →
    (∀ p ∈ (pb_k0_t1 (F := F) 𝒱 c bd i arg1 harg1 arg2 harg2 arg3 harg3 arg4 harg4 arg5 harg5 arg6 harg6 arg7 harg7 arg8 harg8 arg9 harg9 X5 X8 f6 f7 f9 n).1, ∀ x : p.1.shape.Idx, p.2 x = byHead (arg8.view.read (Elt F) X8) (p.1.emb x))
      ∧ ∀ y : S8x128x512.Idx, (y 2).val < 256 * n → ∃ p ∈ (pb_k0_t1 (F := F) 𝒱 c bd i arg1 harg1 arg2 harg2 arg3 harg3 arg4 harg4 arg5 harg5 arg6 harg6 arg7 harg7 arg8 harg8 arg9 harg9 X5 X8 f6 f7 f9 n).1, y ∈ p.1.set
  | 0, _ => ⟨fun p hp => absurd hp List.not_mem_nil, fun y hy => absurd hy (by omega)⟩
  | n + 1, h => by
    obtain ⟨hb, hc⟩ := trips_blocks n (by omega)
    rw [show pb_k0_t1 (F := F) 𝒱 c bd i arg1 harg1 arg2 harg2 arg3 harg3 arg4 harg4 arg5 harg5 arg6 harg6 arg7 harg7 arg8 harg8 arg9 harg9 X5 X8 f6 f7 f9 (n + 1) = _ from pb_k0_t1_succ (F := F) 𝒱 c bd i arg1 harg1 arg2 harg2 arg3 harg3 arg4 harg4 arg5 harg5 arg6 harg6 arg7 harg7 arg8 harg8 arg9 harg9 X5 X8 f6 f7 f9 ⟨n, h⟩]
    constructor
    · intro p hp
      rcases List.mem_append.mp hp with hp | hp
      · exact (trip_pieces (F := F) 𝒱 c bd i arg1 harg1 arg2 harg2 arg3 harg3 arg4 harg4 arg5 harg5 arg6 harg6 arg7 harg7 arg8 harg8 arg9 harg9 X5 X8 ⟨n, h⟩ _ _ _).mem p hp
      · exact hb p hp
    · intro y hy
      by_cases hn : 256 * n ≤ (y 2).val
      · obtain ⟨p, hp, hy⟩ := trip_cover (F := F) 𝒱 c bd i arg1 harg1 arg2 harg2 arg3 harg3 arg4 harg4 arg5 harg5 arg6 harg6 arg7 harg7 arg8 harg8 arg9 harg9 X5 X8 ⟨n, h⟩ _ _ _ y hn (by show _ < 256 * n + 256; omega)
        exact ⟨p, List.mem_append_left _ hp, hy⟩
      · obtain ⟨p, hp, hy⟩ := hc y (by omega)
        exact ⟨p, List.mem_append_right _ hp, hy⟩

/-- After the loop the second result's block reads the scores by head, whatever it held before. -/
theorem loop_reads :
    arg6.view.read (Elt F) (arg6.view.writes (Elt F) f6 (pb_k0_t1 (F := F) 𝒱 c bd i arg1 harg1 arg2 harg2 arg3 harg3 arg4 harg4 arg5 harg5 arg6 harg6 arg7 harg7 arg8 harg8 arg9 harg9 X5 X8 f6 f7 f9 k0_t1_loop.trips).1) = byHead (arg8.view.read (Elt F) X8) := by
  obtain ⟨hb, hc⟩ := trips_blocks (F := F) 𝒱 c bd i arg1 harg1 arg2 harg2 arg3 harg3 arg4 harg4 arg5 harg5 arg6 harg6 arg7 harg7 arg8 harg8 arg9 harg9 X5 X8 f6 f7 f9 k0_t1_loop.trips le_rfl
  refine funext fun y => View.read_writes_apply_of_pieces arg6.view f6 _ _ hb y (hc y ?_)
  have h2 : (y 2).val < 512 := (y 2).isLt
  have e : k0_t1_loop.trips = 2 := by decide
  rw [e]; omega

end Loop

end Cert.RouteTrip

end
-- ==== Proof.RouteBody.lean ====
/- One point of the routing kernel's grid: its first two results' blocks as functions of the tokens' block and the weights, the third at anything. -/
module

public import proofs.«01_k».proof.Proof.RouteTrip
public import proofs.«01_k».proof.Proof.Gen.RouteIdeal.Frame
public import Idealize.ShloMosaic.Lib.VecWindow

@[expose] public section

set_option maxRecDepth 16384

noncomputable section

namespace Cert.RouteBody

open Cert.RouteTrip Cert.RouteIdeal Cert.RouteIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

set_option maxHeartbeats 4000000 in
/-- The kernel's triple: the inputs come back, the first result is the first half's scores, the second the second half's by head. -/
theorem kernel (c : Dev nD) (E : Set ℕ) (i : grid0.Coords) (arg1 : Memref sig .tc .vmem S2048x512 .bf16) (harg1 : arg1.IsWhole) (arg2 : Memref sig .tc .vmem S2048x2048 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x512 .f32) (harg5 : arg5.IsWhole) (arg6 : Memref sig .tc .vmem S8x128x512 .f32) (harg6 : arg6.IsWhole)
    (arg7 : Memref sig .tc .vmem S4x8x512 .f32) (harg7 : arg7.IsWhole) (arg8 : Memref sig .tc .vmem S1024x512 .f32) (harg8 : arg8.IsWhole) (arg9 : Memref sig .tc .vmem S1024x128 .f32) (harg9 : arg9.IsWhole)
    (x0 : Vec F S2048x512 .bf16) (x1 : Vec F S2048x2048 .bf16) (x2 : Vec F S1024x1024 .bf16) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x1 x0 x2) ∗ owns (c : Thread nD τ) arg6 fullShare (byHead (k0_pay3 x1 x0 x3)) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_peer_route i arg1 harg1 arg2 harg2 arg3 harg3 arg4 harg4 arg5 harg5 arg6 harg6 arg7 harg7 arg8 harg8 arg9 harg9) K := by
  simp only [cc0_peer_route_eq_skeleton]; unfold cc0_peer_route_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full arg5.view _ inb_S1024x512_S1024x512_0_0 _ []).trans ?_
    exact congr (congr (congrArg k0_pay2 (View.readAt_full _ _ _)) (View.readAt_full _ _ _)) (View.readAt_full _ _ _)
  isplitl [H5]
  · iexists _; isplitr
    swap; · iexact H5
    ipureintro
    refine (loop_reads (F := F) _ _ _ _ _ _ _ _ _ _ _ _ _ _ _ _ _ _ _ _ _ _ _ _ _ _ _).trans (congrArg byHead ?_)
    refine (View.read_writes_full arg8.view _ inb_S1024x512_S1024x512_0_0 _ []).trans ?_
    exact congr (congr (congrArg k0_pay3 (View.readAt_full _ _ _)) (View.readAt_full _ _ _)) (View.readAt_full _ _ _)
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

/-- The scratch the region hands a point, as the two memrefs the kernel takes. -/
theorem scratch (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]
  simp only [owns_whole]

variable (m : (ℓ : Loc nD τ sig) → Buf (Elt F) ℓ) (ρ : Dev nD → PrngReg)

/-- What the pipeline proof needs of each window: the inputs stay, the first two results' blocks are the kernel's, the third is forgotten (`fgt`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 1 t) (iblk m c 0 t) (iblk m c 2 t)
    | ⟨5, _⟩ => byHead (k0_pay3 (iblk m c 1 t) (iblk m c 0 t) (iblk m c 3 t))
    | ⟨6, _⟩ => fun _ => Classical.arbitrary _
  Φ _ := Pipeline.ΦA spec0 c
  q _ := fullShare
  owed _ := 0

/-- The third result is the only window whose contents are not told. -/
def fgt (w : Fin cfg0.W) : Bool := match w with
  | ⟨6, _⟩ => true
  | _ => false

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay2 (iblk m c 1 t) (iblk m c 0 t) (iblk m c 2 t) := by dsimp only [dats]
theorem after5 (c : Dev nD) (t : Fin cfg0.N) : (dats m 0 c).after 5 t = byHead (k0_pay3 (iblk m c 1 t) (iblk m c 0 t) (iblk m c 3 t)) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- What a point starts from, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it leaves. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0, after1, after2, after3, after4, after5, scratch]
  iintro ⟨⟨⟨S0, S1⟩, Hg⟩, Ho, ⟨%d0, H0⟩, ⟨%d1, H1⟩, ⟨%d2, H2⟩, ⟨%d3, H3⟩, ⟨%d4, H4⟩, ⟨%d5, H5⟩, H6⟩
  iapply (kernel c Set.univ (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [S0]; · iexact S0
  isplitl [S1]; · iexact S1
  iintro ⟨H0, H1, H2, H3, H4, H5, H6, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row (t : Fin cfg0.N) : defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ fgt := fun t => by
  rw [bigSep_W0, bigSep_W0, row]
  exact triple_restated (body m c t) rfl .rfl fun _ => .rfl

set_option backward.isDefEq.respectTransparency.types false in
/-- Every run of the program ends with the pipeline's arrays as the proof data tells them, and no semaphore counts. -/
theorem run : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := obligation m) (hshare := fun c => (dats m 0 c).share_full fun _ => rfl)
    (howed := fun _ _ => rfl) (V := V m) (hmain := hmain m Variants.none) (hA := A_eq m) (hΦ := fun _ _ => rfl)

/-- The arguments end as they were, -/
theorem kept (r : PUnit × MemSt nD τ sig (Elt F)) (h : Pipeline.RDat.FramePost cfg0 (fun c => (dats m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- so the run leaves the arguments and the semaphores, -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨kept m r h.1, h.2⟩) (run m ρ)

/-- What window `w`'s array holds at the end, when its contents are told. -/
theorem told (r : PUnit × MemSt nD τ sig (Elt F)) (h : Pipeline.RDat.FramePost cfg0 (fun c => (dats m 0 c).toRForget fgt) (V m) r) (c : Dev nD)
    (w : Fin cfg0.W) (hw : fgt w = false) :
    r.2.mem ((cfg0.spec w).arr.view.loc (c.tc : Thread nD τ)) = (dats m 0 c).arrAt w cfg0.N :=
  (Pipeline.Dat.toRForget_arrAt_iff _ hw _ _).mp ((h c).1 w)

/-- and the two results end at what the proof data makes of them. -/
theorem run_blocks : θ_run defs (onTc (τ := τ) (main (F := F))) ⟨m, fun _ => 0, ρ⟩ fun r => ∀ c : Dev nD,
      r.2.mem ((c.tc : Thread nD τ).loc main_v36_0) = (dats m 0 c).arrAt 4 cfg0.N
      ∧ r.2.mem ((c.tc : Thread nD τ).loc main_v36_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨told m r h.1 c 4 rfl, told m r h.1 c 5 rfl, kept m r h.1 c⟩) (run m ρ)

end Cert.RouteBody

end
-- ==== Proof.RouteFrame.lean ====
/- The routing kernel as shipped, at machine words: it runs, and leaves its arguments. -/
module

public import proofs.«01_k».proof.Proof.RouteBody
public import proofs.«01_k».proof.Proof.Gen.Route

/-!
Nothing in this call is rewritten, so the shipped program and its idealized printing are the same
program, and the frame that `RouteBody` proves for any reading of the floats is the shipped one's too.
-/

@[expose] public section

set_option maxRecDepth 100000

namespace Cert.RouteFrame

open Cert.Route Idealize.ShloMosaic

attribute [local instance] Cert.Route.Gen.facts Cert.RouteIdeal.Gen.facts

variable {F : FTy → Type} [FloatOps F]

/-- The two programs call the same kernel body, -/
theorem bodies : Cert.Route.defs₀ (F := F) = Cert.RouteIdeal.defs₀ (F := F) := by
  unfold Cert.Route.defs₀ Cert.RouteIdeal.defs₀
  congr 1
  funext l a
  match l, a with
  | 0, (t, s) => rfl

/-- through the same pipeline, -/
theorem tables : Cert.Route.defs (F := F) = Cert.RouteIdeal.defs (F := F) :=
  congrArg (Pipeline.defs Cert.RouteIdeal.pcfgs) bodies

/-- so the shipped program's run leaves the arguments and the semaphores. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [tables]
  exact Cert.RouteBody.frame m ρ

end Cert.RouteFrame
-- ==== Proof.RouteHost.lean ====
/- The query weights and the key matrices as the routing pipeline reads them. -/
module

public import proofs.«01_k».proof.Proof.RouteBody
public import proofs.«01_k».proof.Proof.Place
public import Idealize.ShloMosaic.Lib.Claim
public import Idealize.ShloMosaic.Lib.Pipeline.Value

@[expose] public section

set_option maxRecDepth 16384

noncomputable section

namespace Cert.RouteHost

open Cert.RouteIdeal Cert.RouteIdeal.Gen
open Idealize.ShloMosaic Idealize.ShloMosaic.TcCoe Idealize.SL.Sem

/-- The column of the query weights at place `d` of half `s` of head `a`. -/
abbrev col (s : Fin 2) (a : Fin 8) (d : Fin 128) : Fin 2048 :=
  ⟨256 * a.val + 128 * s.val + d.val, by have := a.isLt; have := s.isLt; have := d.isLt; omega⟩
/-- The row that the pipeline's weights have for it. -/
abbrev line (s : Fin 2) (a : Fin 8) (d : Fin 128) : Fin 2048 :=
  ⟨1024 * s.val + (128 * a.val + d.val), by have := a.isLt; have := s.isLt; have := d.isLt; omega⟩

/-- The query weights, transposed, both heads' halves together. -/
def queries (w : Vec Ideal S2048x2048 .f32) : FVec Ideal S2048x2048 .bf16 :=
  truncf .bf16 (shapeCast S2048x2048 (transpose S2x8x128x2048 [2, 1, 3, 0] (shapeCast S2048x8x2x128 w shapeCasts_S2048x2048_S2048x8x2x128 : FVec Ideal S2048x8x2x128 .f32)
    transposes_S2048x8x2x128_S2x8x128x2048_2_1_3_0 : FVec Ideal S2x8x128x2048 .f32) shapeCasts_S2x8x128x2048_S2048x2048 : FVec Ideal S2048x2048 .f32) bitsLt_bf16_f32

theorem queries_apply (w : Vec Ideal S2048x2048 .f32) (s : Fin 2) (a : Fin 8) (d : Fin 128) (p : Fin 2048) :
    queries w (ix2 (line s a d) p) = w (ix2 p (col s a d)) := by
  have := a.isLt; have := s.isLt; have := d.isLt; have := p.isLt
  pointwise [queries]
  exact congrArg (fun q => w (ix2 p q)) (Fin.ext (by dsimp only; omega))

/-- One at a pair of equal numbers, zero at any other. -/
def eye : FVec Ideal S8x8 .f32 :=
  uitofp .f32 (cmpi .eq (addi (iotaInDim S8x8 32 0) (broadcastInDim S8x8 ![] bcast_S_S8x8 (constantI S_ 32 0#32) : IVec S8x8 32) : IVec S8x8 32) (iotaInDim S8x8 32 1) : IVec S8x8 1)

theorem eye_apply (a b : Fin 8) : eye (ix2 a b) = if a = b then 1 else 0 := by
  pointwise [eye]
  rw [(by decide : ∀ a b : Fin 8, IntOp.cmpi .eq (IntOp.addi (BitVec.ofNat 32 a.val) 0#32) (BitVec.ofNat 32 b.val) = if a = b then 1#1 else 0#1)]
  split <;> simp [FloatOps.uitofp]

/-- The keys of a half laid on the diagonal of heads. -/
def matrix (k : FVec Ideal S8x128x128 .f32) : FVec Ideal S1024x1024 .bf16 :=
  truncf .bf16 (shapeCast S1024x1024 (mulf
    (broadcastInDim S128x8x8x128 ![0, 1, 2, 3] bcast_S128x8x1x128_S128x8x8x128_0_1_2_3 (broadcastInDim S128x8x1x128 ![0, 1, 3] bcast_S128x8x128_S128x8x1x128_0_1_3
      (transpose S128x8x128 [1, 0, 2] k transposes_S8x128x128_S128x8x128_1_0_2 : FVec Ideal S128x8x128 .f32) : FVec Ideal S128x8x1x128 .f32) : FVec Ideal S128x8x8x128 .f32)
    (broadcastInDim S128x8x8x128 ![0, 1, 2, 3] bcast_S1x8x8x1_S128x8x8x128_0_1_2_3 (broadcastInDim S1x8x8x1 ![1, 2] bcast_S8x8_S1x8x8x1_1_2 eye : FVec Ideal S1x8x8x1 .f32) : FVec Ideal S128x8x8x128 .f32))
    shapeCasts_S128x8x8x128_S1024x1024 : FVec Ideal S1024x1024 .f32) bitsLt_bf16_f32

/-- The row of key `n` of head `a`, -/
abbrev row (a : Fin 8) (n : Fin 128) : Fin 1024 := ⟨8 * n.val + a.val, by have := a.isLt; have := n.isLt; omega⟩
/-- and the column of place `d` of head `b`. -/
abbrev lane (b : Fin 8) (d : Fin 128) : Fin 1024 := ⟨128 * b.val + d.val, by have := b.isLt; have := d.isLt; omega⟩

theorem matrix_apply (k : FVec Ideal S8x128x128 .f32) (a b : Fin 8) (n d : Fin 128) :
    matrix k (ix2 (row a n) (lane b d)) = k (ix3 a n d) * eye (ix2 a b) := by
  have := a.isLt; have := b.isLt; have := d.isLt; have := n.isLt
  unfold matrix
  generalize eye = e
  pointwise
  simp only [(by omega : (8 * n.val + a.val) % 8 = a.val), (by omega : (8 * n.val + a.val) / 8 = n.val), (by omega : (128 * b.val + d.val) % 128 = d.val),
    (by omega : (128 * b.val + d.val) / 128 = b.val)]

/-- The first half's keys, and the second half's. -/
def first (k : Vec Ideal S8x2x128x128 .f32) : FVec Ideal S8x128x128 .f32 :=
  shapeCast S8x128x128 (extractStridedSlice S8x1x128x128 ![0, 0, 0, 0] k slices_S8x2x128x128_S8x1x128x128_0_0_0_0 : FVec Ideal S8x1x128x128 .f32) shapeCasts_S8x1x128x128_S8x128x128
def second (k : Vec Ideal S8x2x128x128 .f32) : FVec Ideal S8x128x128 .f32 :=
  shapeCast S8x128x128 (extractStridedSlice S8x1x128x128 ![0, 1, 0, 0] k slices_S8x2x128x128_S8x1x128x128_0_1_0_0 : FVec Ideal S8x1x128x128 .f32) shapeCasts_S8x1x128x128_S8x128x128

theorem halves (k : Vec Ideal S8x2x128x128 .f32) (a : Fin 8) (n d : Fin 128) :
    first k (ix3 a n d) = k (ix4 a 0 n d) ∧ second k (ix3 a n d) = k (ix4 a 1 n d) := by
  have := a.isLt; have := d.isLt; have := n.isLt
  constructor
  · pointwise [first]
  · pointwise [second]

variable (m : (ℓ : Loc nD τ sig) → Buf (Elt Ideal) ℓ) (c : Dev nD)

abbrev arg0 : Vec Ideal S2048x16384 .bf16 := m ((c : Thread nD τ).loc main_arg0)
abbrev arg1 : Vec Ideal S2048x2048 .f32 := m ((c : Thread nD τ).loc main_arg1)
abbrev arg2 : Vec Ideal S8x2x128x128 .f32 := m ((c : Thread nD τ).loc main_arg2)

theorem weights : V m c main_v3 = queries (arg1 m c) ∧ V m c main_v19 = matrix (first (arg2 m c)) ∧ V m c main_v35 = matrix (second (arg2 m c)) := by
  refine ⟨?_, ?_, ?_⟩ <;>
  (unfold_abbrev_sides
   simp only [hostOps0, List.flatten_cons, List.flatten_nil, List.append_nil, List.cons_append, List.nil_append]
   after_results_simp <;> rfl)

end Cert.RouteHost

end
-- ==== Proof.RouteBlock.lean ====
/- What a block of the routing's two results holds, at an index. -/
module

public import proofs.«01_k».proof.Proof.RouteHost

@[expose] public section

set_option maxRecDepth 16384

noncomputable section

namespace Cert.RouteBlock

open Cert.RouteHost Cert.RouteTrip Cert.RouteIdeal Cert.RouteIdeal.Gen Idealize.ShloMosaic

theorem query_apply (w : Vec Ideal S2048x2048 .bf16) (x : Vec Ideal S2048x512 .bf16) (i : Fin 2048) (j : Fin 512) :
    k0_pay1 (F := Ideal) w x (ix2 i j) = ∑ p : Fin 2048, w (ix2 i p) * x (ix2 p j) := by
  pointwise [k0_pay1]

theorem first_apply (w : Vec Ideal S2048x2048 .bf16) (x : Vec Ideal S2048x512 .bf16) (k : Vec Ideal S1024x1024 .bf16) (r : Fin 1024) (j : Fin 512) :
    k0_pay2 (F := Ideal) w x k (ix2 r j) = ∑ q : Fin 1024, k (ix2 r q) * k0_pay1 (F := Ideal) w x (ix2 ⟨q.val, by have := q.isLt; omega⟩ j) := by
  unfold k0_pay2
  generalize k0_pay1 (F := Ideal) w x = z
  pointwise

theorem second_apply (w : Vec Ideal S2048x2048 .bf16) (x : Vec Ideal S2048x512 .bf16) (k : Vec Ideal S1024x1024 .bf16) (r : Fin 1024) (j : Fin 512) :
    k0_pay3 (F := Ideal) w x k (ix2 r j) = ∑ q : Fin 1024, k (ix2 r q) * k0_pay1 (F := Ideal) w x (ix2 ⟨1024 + q.val, by have := q.isLt; omega⟩ j) := by
  unfold k0_pay3
  generalize k0_pay1 (F := Ideal) w x = z
  pointwise

/-- A sum over the columns of all heads is the sum over the heads of the sums over a head's columns. -/
theorem by_heads (f : Fin 1024 → EReal) : ∑ q, f q = ∑ b : Fin 8, ∑ d : Fin 128, f (lane b d) := by
  rw [← Fintype.sum_prod_type' (f := fun (b : Fin 8) (d : Fin 128) => f (lane b d))]
  refine (Fintype.sum_equiv (finProdFinEquiv (m := 8) (n := 128)) _ _ fun x => congrArg f (Fin.ext ?_)).symm
  show 128 * x.1.val + x.2.val = x.2.val + 128 * x.1.val
  omega

/-- A row of a key matrix meets the columns of its own head only. -/
theorem own_head (k : FVec Ideal S8x128x128 .f32) (a : Fin 8) (n : Fin 128) (z : Fin 1024 → EReal) :
    ∑ q : Fin 1024, matrix k (ix2 (row a n) q) * z q = ∑ d : Fin 128, k (ix3 a n d) * z (lane a d) := by
  rw [by_heads, Finset.sum_eq_single a]
  · exact Finset.sum_congr rfl fun d _ => by rw [matrix_apply, eye_apply, if_pos rfl, mul_one]
  · intro b _ hb
    exact Finset.sum_eq_zero fun d _ => by rw [matrix_apply, eye_apply, if_neg (Ne.symm hb), mul_zero, zero_mul]
  · exact fun h => absurd (Finset.mem_univ a) h

end Cert.RouteBlock

end
-- ==== Proof.RouteReference.lean ====
/- The routing's scores in plain numbers, and the reference's two results at an index. -/
module

public import proofs.«01_k».proof.Proof.RouteHost
public import proofs.«01_k».proof.Proof.Gen.RouteReferenceIdeal.Run
public import proofs.«01_k».proof.Proof.Gen.RouteReferenceIdeal.Read

@[expose] public section

set_option maxRecDepth 16384

noncomputable section

namespace Cert.RouteReference

open Cert.RouteReferenceIdeal Cert.RouteReferenceIdeal.Gen Cert.RouteReferenceIdeal.Read Idealize.ShloMosaic
open Cert.RouteHost (col row)

/-- A query's entry: a column of the query weights against a token. -/
def query (x : Vec Ideal S2048x16384 .bf16) (w : Vec Ideal S2048x2048 .f32) (k : Fin 2048) (t : Fin 16384) : EReal :=
  ∑ p : Fin 2048, x (ix2 p t) * w (ix2 p k)

/-- The score of key `n` of half `s` of head `a` for a token. -/
def score (x : Vec Ideal S2048x16384 .bf16) (w : Vec Ideal S2048x2048 .f32) (k : Vec Ideal S8x2x128x128 .f32) (s : Fin 2) (a : Fin 8) (n : Fin 128) (t : Fin 16384) : EReal :=
  ∑ d : Fin 128, k (ix4 a s n d) * query x w (col s a d) t

variable (x : Vec Ideal S2048x16384 .bf16) (w : Vec Ideal S2048x2048 .f32) (k : Vec Ideal S8x2x128x128 .f32)

theorem product (t : Fin 16384) (i : Fin 2048) : val_main_v2 (F := Ideal) x w (ix2 t i) = query x w i t := by
  unfold query
  pointwise [val_main_v2, val_main_v1, val_main_v0]

theorem split (t : Fin 16384) (a : Fin 8) (s : Fin 2) (d : Fin 128) : val_main_v3 (F := Ideal) x w (ix4 t a s d) = query x w (col s a d) t := by
  have := a.isLt; have := s.isLt; have := d.isLt; have := t.isLt
  rw [← product]
  unfold val_main_v3
  generalize val_main_v2 (F := Ideal) x w = z
  pointwise
  exact congrArg (fun i => z (ix2 t i)) (Fin.ext (by dsimp only; omega))

theorem scores (a : Fin 8) (s : Fin 2) (n : Fin 128) (t : Fin 16384) : val_main_v4 (F := Ideal) x w k (ix4 a s n t) = score x w k s a n t := by
  unfold score
  simp only [← split]
  unfold val_main_v4
  generalize val_main_v3 (F := Ideal) x w = z
  pointwise

theorem first (a : Fin 8) (n : Fin 128) (t : Fin 16384) : val_main_v9 (F := Ideal) x w k (ix2 (row a n) t) = score x w k 0 a n t := by
  have := a.isLt; have := n.isLt; have := t.isLt
  rw [← scores]
  unfold val_main_v9 val_main_v8 val_main_v7 val_main_v6 val_main_v5
  generalize val_main_v4 (F := Ideal) x w k = z
  pointwise
  simp only [(by omega : (8 * n.val + a.val) % 8 = a.val), (by omega : (8 * n.val + a.val) / 8 = n.val)]

theorem second (a : Fin 8) (n : Fin 128) (t : Fin 16384) : val_main_v12 (F := Ideal) x w k (ix3 a n t) = score x w k 1 a n t := by
  have := a.isLt; have := n.isLt; have := t.isLt
  rw [← scores]
  unfold val_main_v12 val_main_v11 val_main_v10 val_main_v5
  generalize val_main_v4 (F := Ideal) x w k = z
  pointwise

end Cert.RouteReference

end
-- ==== Proof.RouteValue.lean ====
/- The routing's two results at an index, in plain numbers. -/
module

public import proofs.«01_k».proof.Proof.RouteBlock
public import proofs.«01_k».proof.Proof.RouteReference

@[expose] public section

set_option maxRecDepth 16384

noncomputable section

namespace Cert.RouteValue

open Cert.Place Cert.RouteHost Cert.RouteBlock Cert.RouteTrip Cert.RouteBody Cert.RouteIdeal Cert.RouteIdeal.Gen
open Cert.RouteReference (query score)
open Idealize.ShloMosaic Idealize.ShloMosaic.TcCoe Idealize.SL.Sem

/-- The block index of every window at every point. -/
theorem index : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val)
    ∧ (win0_5.index t (0 : Fin 3) = 0 ∧ win0_5.index t (1 : Fin 3) = 0 ∧ win0_5.index t (2 : Fin 3) = t.val) :=
  (by decide +kernel : ∀ t : Fin grid0.N, _)

variable (m : (ℓ : Loc nD τ sig) → Buf (Elt Ideal) ℓ) (c : Dev nD)

/-- The grid point of token block `i`. -/
abbrev pt (i : Fin 32) : Fin cfg0.N := ⟨i.val, Nat.lt_of_lt_of_eq i.isLt (by decide)⟩
/-- Token `j` of token block `i`. -/
abbrev T (i : Fin 32) (j : Fin 512) : Fin 16384 := ⟨512 * i.val + j.val, by have := i.isLt; have := j.isLt; omega⟩

theorem read_x (i : Fin 32) (p : Fin 2048) (j : Fin 512) : iblk m c 0 (pt i) (ix2 p j) = arg0 m c (ix2 p (T i j)) := by
  have e := (index (pt i)).1
  refine (congrArg (V m c main_arg0) (place win0_0 rfl (pt i) (ix2 p j) (ix2 p (T i j)) fun a => ?_)).trans (congrFun (V_main_arg0 m c) _)
  match a with
  | ⟨0, _⟩ => show p.val = win0_0.index (pt i) (0 : Fin 2) * 2048 + p.val; rw [e.1]; omega
  | ⟨1, _⟩ => show 512 * i.val + j.val = win0_0.index (pt i) (1 : Fin 2) * 512 + j.val; rw [e.2]; dsimp only; omega

theorem read_w (i : Fin 32) (r p : Fin 2048) : iblk m c 1 (pt i) (ix2 r p) = queries (arg1 m c) (ix2 r p) := by
  have e := (index (pt i)).2.1
  refine (congrArg (V m c main_v3) (place win0_1 rfl (pt i) (ix2 r p) (ix2 r p) fun a => ?_)).trans (congrFun (weights m c).1 _)
  match a with
  | ⟨0, _⟩ => show r.val = win0_1.index (pt i) (0 : Fin 2) * 2048 + r.val; rw [e.1]; omega
  | ⟨1, _⟩ => show p.val = win0_1.index (pt i) (1 : Fin 2) * 2048 + p.val; rw [e.2]; omega

theorem read_k (i : Fin 32) (r q : Fin 1024) : iblk m c 2 (pt i) (ix2 r q) = matrix (first (arg2 m c)) (ix2 r q) := by
  have e := (index (pt i)).2.2.1
  refine (congrArg (V m c main_v19) (place win0_2 rfl (pt i) (ix2 r q) (ix2 r q) fun a => ?_)).trans (congrFun (weights m c).2.1 _)
  match a with
  | ⟨0, _⟩ => show r.val = win0_2.index (pt i) (0 : Fin 2) * 1024 + r.val; rw [e.1]; omega
  | ⟨1, _⟩ => show q.val = win0_2.index (pt i) (1 : Fin 2) * 1024 + q.val; rw [e.2]; omega

theorem read_l (i : Fin 32) (r q : Fin 1024) : iblk m c 3 (pt i) (ix2 r q) = matrix (second (arg2 m c)) (ix2 r q) := by
  have e := (index (pt i)).2.2.2.1
  refine (congrArg (V m c main_v35) (place win0_3 rfl (pt i) (ix2 r q) (ix2 r q) fun a => ?_)).trans (congrFun (weights m c).2.2 _)
  match a with
  | ⟨0, _⟩ => show r.val = win0_3.index (pt i) (0 : Fin 2) * 1024 + r.val; rw [e.1]; omega
  | ⟨1, _⟩ => show q.val = win0_3.index (pt i) (1 : Fin 2) * 1024 + q.val; rw [e.2]; omega

/-- A query's entry in a block. -/
theorem block_query (i : Fin 32) (s : Fin 2) (a : Fin 8) (d : Fin 128) (j : Fin 512) :
    k0_pay1 (F := Ideal) (iblk m c 1 (pt i)) (iblk m c 0 (pt i)) (ix2 (line s a d) j) = query (arg0 m c) (arg1 m c) (col s a d) (T i j) := by
  rw [query_apply]
  exact Finset.sum_congr rfl fun p _ => (congrArg₂ (fun u v : EReal => u * v) ((read_w m c i _ p).trans (queries_apply _ s a d p)) (read_x m c i p j)).trans (mul_comm _ _)

theorem block_first (i : Fin 32) (a : Fin 8) (n : Fin 128) (j : Fin 512) :
    k0_pay2 (F := Ideal) (iblk m c 1 (pt i)) (iblk m c 0 (pt i)) (iblk m c 2 (pt i)) (ix2 (row a n) j)
      = score (arg0 m c) (arg1 m c) (arg2 m c) 0 a n (T i j) := by
  rw [first_apply]
  refine (Finset.sum_congr rfl fun q _ => congrArg (fun u : EReal => u * _) (read_k m c i _ q)).trans ((own_head _ a n _).trans ?_)
  refine Finset.sum_congr rfl fun d _ => congrArg₂ (fun u v : EReal => u * v) (halves _ a n d).1 ?_
  refine Eq.trans (congrArg (fun r => k0_pay1 (F := Ideal) (iblk m c 1 (pt i)) (iblk m c 0 (pt i)) (ix2 r j)) (Fin.ext ?_)) (block_query m c i 0 a d j)
  show 128 * a.val + d.val = 1024 * 0 + (128 * a.val + d.val)
  omega

theorem block_second (i : Fin 32) (a : Fin 8) (n : Fin 128) (j : Fin 512) :
    k0_pay3 (F := Ideal) (iblk m c 1 (pt i)) (iblk m c 0 (pt i)) (iblk m c 3 (pt i)) (ix2 (row a n) j)
      = score (arg0 m c) (arg1 m c) (arg2 m c) 1 a n (T i j) := by
  rw [second_apply]
  refine (Finset.sum_congr rfl fun q _ => congrArg (fun u : EReal => u * _) (read_l m c i _ q)).trans ((own_head _ a n _).trans ?_)
  refine Finset.sum_congr rfl fun d _ => congrArg₂ (fun u v : EReal => u * v) (halves _ a n d).2 ?_
  exact block_query m c i 1 a d j

/-- Two points' blocks of a result share no element. -/
theorem apart : ∀ t t' : Fin cfg0.N, (win0_4.index t = win0_4.index t' → t = t') ∧ (win0_5.index t = win0_5.index t' → t = t') :=
  fun t t' => ⟨fun h => Fin.ext ((index t).2.2.2.2.1.2.symm.trans ((congrFun h (1 : Fin 2)).trans (index t').2.2.2.2.1.2)),
    fun h => Fin.ext ((index t).2.2.2.2.2.2.2.symm.trans ((congrFun h (2 : Fin 3)).trans (index t').2.2.2.2.2.2.2))⟩

theorem value_first (i : Fin 32) (a : Fin 8) (n : Fin 128) (j : Fin 512) :
    (dats m 0 c).arrAt 4 cfg0.N (ix2 (row a n) (T i j)) = score (arg0 m c) (arg1 m c) (arg2 m c) 0 a n (T i j) := by
  have e := (index (pt i)).2.2.2.2.1
  have b := congrFun ((dats m 0 c).read_blk_arrAt_eq_flushed 4 (fun t t' _ _ hne => (cfg0.win 4).disjoint_blk fun h => hne ((apart t t').1 h))
    cfg0.N (pt i) (pt i).isLt (flush0_4 (pt i))) (ix2 (row a n) j)
  have z : ((cfg0.win 4).blk (pt i)).view.emb (ix2 (row a n) j) = ix2 (row a n) (T i j) := by
    refine place win0_4 rfl (pt i) (ix2 (row a n) j) (ix2 (row a n) (T i j)) fun a' => ?_
    match a' with
    | ⟨0, _⟩ => show (row a n).val = win0_4.index (pt i) (0 : Fin 2) * 1024 + (row a n).val; rw [e.1]; omega
    | ⟨1, _⟩ => show 512 * i.val + j.val = win0_4.index (pt i) (1 : Fin 2) * 512 + j.val; rw [e.2]; dsimp only; omega
  have b' : (dats m 0 c).arrAt 4 cfg0.N (((cfg0.win 4).blk (pt i)).view.emb (ix2 (row a n) j))
      = k0_pay2 (F := Ideal) (iblk m c 1 (pt i)) (iblk m c 0 (pt i)) (iblk m c 2 (pt i)) (ix2 (row a n) j) := b
  rw [z] at b'
  exact b'.trans (block_first m c i a n j)

theorem value_second (i : Fin 32) (a : Fin 8) (n : Fin 128) (j : Fin 512) :
    (dats m 0 c).arrAt 5 cfg0.N (ix3 a n (T i j)) = score (arg0 m c) (arg1 m c) (arg2 m c) 1 a n (T i j) := by
  have e := (index (pt i)).2.2.2.2.2
  have b := congrFun ((dats m 0 c).read_blk_arrAt_eq_flushed 5 (fun t t' _ _ hne => (cfg0.win 5).disjoint_blk fun h => hne ((apart t t').2 h))
    cfg0.N (pt i) (pt i).isLt (flush0_5 (pt i))) (ix3 a n j)
  have z : ((cfg0.win 5).blk (pt i)).view.emb (ix3 a n j) = ix3 a n (T i j) := by
    refine place win0_5 rfl (pt i) (ix3 a n j) (ix3 a n (T i j)) fun a' => ?_
    match a' with
    | ⟨0, _⟩ => show a.val = win0_5.index (pt i) (0 : Fin 3) * 8 + a.val; rw [e.1]; omega
    | ⟨1, _⟩ => show n.val = win0_5.index (pt i) (1 : Fin 3) * 128 + n.val; rw [e.2.1]; omega
    | ⟨2, _⟩ => show 512 * i.val + j.val = win0_5.index (pt i) (2 : Fin 3) * 512 + j.val; rw [e.2.2]; dsimp only; omega
  have b' : (dats m 0 c).arrAt 5 cfg0.N (((cfg0.win 5).blk (pt i)).view.emb (ix3 a n j))
      = k0_pay3 (F := Ideal) (iblk m c 1 (pt i)) (iblk m c 0 (pt i)) (iblk m c 3 (pt i)) (ix2 (row a n) j) := b
  rw [z] at b'
  exact b'.trans (block_second m c i a n j)

/-- The first result is the reference's, -/
theorem agree_first : (dats m 0 c).arrAt 4 cfg0.N = Cert.RouteReferenceIdeal.Read.val_main_v9 (F := Ideal) (arg0 m c) (arg1 m c) (arg2 m c) := by
  funext y
  obtain ⟨r, t, rfl⟩ : ∃ (r : Fin 1024) (t : Fin 16384), y = ix2 r t := ⟨y 0, y 1, (ix2_eta y).symm⟩
  obtain ⟨a, n, rfl⟩ : ∃ (a : Fin 8) (n : Fin 128), r = row a n :=
    ⟨⟨r.val % 8, Nat.mod_lt _ (by decide)⟩, ⟨r.val / 8, by have := r.isLt; omega⟩, Fin.ext (by dsimp only; omega)⟩
  obtain ⟨i, j, rfl⟩ : ∃ (i : Fin 32) (j : Fin 512), t = T i j :=
    ⟨⟨t.val / 512, by have := t.isLt; omega⟩, ⟨t.val % 512, Nat.mod_lt _ (by decide)⟩, Fin.ext (by dsimp only; omega)⟩
  exact (value_first m c i a n j).trans (Cert.RouteReference.first _ _ _ a n _).symm

/-- and so is the second. -/
theorem agree_second : (dats m 0 c).arrAt 5 cfg0.N = Cert.RouteReferenceIdeal.Read.val_main_v12 (F := Ideal) (arg0 m c) (arg1 m c) (arg2 m c) := by
  funext y
  obtain ⟨a, n, t, rfl⟩ : ∃ (a : Fin 8) (n : Fin 128) (t : Fin 16384), y = ix3 a n t := ⟨y 0, y 1, y 2, (ix3_eta y).symm⟩
  obtain ⟨i, j, rfl⟩ : ∃ (i : Fin 32) (j : Fin 512), t = T i j :=
    ⟨⟨t.val / 512, by have := t.isLt; omega⟩, ⟨t.val % 512, Nat.mod_lt _ (by decide)⟩, Fin.ext (by dsimp only; omega)⟩
  exact (value_second m c i a n j).trans (Cert.RouteReference.second _ _ _ a n _).symm

end Cert.RouteValue

end
-- ==== Proof.lean ====
module

public import proofs.«01_k».proof.Proof.Gen.Merge.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.OutProj.Frame
public import proofs.«01_k».proof.Proof.Gen.OutProjIdeal.Value
public import proofs.«01_k».proof.Proof.Gen.QkvProj.Frame
public import proofs.«01_k».proof.Proof.Gen.QkvProjIdeal.Value
public import proofs.«01_k».proof.Proof.Gen.LruProj.Frame
public import proofs.«01_k».proof.Proof.Gen.LruProjIdeal.Value
public import proofs.«01_k».proof.Proof.Gen.OutReferenceIdeal.Run
public import proofs.«01_k».proof.Proof.Gen.OutReferenceIdeal.Read
public import proofs.«01_k».proof.Proof.Gen.QkvReferenceIdeal.Run
public import proofs.«01_k».proof.Proof.Gen.QkvReferenceIdeal.Read
public import proofs.«01_k».proof.Proof.Gen.LruReferenceIdeal.Run
public import proofs.«01_k».proof.Proof.Gen.LruReferenceIdeal.Read
public import proofs.«01_k».proof.Proof.Gen.FirstNorm.Frame
public import proofs.«01_k».proof.Proof.Gen.FirstNormIdeal.Value
public import proofs.«01_k».proof.Proof.Gen.NormReferenceIdeal.Run
public import proofs.«01_k».proof.Proof.Gen.NormReferenceIdeal.Read
public import proofs.«01_k».proof.Proof.Gen.MemKv.Frame
public import proofs.«01_k».proof.Proof.Gen.MemKvIdeal.Value
public import proofs.«01_k».proof.Proof.Gen.MemReferenceIdeal.Run
public import proofs.«01_k».proof.Proof.Gen.MemReferenceIdeal.Read
public import proofs.«01_k».proof.Proof.Gen.LastAdd.Frame
public import proofs.«01_k».proof.Proof.Gen.LastAddIdeal.Value
public import proofs.«01_k».proof.Proof.Gen.LastReferenceIdeal.Run
public import proofs.«01_k».proof.Proof.Gen.LastReferenceIdeal.Read
public import proofs.«01_k».proof.Proof.Gen.Route.Loops
public import proofs.«01_k».proof.Proof.Gen.Route.Launch
public import proofs.«01_k».proof.Proof.Gen.Route.Points
public import proofs.«01_k».proof.Proof.Gen.Route.Skeleton
public import proofs.«01_k».proof.Proof.Gen.Route.Frame
public import proofs.«01_k».proof.Proof.Gen.RouteIdeal.Skeleton
public import proofs.«01_k».proof.Proof.Gen.RouteIdeal.Loops
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteReferenceIdeal.Run
public import proofs.«01_k».proof.Proof.Gen.RouteReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.MergeEquation
public import proofs.«01_k».proof.Proof.OutEquation
public import proofs.«01_k».proof.Proof.QkvValue
public import proofs.«01_k».proof.Proof.LruValue
public import proofs.«01_k».proof.Proof.NormValue
public import proofs.«01_k».proof.Proof.MemValue
public import proofs.«01_k».proof.Proof.LastValue
public import proofs.«01_k».proof.Proof.RouteFrame
public import proofs.«01_k».proof.Proof.RouteValue
public import Idealize.ShloMosaic.Adequacy
public import Idealize.ShloMosaic.Init

@[expose] public section

noncomputable section

namespace Cert.Proof

open Idealize.ShloMosaic Idealize.SL.Sem Cert.Kernel

/-- The reference runs and keeps its arguments; it declares no semaphore. -/
theorem frame_r : Cert.quiescent_ReferenceIdeal (hReferenceIdeal := Cert.ReferenceIdeal.Gen.facts) := fun m ρ _ =>
  (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m ρ)

/-- So does the merge's. -/
theorem frame_merge : Cert.quiescent_MergeReferenceIdeal (hMergeReferenceIdeal := Cert.MergeReferenceIdeal.Gen.facts) := fun m ρ _ =>
  (θ_run (Cert.MergeReferenceIdeal.defs (F := Ideal)) _ _).mono (fun r h => ⟨fun c => (h c).2,
      Idealize.ShloMosaic.sem_eq_zero_of_no_sems (by decide) r.2⟩)
    (Cert.MergeReferenceIdeal.Value.run (F := Ideal) m ρ)

/-- So do the three projections'. -/
theorem frame_out : Cert.quiescent_OutReferenceIdeal (hOutReferenceIdeal := Cert.OutReferenceIdeal.Gen.facts) := fun m ρ _ =>
  (θ_run (Cert.OutReferenceIdeal.defs (F := Ideal)) _ _).mono (fun r h => ⟨fun c => (h c).2.2,
      Idealize.ShloMosaic.sem_eq_zero_of_no_sems (by decide) r.2⟩)
    (Cert.OutReferenceIdeal.Value.run (F := Ideal) m ρ)

theorem frame_qkv : Cert.quiescent_QkvReferenceIdeal (hQkvReferenceIdeal := Cert.QkvReferenceIdeal.Gen.facts) := fun m ρ _ =>
  (θ_run (Cert.QkvReferenceIdeal.defs (F := Ideal)) _ _).mono (fun r h => ⟨fun c => (h c).2,
      Idealize.ShloMosaic.sem_eq_zero_of_no_sems (by decide) r.2⟩)
    (Cert.QkvReferenceIdeal.Value.run (F := Ideal) m ρ)

theorem frame_lru : Cert.quiescent_LruReferenceIdeal (hLruReferenceIdeal := Cert.LruReferenceIdeal.Gen.facts) := fun m ρ _ =>
  (θ_run (Cert.LruReferenceIdeal.defs (F := Ideal)) _ _).mono (fun r h => ⟨fun c => (h c).2,
      Idealize.ShloMosaic.sem_eq_zero_of_no_sems (by decide) r.2⟩)
    (Cert.LruReferenceIdeal.Value.run (F := Ideal) m ρ)

/-- So do the references of the first norm, of the memory's keys and values and of the last addition. -/
theorem frame_norm : Cert.quiescent_NormReferenceIdeal (hNormReferenceIdeal := Cert.NormReferenceIdeal.Gen.facts) := fun m ρ _ =>
  (θ_run (Cert.NormReferenceIdeal.defs (F := Ideal)) _ _).mono (fun r h => ⟨fun c => (h c).2,
      Idealize.ShloMosaic.sem_eq_zero_of_no_sems (by decide) r.2⟩)
    (Cert.NormReferenceIdeal.Value.run (F := Ideal) m ρ)

theorem frame_mem : Cert.quiescent_MemReferenceIdeal (hMemReferenceIdeal := Cert.MemReferenceIdeal.Gen.facts) := fun m ρ _ =>
  (θ_run (Cert.MemReferenceIdeal.defs (F := Ideal)) _ _).mono (fun r h => ⟨fun c => (h c).2.2,
      Idealize.ShloMosaic.sem_eq_zero_of_no_sems (by decide) r.2⟩)
    (Cert.MemReferenceIdeal.Value.run (F := Ideal) m ρ)

theorem frame_last : Cert.quiescent_LastReferenceIdeal (hLastReferenceIdeal := Cert.LastReferenceIdeal.Gen.facts) := fun m ρ _ =>
  (θ_run (Cert.LastReferenceIdeal.defs (F := Ideal)) _ _).mono (fun r h => ⟨fun c => (h c).2,
      Idealize.ShloMosaic.sem_eq_zero_of_no_sems (by decide) r.2⟩)
    (Cert.LastReferenceIdeal.Value.run (F := Ideal) m ρ)

theorem frame_route : Cert.quiescent_RouteReferenceIdeal (hRouteReferenceIdeal := Cert.RouteReferenceIdeal.Gen.facts) := fun m ρ _ =>
  (θ_run (Cert.RouteReferenceIdeal.defs (F := Ideal)) _ _).mono (fun r h => ⟨fun c => (h c).2.2,
      Idealize.ShloMosaic.sem_eq_zero_of_no_sems (by decide) r.2⟩)
    (Cert.RouteReferenceIdeal.Value.run (F := Ideal) m ρ)

/-- The merge and its reference end with one array. -/
theorem merge : Cert.algebraic_MergeIdeal_MergeReferenceIdeal_pre_finite_cross_scores (hMergeIdeal := Cert.MergeIdeal.Gen.facts)
    (hMergeReferenceIdeal := Cert.MergeReferenceIdeal.Gen.facts) (hPre_finite_cross_scores := Cert.MergeFinite.facts) := fun m ρ m' ρ' hpre hag =>
  ⟨fun c => Cert.MergeReferenceIdeal.Value.res_main_v56 m' c,
    (θ_run _ _ _).mono (fun _ h c => ⟨(h c).1.trans ((Cert.MergeEquation.agree m c (hpre c)).trans (by
        obtain ⟨h0, h1, h2, h3, h4, h5, h6, h7, h8⟩ := hag c
        show _ = Cert.MergeReferenceIdeal.Value.res_main_v56 m' c
        rw [Cert.MergeReferenceIdeal.Read.val_main_v56_eq, h0, h1, h2, h3, h4, h5, h6, h7, h8])), (h c).2⟩)
      (Cert.MergeIdeal.Value.run_blocks m ρ),
    Cert.MergeReferenceIdeal.Value.run m' ρ'⟩

/-- The output projection and its reference end with the same two arrays. -/
theorem out : Cert.algebraic_OutProjIdeal_OutReferenceIdeal (hOutProjIdeal := Cert.OutProjIdeal.Gen.facts)
    (hOutReferenceIdeal := Cert.OutReferenceIdeal.Gen.facts) := fun m ρ m' ρ' _ hag =>
  ⟨fun c => (Cert.OutProjIdeal.Gen.dats m 0 c).arrAt 4 Cert.OutProjIdeal.cfg0.N, fun c => (Cert.OutProjIdeal.Gen.dats m 0 c).arrAt 5 Cert.OutProjIdeal.cfg0.N,
    Cert.OutProjIdeal.Value.run_blocks m ρ,
    (θ_run _ _ _).mono (fun _ h c => by
        obtain ⟨h0, h1, h2, h3⟩ := hag c
        refine ⟨(h c).1.trans ?_, (h c).2.1.trans ?_, (h c).2.2⟩
        · refine Eq.trans ?_ (Cert.OutEquation.agree_sum m c).symm
          rw [← Cert.OutReferenceIdeal.Read.val_main_v2_eq, h0, h1, h2]
        · refine Eq.trans ?_ (Cert.OutEquation.agree_norm m c).symm
          rw [← Cert.OutReferenceIdeal.Read.val_main_v17_eq, h0, h1, h2, h3])
      (Cert.OutReferenceIdeal.Value.run m' ρ')⟩

/-- The attention's projection and its reference end with one array. -/
theorem qkv : Cert.algebraic_QkvProjIdeal_QkvReferenceIdeal (hQkvProjIdeal := Cert.QkvProjIdeal.Gen.facts)
    (hQkvReferenceIdeal := Cert.QkvReferenceIdeal.Gen.facts) := fun m ρ m' ρ' _ hag =>
  ⟨fun c => (Cert.QkvProjIdeal.Gen.dats m 0 c).arrAt 3 Cert.QkvProjIdeal.cfg0.N,
    Cert.QkvProjIdeal.Value.run_blocks m ρ,
    (θ_run _ _ _).mono (fun _ h c => by
        obtain ⟨h0, h1, h2, h3, h4⟩ := hag c
        refine ⟨(h c).1.trans (Eq.trans ?_ (Cert.QkvValue.agree m c).symm), (h c).2⟩
        rw [Cert.QkvReferenceIdeal.Read.val_main_v54_eq, h0, h1, h2, h3, h4])
      (Cert.QkvReferenceIdeal.Value.run m' ρ')⟩

/-- The recurrent branch's projection and its reference end with one array. -/
theorem lru : Cert.algebraic_LruProjIdeal_LruReferenceIdeal (hLruProjIdeal := Cert.LruProjIdeal.Gen.facts)
    (hLruReferenceIdeal := Cert.LruReferenceIdeal.Gen.facts) := fun m ρ m' ρ' _ hag =>
  ⟨fun c => (Cert.LruProjIdeal.Gen.dats m 0 c).arrAt 3 Cert.LruProjIdeal.cfg0.N,
    Cert.LruProjIdeal.Value.run_blocks m ρ,
    (θ_run _ _ _).mono (fun _ h c => by
        obtain ⟨h0, h1⟩ := hag c
        refine ⟨(h c).1.trans (Eq.trans ?_ (Cert.LruValue.agree m c).symm), (h c).2⟩
        rw [← Cert.LruReferenceIdeal.Read.val_main_v2_eq, h0, h1])
      (Cert.LruReferenceIdeal.Value.run m' ρ')⟩

/-- The first norm and its reference end with one array. -/
theorem norm : Cert.algebraic_FirstNormIdeal_NormReferenceIdeal (hFirstNormIdeal := Cert.FirstNormIdeal.Gen.facts)
    (hNormReferenceIdeal := Cert.NormReferenceIdeal.Gen.facts) := fun m ρ m' ρ' _ hag =>
  ⟨fun c => (Cert.FirstNormIdeal.Gen.dats m 0 c).arrAt 2 Cert.FirstNormIdeal.cfg0.N,
    Cert.FirstNormIdeal.Value.run_blocks m ρ,
    (θ_run _ _ _).mono (fun _ h c => by
        obtain ⟨h0, h1⟩ := hag c
        refine ⟨(h c).1.trans (Eq.trans ?_ (Cert.NormValue.agree m c).symm), (h c).2⟩
        rw [← Cert.NormReferenceIdeal.Read.val_main_v14_eq, h0, h1])
      (Cert.NormReferenceIdeal.Value.run m' ρ')⟩

/-- The memory's keys and values and their reference end with the same two arrays. -/
theorem mem : Cert.algebraic_MemKvIdeal_MemReferenceIdeal (hMemKvIdeal := Cert.MemKvIdeal.Gen.facts)
    (hMemReferenceIdeal := Cert.MemReferenceIdeal.Gen.facts) := fun m ρ m' ρ' _ hag =>
  ⟨fun c => (Cert.MemKvIdeal.Gen.dats m 0 c).arrAt 4 Cert.MemKvIdeal.cfg0.N, fun c => (Cert.MemKvIdeal.Gen.dats m 0 c).arrAt 5 Cert.MemKvIdeal.cfg0.N,
    Cert.MemKvIdeal.Value.run_blocks m ρ,
    (θ_run _ _ _).mono (fun _ h c => by
        obtain ⟨h0, h1, h2, h3⟩ := hag c
        refine ⟨(h c).1.trans ?_, (h c).2.1.trans ?_, (h c).2.2⟩
        · refine Eq.trans ?_ (Cert.MemValue.agree_keys m c).symm
          rw [← Cert.MemReferenceIdeal.Read.val_main_v30_eq, h0, h1, h2, h3]
        · refine Eq.trans ?_ (Cert.MemValue.agree_values m c).symm
          rw [← Cert.MemReferenceIdeal.Read.val_main_v32_eq, h0, h1, h2])
      (Cert.MemReferenceIdeal.Value.run m' ρ')⟩

/-- The last addition and its reference end with one array. -/
theorem last : Cert.algebraic_LastAddIdeal_LastReferenceIdeal (hLastAddIdeal := Cert.LastAddIdeal.Gen.facts)
    (hLastReferenceIdeal := Cert.LastReferenceIdeal.Gen.facts) := fun m ρ m' ρ' _ hag =>
  ⟨fun c => (Cert.LastAddIdeal.Gen.dats m 0 c).arrAt 2 Cert.LastAddIdeal.cfg0.N,
    Cert.LastAddIdeal.Value.run_blocks m ρ,
    (θ_run _ _ _).mono (fun _ h c => by
        obtain ⟨h0, h1⟩ := hag c
        refine ⟨(h c).1.trans (Eq.trans ?_ (Cert.LastValue.agree m c).symm), (h c).2⟩
        rw [← Cert.LastReferenceIdeal.Read.val_main_v1_eq, h0, h1])
      (Cert.LastReferenceIdeal.Value.run m' ρ')⟩

/-- The routing and its reference end with the same two arrays of scores. -/
theorem route : Cert.algebraic_RouteIdeal_RouteReferenceIdeal (hRouteIdeal := Cert.RouteIdeal.Gen.facts)
    (hRouteReferenceIdeal := Cert.RouteReferenceIdeal.Gen.facts) := fun m ρ m' ρ' _ hag =>
  ⟨fun c => (Cert.RouteBody.dats m 0 c).arrAt 4 Cert.RouteIdeal.cfg0.N, fun c => (Cert.RouteBody.dats m 0 c).arrAt 5 Cert.RouteIdeal.cfg0.N,
    Cert.RouteBody.run_blocks m ρ,
    (θ_run _ _ _).mono (fun _ h c => by
        obtain ⟨h0, h1, h2⟩ := hag c
        refine ⟨(h c).1.trans ?_, (h c).2.1.trans ?_, (h c).2.2⟩
        · refine Eq.trans ?_ (Cert.RouteValue.agree_first m c).symm
          rw [← Cert.RouteReferenceIdeal.Read.val_main_v9_eq, h0, h1, h2]
        · refine Eq.trans ?_ (Cert.RouteValue.agree_second m c).symm
          rw [← Cert.RouteReferenceIdeal.Read.val_main_v12_eq, h0, h1, h2])
      (Cert.RouteReferenceIdeal.Value.run m' ρ')⟩

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.OutProj.Gen.facts, Cert.OutProjIdeal.Gen.facts, Cert.OutReferenceIdeal.Gen.facts,
  Cert.QkvProj.Gen.facts, Cert.QkvProjIdeal.Gen.facts, Cert.QkvReferenceIdeal.Gen.facts,
  Cert.LruProj.Gen.facts, Cert.LruProjIdeal.Gen.facts, Cert.LruReferenceIdeal.Gen.facts,
  Cert.FirstNorm.Gen.facts, Cert.FirstNormIdeal.Gen.facts, Cert.NormReferenceIdeal.Gen.facts,
  Cert.MemKv.Gen.facts, Cert.MemKvIdeal.Gen.facts, Cert.MemReferenceIdeal.Gen.facts,
  Cert.LastAdd.Gen.facts, Cert.LastAddIdeal.Gen.facts, Cert.LastReferenceIdeal.Gen.facts,
  Cert.Route.Gen.facts, Cert.RouteIdeal.Gen.facts, Cert.RouteReferenceIdeal.Gen.facts, Cert.Finite.facts, Cert.MergeFinite.facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  fun m ρ _ => Cert.Merge.Gen.frame m ρ,
  fun m ρ _ => Cert.MergeIdeal.Gen.frame m ρ,
  fun m ρ _ => Cert.MergeIdeal.Gen.frame m ρ,
  frame_merge,
  fun m ρ _ => frame_merge m ρ trivial,
  fun m ρ _ => Cert.OutProj.Gen.frame m ρ,
  fun m ρ _ => Cert.OutProjIdeal.Gen.frame m ρ,
  frame_out,
  fun m ρ _ => Cert.QkvProj.Gen.frame m ρ,
  fun m ρ _ => Cert.QkvProjIdeal.Gen.frame m ρ,
  frame_qkv,
  fun m ρ _ => Cert.LruProj.Gen.frame m ρ,
  fun m ρ _ => Cert.LruProjIdeal.Gen.frame m ρ,
  frame_lru,
  fun m ρ _ => Cert.FirstNorm.Gen.frame m ρ,
  fun m ρ _ => Cert.FirstNormIdeal.Gen.frame m ρ,
  frame_norm,
  fun m ρ _ => Cert.MemKv.Gen.frame m ρ,
  fun m ρ _ => Cert.MemKvIdeal.Gen.frame m ρ,
  frame_mem,
  fun m ρ _ => Cert.LastAdd.Gen.frame m ρ,
  fun m ρ _ => Cert.LastAddIdeal.Gen.frame m ρ,
  frame_last,
  fun m ρ _ => Cert.RouteFrame.frame m ρ,
  fun m ρ _ => Cert.RouteBody.frame m ρ,
  frame_route,
  trivial,
  fun m ρ m' ρ' hpre hag => ⟨fun c => Cert.ReferenceIdeal.Value.res_main_v77 m' c,
    (θ_run _ _ _).mono (fun _ h c => ⟨(h c).1.trans ((Cert.Equation.agree m c (hpre c)).trans
      ((congrArg₂ (Cert.ReferenceIdeal.Read.val_main_v77 (F := Ideal)) (hag c).1.symm (hag c).2.symm).trans
        (Cert.ReferenceIdeal.Read.val_main_v77_eq m' c).symm)), (h c).2⟩)
      (Cert.KernelIdeal.Value.run_blocks m ρ),
    Cert.ReferenceIdeal.Value.run m' ρ'⟩,
  IdealRules.named_const.statement Cert.MergeIdeal.κ "inv_sqrt_d" .f32 0x3DB504F3#32 (((Real.sqrt 128)⁻¹ : ℝ) : EReal) rfl,
  merge,
  trivial, out,
  trivial, qkv,
  trivial, lru,
  trivial, norm,
  trivial, mem,
  trivial, last,
  trivial, route⟩

end Cert.Proof

end
